-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "delta" .f32 0x3E7F850B#32 ((133 / 533 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_v182) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x400x256 : Shape := ⟨3, ![1, 400, 256]⟩
abbrev S1x1600x256 : Shape := ⟨3, ![1, 1600, 256]⟩
abbrev S1x6400x128 : Shape := ⟨3, ![1, 6400, 128]⟩
abbrev S1x100x256 : Shape := ⟨3, ![1, 100, 256]⟩
abbrev S400x256 : Shape := ⟨2, ![400, 256]⟩
abbrev S100x256 : Shape := ⟨2, ![100, 256]⟩
abbrev S_ : Shape := ⟨0, ![]⟩
abbrev S128x256 : Shape := ⟨2, ![128, 256]⟩
abbrev S1x1x1600x1600 : Shape := ⟨4, ![1, 1, 1600, 1600]⟩
abbrev S1x1x160x1600 : Shape := ⟨4, ![1, 1, 160, 1600]⟩
abbrev S400x1600 : Shape := ⟨2, ![400, 1600]⟩
abbrev S400x400 : Shape := ⟨2, ![400, 400]⟩
abbrev S56x160 : Shape := ⟨2, ![56, 160]⟩
abbrev S400x56 : Shape := ⟨2, ![400, 56]⟩
abbrev S400x160 : Shape := ⟨2, ![400, 160]⟩
abbrev S400 : Shape := ⟨1, ![400]⟩
abbrev S400x1 : Shape := ⟨2, ![400, 1]⟩
abbrev S1x400 : Shape := ⟨2, ![1, 400]⟩
abbrev S128x400 : Shape := ⟨2, ![128, 400]⟩
abbrev S256x256 : Shape := ⟨2, ![256, 256]⟩
abbrev S400x255 : Shape := ⟨2, ![400, 255]⟩
abbrev S160x56 : Shape := ⟨2, ![160, 56]⟩
abbrev S56x1600 : Shape := ⟨2, ![56, 1600]⟩
abbrev S160x1600 : Shape := ⟨2, ![160, 1600]⟩
abbrev S100x1x256 : Shape := ⟨3, ![100, 1, 256]⟩

abbrev nBuf : Space → Nat
  | .hbm => 21
  | .vmem => 11
  | .smem => 0
  | _ => 0

abbrev bufTy : (tb : Table) → Fin (tcTables nBuf tb) → BufTy
  | .hbm, ⟨0, _⟩ => ⟨S1x400x256, .f32⟩
  | .hbm, ⟨1, _⟩ => ⟨S1x400x256, .f32⟩
  | .hbm, ⟨2, _⟩ => ⟨S1x1600x256, .f32⟩
  | .hbm, ⟨3, _⟩ => ⟨S1x1600x256, .f32⟩
  | .hbm, ⟨4, _⟩ => ⟨S1x6400x128, .f32⟩
  | .hbm, ⟨5, _⟩ => ⟨S1x6400x128, .f32⟩
  | .hbm, ⟨6, _⟩ => ⟨S1x400x256, .f32⟩
  | .hbm, ⟨7, _⟩ => ⟨S1x100x256, .f32⟩
  | .hbm, ⟨8, _⟩ => ⟨S1x1600x256, .f32⟩
  | .hbm, ⟨9, _⟩ => ⟨S400x256, .f32⟩
  | .hbm, ⟨10, _⟩ => ⟨S400x256, .f32⟩
  | .hbm, ⟨11, _⟩ => ⟨S100x256, .f32⟩
  | .hbm, ⟨12, _⟩ => ⟨S_, .i32⟩
  | .hbm, ⟨13, _⟩ => ⟨S_, .f32⟩
  | .hbm, ⟨14, _⟩ => ⟨S128x256, .f32⟩
  | .hbm, ⟨15, _⟩ => ⟨S1x1x1600x1600, .f32⟩
  | .hbm, ⟨16, _⟩ => ⟨S1x400x256, .f32⟩
  | .hbm, ⟨17, _⟩ => ⟨S1x400x256, .f32⟩
  | .hbm, ⟨18, _⟩ => ⟨S128x256, .f32⟩
  | .hbm, ⟨19, _⟩ => ⟨S100x256, .f32⟩
  | .hbm, ⟨20, _⟩ => ⟨S100x1x256, .f32⟩
  | .local _ .vmem, ⟨0, _⟩ => ⟨S400x256, .f32⟩
  | .local _ .vmem, ⟨1, _⟩ => ⟨S400x256, .f32⟩
  | .local _ .vmem, ⟨2, _⟩ => ⟨S128x256, .f32⟩
  | .local _ .vmem, ⟨3, _⟩ => ⟨S1x1x160x1600, .f32⟩
  | .local _ .vmem, ⟨4, _⟩ => ⟨S1x1x160x1600, .f32⟩
  | .local _ .vmem, ⟨5, _⟩ => ⟨S1x400x256, .f32⟩
  | .local _ .vmem, ⟨6, _⟩ => ⟨S1x400x256, .f32⟩
  | .local _ .vmem, ⟨7, _⟩ => ⟨S128x256, .f32⟩
  | .local _ .vmem, ⟨8, _⟩ => ⟨S400x1600, .f32⟩
  | .local _ .vmem, ⟨9, _⟩ => ⟨S400x400, .f32⟩
  | .local _ .vmem, ⟨10, _⟩ => ⟨S400x400, .f32⟩
  | _, _ => ⟨S1x400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let c160_i32 : BitVec 32 := 160#32
  let arg0 : BitVec 32 := BitVec.ofNat 32 (i 0).val
  let v6 : BitVec 32 := Scalar.muli c160_i32 arg0
  let c399_i32 : BitVec 32 := 399#32
  let v7 : BitVec 32 := Scalar.muli v6 c399_i32
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c1599_i32 : BitVec 32 := 1599#32
  let c0_i32_4 : BitVec 32 := 0#32
  let v14 : BitVec 1 := Scalar.cmpi .sgt c1599_i32 c0_i32_4
  let v15 : BitVec 32 := Scalar.extui v14
  let c0_i32_5 : BitVec 32 := 0#32
  let v16 : BitVec 1 := Scalar.cmpi .slt c1599_i32 c0_i32_5
  let v17 : BitVec 32 := Scalar.extui v16
  let v18 : BitVec 32 := Scalar.subi v15 v17
  let v19 : BitVec 1 := Scalar.cmpi .ne v13 v18
  let v20 : BitVec 32 := Scalar.remsi v7 c1599_i32
  let c0_i32_6 : BitVec 32 := 0#32
  let v21 : BitVec 1 := Scalar.cmpi .ne v20 c0_i32_6
  let v22 : BitVec 1 := Scalar.andi v19 v21
  let v8 : BitVec 32 := Scalar.divsi v7 c1599_i32
  let c1_i32_7 : BitVec 32 := 1#32
  let v23 : BitVec 32 := Scalar.subi v8 c1_i32_7
  let v24 : BitVec 32 := Scalar.select v22 v23 v8
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c8_i32 : BitVec 32 := 8#32
  let c0_i32_10 : BitVec 32 := 0#32
  let v31 : BitVec 1 := Scalar.cmpi .sgt c8_i32 c0_i32_10
  let v32 : BitVec 32 := Scalar.extui v31
  let c0_i32_11 : BitVec 32 := 0#32
  let v33 : BitVec 1 := Scalar.cmpi .slt c8_i32 c0_i32_11
  let v34 : BitVec 32 := Scalar.extui v33
  let v35 : BitVec 32 := Scalar.subi v32 v34
  let v36 : BitVec 1 := Scalar.cmpi .ne v30 v35
  let v37 : BitVec 32 := Scalar.remsi v24 c8_i32
  let c0_i32_12 : BitVec 32 := 0#32
  let v38 : BitVec 1 := Scalar.cmpi .ne v37 c0_i32_12
  let v39 : BitVec 1 := Scalar.andi v36 v38
  let v25 : BitVec 32 := Scalar.divsi v24 c8_i32
  let c1_i32_13 : BitVec 32 := 1#32
  let v40 : BitVec 32 := Scalar.subi v25 c1_i32_13
  let v41 : BitVec 32 := Scalar.select v39 v40 v25
  let c8_i32_14 : BitVec 32 := 8#32
  let v42 : BitVec 32 := Scalar.muli v41 c8_i32_14
  let c344_i32 : BitVec 32 := 344#32
  let v43 : BitVec 32 := Scalar.minsi v42 c344_i32
  let v70 : Index := Scalar.indexCast v43
  let c0 : Index := 0#32
  ![v70.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S400x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S400x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x160x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x400x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x400x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "delta" => some ((133 / 533 : ℝ) : EReal)
  | _ => none
-- ==== ReferenceIdeal.lean ====
abbrev S1x400x256 : Shape := ⟨3, ![1, 400, 256]⟩
abbrev S1x1600x256 : Shape := ⟨3, ![1, 1600, 256]⟩
abbrev S1x6400x128 : Shape := ⟨3, ![1, 6400, 128]⟩
abbrev S1x100x256 : Shape := ⟨3, ![1, 100, 256]⟩
abbrev S1x400x400 : Shape := ⟨3, ![1, 400, 400]⟩
abbrev S_ : Shape := ⟨0, ![]⟩
abbrev S1x1x400x400 : Shape := ⟨4, ![1, 1, 400, 400]⟩
abbrev S1599 : Shape := ⟨1, ![1599]⟩
abbrev S1 : Shape := ⟨1, ![1]⟩
abbrev S1600 : Shape := ⟨1, ![1600]⟩
abbrev S1x1x1600x1 : Shape := ⟨4, ![1, 1, 1600, 1]⟩
abbrev S1x1x1x1600 : Shape := ⟨4, ![1, 1, 1, 1600]⟩
abbrev S1600x1 : Shape := ⟨2, ![1600, 1]⟩
abbrev S1x1x1600x400 : Shape := ⟨4, ![1, 1, 1600, 400]⟩
abbrev S1x1x1600x1600 : Shape := ⟨4, ![1, 1, 1600, 1600]⟩
abbrev S1x400 : Shape := ⟨2, ![1, 400]⟩
abbrev S1x1x400 : Shape := ⟨3, ![1, 1, 400]⟩
abbrev S1x400x1 : Shape := ⟨3, ![1, 400, 1]⟩
abbrev S400 : Shape := ⟨1, ![400]⟩
abbrev S400x1 : Shape := ⟨2, ![400, 1]⟩
abbrev S1x1 : Shape := ⟨2, ![1, 1]⟩
abbrev S1x20x20x256 : Shape := ⟨4, ![1, 20, 20, 256]⟩
abbrev S1x256x20x20 : Shape := ⟨4, ![1, 256, 20, 20]⟩
abbrev S1x256x10x2x10x2 : Shape := ⟨6, ![1, 256, 10, 2, 10, 2]⟩
abbrev S1x256x10x10 : Shape := ⟨4, ![1, 256, 10, 10]⟩
abbrev S1x10x10x256 : Shape := ⟨4, ![1, 10, 10, 256]⟩
abbrev S1x100x512 : Shape := ⟨3, ![1, 100, 512]⟩
abbrev S257x256 : Shape := ⟨2, ![257, 256]⟩
abbrev S512x256 : Shape := ⟨2, ![512, 256]⟩
abbrev S1x400x257 : Shape := ⟨3, ![1, 400, 257]⟩
abbrev S1x100x1x256 : Shape := ⟨4, ![1, 100, 1, 256]⟩
abbrev S100x1x256 : Shape := ⟨3, ![100, 1, 256]⟩

abbrev nBuf : Space → Nat
  | .hbm => 378
  | .vmem => 0
  | .smem => 0
  | _ => 0

abbrev hbmTy0_0 (i : Nat) : BufTy := match i % 128 with
  | 0 => ⟨S1x400x256, .f32⟩
  | 1 => ⟨S1x400x256, .f32⟩
  | 2 => ⟨S1x1600x256, .f32⟩
  | 3 => ⟨S1x1600x256, .f32⟩
  | 4 => ⟨S1x6400x128, .f32⟩
  | 5 => ⟨S1x6400x128, .f32⟩
  | 6 => ⟨S1x400x256, .f32⟩
  | 7 => ⟨S1x100x256, .f32⟩
  | 8 => ⟨S1x1600x256, .f32⟩
  | 9 => ⟨S1x400x400, .f32⟩
  | 10 => ⟨S_, .f32⟩
  | 11 => ⟨S1x400x400, .f32⟩
  | 12 => ⟨S1x400x400, .f32⟩
  | 13 => ⟨S1x1x400x400, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1599, .f32⟩
  | 22 => ⟨S_, .f32⟩
  | 23 => ⟨S1599, .f32⟩
  | 24 => ⟨S1599, .f32⟩
  | 25 => ⟨S1, .f32⟩
  | 26 => ⟨S_, .f32⟩
  | 27 => ⟨S1599, .f32⟩
  | 28 => ⟨S1599, .f32⟩
  | 29 => ⟨S1599, .f32⟩
  | 30 => ⟨S1599, .f32⟩
  | 31 => ⟨S1, .f32⟩
  | 32 => ⟨S1599, .f32⟩
  | 33 => ⟨S1599, .f32⟩
  | 34 => ⟨S1599, .f32⟩
  | 35 => ⟨S1, .f32⟩
  | 36 => ⟨S1600, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1599, .f32⟩
  | 45 => ⟨S_, .f32⟩
  | 46 => ⟨S1599, .f32⟩
  | 47 => ⟨S1599, .f32⟩
  | 48 => ⟨S1, .f32⟩
  | 49 => ⟨S_, .f32⟩
  | 50 => ⟨S1599, .f32⟩
  | 51 => ⟨S1599, .f32⟩
  | 52 => ⟨S1599, .f32⟩
  | 53 => ⟨S1599, .f32⟩
  | 54 => ⟨S1, .f32⟩
  | 55 => ⟨S1599, .f32⟩
  | 56 => ⟨S1599, .f32⟩
  | 57 => ⟨S1599, .f32⟩
  | 58 => ⟨S1, .f32⟩
  | 59 => ⟨S1600, .f32⟩
  | 60 => ⟨S1600, .f32⟩
  | 61 => ⟨S1600, .i32⟩
  | 62 => ⟨S1600, .f32⟩
  | 63 => ⟨S1600, .i32⟩
  | 64 => ⟨S_, .i32⟩
  | 65 => ⟨S1600, .i32⟩
  | 66 => ⟨S1600, .i32⟩
  | 67 => ⟨S_, .i32⟩
  | 68 => ⟨S1600, .i32⟩
  | 69 => ⟨S1600, .i32⟩
  | 70 => ⟨S_, .i32⟩
  | 71 => ⟨S1600, .i32⟩
  | 72 => ⟨S1600, .i32⟩
  | 73 => ⟨S_, .i32⟩
  | 74 => ⟨S1600, .i32⟩
  | 75 => ⟨S1600, .i32⟩
  | 76 => ⟨S1600, .f32⟩
  | 77 => ⟨S1600, .f32⟩
  | 78 => ⟨S1x1x1600x1, .f32⟩
  | 79 => ⟨S1600, .f32⟩
  | 80 => ⟨S1600, .f32⟩
  | 81 => ⟨S1x1x1x1600, .f32⟩
  | 82 => ⟨S_, .i32⟩
  | 83 => ⟨S1600, .i32⟩
  | 84 => ⟨S1600, .i1⟩
  | 85 => ⟨S_, .i32⟩
  | 86 => ⟨S1600, .i32⟩
  | 87 => ⟨S1600, .i32⟩
  | 88 => ⟨S1600, .i32⟩
  | 89 => ⟨S1600x1, .i32⟩
  | 90 => ⟨S1x1x1600x400, .f32⟩
  | 91 => ⟨S_, .i32⟩
  | 92 => ⟨S1600, .i32⟩
  | 93 => ⟨S1600, .i1⟩
  | 94 => ⟨S_, .i32⟩
  | 95 => ⟨S1600, .i32⟩
  | 96 => ⟨S1600, .i32⟩
  | 97 => ⟨S1600, .i32⟩
  | 98 => ⟨S1600x1, .i32⟩
  | 99 => ⟨S1x1x1600x400, .f32⟩
  | 100 => ⟨S_, .i32⟩
  | 101 => ⟨S1600, .i32⟩
  | 102 => ⟨S1600, .i1⟩
  | 103 => ⟨S_, .i32⟩
  | 104 => ⟨S1600, .i32⟩
  | 105 => ⟨S1600, .i32⟩
  | 106 => ⟨S1600, .i32⟩
  | 107 => ⟨S1600x1, .i32⟩
  | 108 => ⟨S1x1x1600x1600, .f32⟩
  | 109 => ⟨S_, .i32⟩
  | 110 => ⟨S1600, .i32⟩
  | 111 => ⟨S1600, .i1⟩
  | 112 => ⟨S_, .i32⟩
  | 113 => ⟨S1600, .i32⟩
  | 114 => ⟨S1600, .i32⟩
  | 115 => ⟨S1600, .i32⟩
  | 116 => ⟨S1600x1, .i32⟩
  | 117 => ⟨S1x1x1600x1600, .f32⟩
  | 118 => ⟨S_, .i32⟩
  | 119 => ⟨S1600, .i32⟩
  | 120 => ⟨S1600, .i1⟩
  | 121 => ⟨S_, .i32⟩
  | 122 => ⟨S1600, .i32⟩
  | 123 => ⟨S1600, .i32⟩
  | 124 => ⟨S1600, .i32⟩
  | 125 => ⟨S1600x1, .i32⟩
  | 126 => ⟨S1x1x1600x1600, .f32⟩
  | 127 => ⟨S_, .i32⟩
  | _ => ⟨S1x400x256, .f32⟩

abbrev hbmTy0_1 (i : Nat) : BufTy := match i % 128 with
  | 0 => ⟨S1600, .i32⟩
  | 1 => ⟨S1600, .i1⟩
  | 2 => ⟨S_, .i32⟩
  | 3 => ⟨S1600, .i32⟩
  | 4 => ⟨S1600, .i32⟩
  | 5 => ⟨S1600, .i32⟩
  | 6 => ⟨S1600x1, .i32⟩
  | 7 => ⟨S1x1x1600x1600, .f32⟩
  | 8 => ⟨S_, .f32⟩
  | 9 => ⟨S1x1x1600x1, .f32⟩
  | 10 => ⟨S1x1x1600x1, .f32⟩
  | 11 => ⟨S1x1x1600x1600, .f32⟩
  | 12 => ⟨S1x1x1600x1600, .f32⟩
  | 13 => ⟨S_, .f32⟩
  | 14 => ⟨S1x1x1x1600, .f32⟩
  | 15 => ⟨S1x1x1x1600, .f32⟩
  | 16 => ⟨S1x1x1600x1600, .f32⟩
  | 17 => ⟨S1x1x1600x1600, .f32⟩
  | 18 => ⟨S_, .f32⟩
  | 19 => ⟨S1x1x1600x1, .f32⟩
  | 20 => ⟨S1x1x1600x1, .f32⟩
  | 21 => ⟨S1x1x1600x1600, .f32⟩
  | 22 => ⟨S1x1x1600x1600, .f32⟩
  | 23 => ⟨S1x1x1600x1600, .f32⟩
  | 24 => ⟨S1x1x1600x1600, .f32⟩
  | 25 => ⟨S1x1x1600x1600, .f32⟩
  | 26 => ⟨S1x1x1600x1600, .f32⟩
  | 27 => ⟨S1x1x1600x1600, .f32⟩
  | 28 => ⟨S_, .f32⟩
  | 29 => ⟨S1x1x1x1600, .f32⟩
  | 30 => ⟨S1x1x1x1600, .f32⟩
  | 31 => ⟨S1x1x1600x1600, .f32⟩
  | 32 => ⟨S1x1x1600x1600, .f32⟩
  | 33 => ⟨S1x1x1600x1600, .f32⟩
  | 34 => ⟨S1x1x1600x1600, .f32⟩
  | 35 => ⟨S1x1x1600x1600, .f32⟩
  | 36 => ⟨S1x1x1600x1600, .f32⟩
  | 37 => ⟨S1x1x1600x1600, .f32⟩
  | 38 => ⟨S1x1x1600x1600, .f32⟩
  | 39 => ⟨S_, .f32⟩
  | 40 => ⟨S1x400, .f32⟩
  | 41 => ⟨S_, .f32⟩
  | 42 => ⟨S1x400, .f32⟩
  | 43 => ⟨S1x400, .f32⟩
  | 44 => ⟨S1x1x400, .f32⟩
  | 45 => ⟨S1x400x400, .f32⟩
  | 46 => ⟨S1x400x400, .f32⟩
  | 47 => ⟨S1x400x400, .f32⟩
  | 48 => ⟨S_, .f32⟩
  | 49 => ⟨S1x400, .f32⟩
  | 50 => ⟨S1x1x400, .f32⟩
  | 51 => ⟨S1x400x400, .f32⟩
  | 52 => ⟨S1x400x400, .f32⟩
  | 53 => ⟨S_, .f32⟩
  | 54 => ⟨S1x400, .f32⟩
  | 55 => ⟨S_, .f32⟩
  | 56 => ⟨S1x400, .f32⟩
  | 57 => ⟨S1x400, .f32⟩
  | 58 => ⟨S1x400x1, .f32⟩
  | 59 => ⟨S1x400x400, .f32⟩
  | 60 => ⟨S1x400x400, .f32⟩
  | 61 => ⟨S1x400x400, .f32⟩
  | 62 => ⟨S_, .f32⟩
  | 63 => ⟨S1x400, .f32⟩
  | 64 => ⟨S1x400x1, .f32⟩
  | 65 => ⟨S1x400x400, .f32⟩
  | 66 => ⟨S1x400x400, .f32⟩
  | 67 => ⟨S1x400x400, .f32⟩
  | 68 => ⟨S1x400x400, .i32⟩
  | 69 => ⟨S_, .f32⟩
  | 70 => ⟨S_, .i32⟩
  | 71 => ⟨S1x400, .f32⟩
  | 72 => ⟨S1x400, .i32⟩
  | 73 => ⟨S1x400x400, .i32⟩
  | 74 => ⟨S_, .f32⟩
  | 75 => ⟨S_, .i32⟩
  | 76 => ⟨S1x400, .f32⟩
  | 77 => ⟨S1x400, .i32⟩
  | 78 => ⟨S400, .i32⟩
  | 79 => ⟨S_, .i32⟩
  | 80 => ⟨S400, .i32⟩
  | 81 => ⟨S400, .i1⟩
  | 82 => ⟨S_, .i32⟩
  | 83 => ⟨S400, .i32⟩
  | 84 => ⟨S400, .i32⟩
  | 85 => ⟨S400, .i32⟩
  | 86 => ⟨S400x1, .i32⟩
  | 87 => ⟨S1, .i32⟩
  | 88 => ⟨S_, .i32⟩
  | 89 => ⟨S400x1, .i32⟩
  | 90 => ⟨S400x1, .i1⟩
  | 91 => ⟨S1x1, .i32⟩
  | 92 => ⟨S400x1, .i32⟩
  | 93 => ⟨S400x1, .i1⟩
  | 94 => ⟨S400x1, .i1⟩
  | 95 => ⟨S_, .i1⟩
  | 96 => ⟨S400, .i1⟩
  | 97 => ⟨S1x400x256, .f32⟩
  | 98 => ⟨S1x400x256, .i1⟩
  | 99 => ⟨S_, .f32⟩
  | 100 => ⟨S1x400x256, .f32⟩
  | 101 => ⟨S1x400x256, .f32⟩
  | 102 => ⟨S1x400x256, .f32⟩
  | 103 => ⟨S_, .f32⟩
  | 104 => ⟨S1x400x256, .f32⟩
  | 105 => ⟨S1x400x256, .f32⟩
  | 106 => ⟨S1x20x20x256, .f32⟩
  | 107 => ⟨S1x256x20x20, .f32⟩
  | 108 => ⟨S1x256x10x2x10x2, .f32⟩
  | 109 => ⟨S_, .f32⟩
  | 110 => ⟨S1x256x10x10, .f32⟩
  | 111 => ⟨S_, .f32⟩
  | 112 => ⟨S1x256x10x10, .f32⟩
  | 113 => ⟨S1x256x10x10, .f32⟩
  | 114 => ⟨S1x10x10x256, .f32⟩
  | 115 => ⟨S1x100x256, .f32⟩
  | 116 => ⟨S1x100x512, .f32⟩
  | 117 => ⟨S257x256, .i32⟩
  | 118 => ⟨S257x256, .i32⟩
  | 119 => ⟨S_, .i32⟩
  | 120 => ⟨S257x256, .i32⟩
  | 121 => ⟨S257x256, .i32⟩
  | 122 => ⟨S_, .i32⟩
  | 123 => ⟨S_, .i32⟩
  | 124 => ⟨S257x256, .i32⟩
  | 125 => ⟨S257x256, .i32⟩
  | 126 => ⟨S257x256, .i32⟩
  | 127 => ⟨S_, .i32⟩
  | _ => ⟨S1x400x256, .f32⟩

abbrev hbmTy0_2 (i : Nat) : BufTy := match i % 128 with
  | 0 => ⟨S257x256, .i32⟩
  | 1 => ⟨S257x256, .i1⟩
  | 2 => ⟨S257x256, .i32⟩
  | 3 => ⟨S257x256, .i32⟩
  | 4 => ⟨S_, .i32⟩
  | 5 => ⟨S257x256, .i32⟩
  | 6 => ⟨S257x256, .i1⟩
  | 7 => ⟨S257x256, .i1⟩
  | 8 => ⟨S_, .i32⟩
  | 9 => ⟨S257x256, .i32⟩
  | 10 => ⟨S257x256, .i32⟩
  | 11 => ⟨S257x256, .i32⟩
  | 12 => ⟨S_, .i32⟩
  | 13 => ⟨S257x256, .i32⟩
  | 14 => ⟨S257x256, .i32⟩
  | 15 => ⟨S257x256, .i32⟩
  | 16 => ⟨S_, .i32⟩
  | 17 => ⟨S257x256, .i32⟩
  | 18 => ⟨S257x256, .i32⟩
  | 19 => ⟨S_, .i32⟩
  | 20 => ⟨S_, .i32⟩
  | 21 => ⟨S257x256, .i32⟩
  | 22 => ⟨S257x256, .i32⟩
  | 23 => ⟨S257x256, .i32⟩
  | 24 => ⟨S_, .i32⟩
  | 25 => ⟨S257x256, .i32⟩
  | 26 => ⟨S257x256, .i1⟩
  | 27 => ⟨S257x256, .i32⟩
  | 28 => ⟨S257x256, .i32⟩
  | 29 => ⟨S_, .i32⟩
  | 30 => ⟨S257x256, .i32⟩
  | 31 => ⟨S257x256, .i1⟩
  | 32 => ⟨S257x256, .i1⟩
  | 33 => ⟨S_, .i32⟩
  | 34 => ⟨S257x256, .i32⟩
  | 35 => ⟨S257x256, .i32⟩
  | 36 => ⟨S257x256, .i32⟩
  | 37 => ⟨S257x256, .i32⟩
  | 38 => ⟨S257x256, .i1⟩
  | 39 => ⟨S257x256, .i1⟩
  | 40 => ⟨S257x256, .i1⟩
  | 41 => ⟨S257x256, .i32⟩
  | 42 => ⟨S257x256, .f32⟩
  | 43 => ⟨S_, .f32⟩
  | 44 => ⟨S257x256, .f32⟩
  | 45 => ⟨S257x256, .f32⟩
  | 46 => ⟨S_, .f32⟩
  | 47 => ⟨S_, .f32⟩
  | 48 => ⟨S257x256, .f32⟩
  | 49 => ⟨S257x256, .f32⟩
  | 50 => ⟨S512x256, .i32⟩
  | 51 => ⟨S512x256, .i32⟩
  | 52 => ⟨S_, .i32⟩
  | 53 => ⟨S512x256, .i32⟩
  | 54 => ⟨S512x256, .i32⟩
  | 55 => ⟨S_, .i32⟩
  | 56 => ⟨S_, .i32⟩
  | 57 => ⟨S512x256, .i32⟩
  | 58 => ⟨S512x256, .i32⟩
  | 59 => ⟨S512x256, .i32⟩
  | 60 => ⟨S_, .i32⟩
  | 61 => ⟨S512x256, .i32⟩
  | 62 => ⟨S512x256, .i1⟩
  | 63 => ⟨S512x256, .i32⟩
  | 64 => ⟨S512x256, .i32⟩
  | 65 => ⟨S_, .i32⟩
  | 66 => ⟨S512x256, .i32⟩
  | 67 => ⟨S512x256, .i1⟩
  | 68 => ⟨S512x256, .i1⟩
  | 69 => ⟨S_, .i32⟩
  | 70 => ⟨S512x256, .i32⟩
  | 71 => ⟨S512x256, .i32⟩
  | 72 => ⟨S512x256, .i32⟩
  | 73 => ⟨S_, .i32⟩
  | 74 => ⟨S512x256, .i32⟩
  | 75 => ⟨S512x256, .i32⟩
  | 76 => ⟨S512x256, .i32⟩
  | 77 => ⟨S_, .i32⟩
  | 78 => ⟨S512x256, .i32⟩
  | 79 => ⟨S512x256, .i32⟩
  | 80 => ⟨S_, .i32⟩
  | 81 => ⟨S_, .i32⟩
  | 82 => ⟨S512x256, .i32⟩
  | 83 => ⟨S512x256, .i32⟩
  | 84 => ⟨S512x256, .i32⟩
  | 85 => ⟨S_, .i32⟩
  | 86 => ⟨S512x256, .i32⟩
  | 87 => ⟨S512x256, .i1⟩
  | 88 => ⟨S512x256, .i32⟩
  | 89 => ⟨S512x256, .i32⟩
  | 90 => ⟨S_, .i32⟩
  | 91 => ⟨S512x256, .i32⟩
  | 92 => ⟨S512x256, .i1⟩
  | 93 => ⟨S512x256, .i1⟩
  | 94 => ⟨S_, .i32⟩
  | 95 => ⟨S512x256, .i32⟩
  | 96 => ⟨S512x256, .i32⟩
  | 97 => ⟨S512x256, .i32⟩
  | 98 => ⟨S512x256, .i32⟩
  | 99 => ⟨S512x256, .i1⟩
  | 100 => ⟨S512x256, .i1⟩
  | 101 => ⟨S512x256, .i1⟩
  | 102 => ⟨S512x256, .i32⟩
  | 103 => ⟨S512x256, .f32⟩
  | 104 => ⟨S_, .f32⟩
  | 105 => ⟨S512x256, .f32⟩
  | 106 => ⟨S512x256, .f32⟩
  | 107 => ⟨S_, .f32⟩
  | 108 => ⟨S_, .f32⟩
  | 109 => ⟨S512x256, .f32⟩
  | 110 => ⟨S512x256, .f32⟩
  | 111 => ⟨S1x400x1, .i32⟩
  | 112 => ⟨S1x400x1, .f32⟩
  | 113 => ⟨S1x400x257, .f32⟩
  | 114 => ⟨S1x400x256, .f32⟩
  | 115 => ⟨S1x400x1, .i32⟩
  | 116 => ⟨S1x400x1, .f32⟩
  | 117 => ⟨S1x400x257, .f32⟩
  | 118 => ⟨S1x400x256, .f32⟩
  | 119 => ⟨S1x100x256, .f32⟩
  | 120 => ⟨S1x100x1x256, .f32⟩
  | 121 => ⟨S100x1x256, .f32⟩
  | _ => ⟨S1x400x256, .f32⟩

abbrev hbmTy (i : Nat) : BufTy := match i / 128 with
  | 0 => hbmTy0_0 i
  | 1 => hbmTy0_1 i
  | 2 => hbmTy0_2 i
  | _ => ⟨S1x400x256, .f32⟩

abbrev bufTy : (tb : Table) → Fin (tcTables nBuf tb) → BufTy
  | .hbm, ⟨i, _⟩ => hbmTy i
  | _, _ => ⟨S1x400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v4 : Ref sig .tc := ⟨.hbm, 36, rfl⟩
abbrev main_cst_2 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_cst : Ref sig .tc := ⟨.hbm, 42, rfl⟩
abbrev main_call1_v3 : Ref sig .tc := ⟨.hbm, 43, rfl⟩
abbrev main_call1_v4 : Ref sig .tc := ⟨.hbm, 44, rfl⟩
abbrev main_call1_cst_0 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_c : Ref sig .tc := ⟨.hbm, 64, rfl⟩
abbrev main_v10 : Ref sig .tc := ⟨.hbm, 65, rfl⟩
abbrev main_v11 : Ref sig .tc := ⟨.hbm, 66, rfl⟩
abbrev main_c_4 : Ref sig .tc := ⟨.hbm, 67, rfl⟩
abbrev main_v12 : Ref sig .tc := ⟨.hbm, 68, rfl⟩
abbrev main_v13 : Ref sig .tc := ⟨.hbm, 69, rfl⟩
abbrev main_c_5 : Ref sig .tc := ⟨.hbm, 70, rfl⟩
abbrev main_v14 : Ref sig .tc := ⟨.hbm, 71, rfl⟩
abbrev main_v15 : Ref sig .tc := ⟨.hbm, 72, rfl⟩
abbrev main_c_6 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_c_7 : Ref sig .tc := ⟨.hbm, 82, rfl⟩
abbrev main_v24 : Ref sig .tc := ⟨.hbm, 83, rfl⟩
abbrev main_v25 : Ref sig .tc := ⟨.hbm, 84, rfl⟩
abbrev main_c_8 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_c_9 : Ref sig .tc := ⟨.hbm, 91, rfl⟩
abbrev main_v31 : Ref sig .tc := ⟨.hbm, 92, rfl⟩
abbrev main_v32 : Ref sig .tc := ⟨.hbm, 93, rfl⟩
abbrev main_c_10 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_c_11 : Ref sig .tc := ⟨.hbm, 100, rfl⟩
abbrev main_v38 : Ref sig .tc := ⟨.hbm, 101, rfl⟩
abbrev main_v39 : Ref sig .tc := ⟨.hbm, 102, rfl⟩
abbrev main_c_12 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_c_13 : Ref sig .tc := ⟨.hbm, 109, rfl⟩
abbrev main_v45 : Ref sig .tc := ⟨.hbm, 110, rfl⟩
abbrev main_v46 : Ref sig .tc := ⟨.hbm, 111, rfl⟩
abbrev main_c_14 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_c_15 : Ref sig .tc := ⟨.hbm, 118, rfl⟩
abbrev main_v52 : Ref sig .tc := ⟨.hbm, 119, rfl⟩
abbrev main_v53 : Ref sig .tc := ⟨.hbm, 120, rfl⟩
abbrev main_c_16 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_c_17 : Ref sig .tc := ⟨.hbm, 127, rfl⟩
abbrev main_v59 : Ref sig .tc := ⟨.hbm, 128, rfl⟩
abbrev main_v60 : Ref sig .tc := ⟨.hbm, 129, rfl⟩
abbrev main_c_18 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_cst_19 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_cst_20 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_cst_21 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_cst_22 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_23 : Ref sig .tc := ⟨.hbm, 167, rfl⟩
abbrev main_v93 : Ref sig .tc := ⟨.hbm, 168, rfl⟩
abbrev main_cst_24 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_cst_25 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_cst_26 : Ref sig .tc := ⟨.hbm, 181, rfl⟩
abbrev main_v104 : Ref sig .tc := ⟨.hbm, 182, rfl⟩
abbrev main_cst_27 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_28 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_call2_v0 : Ref sig .tc := ⟨.hbm, 196, rfl⟩
abbrev main_call2_cst : Ref sig .tc := ⟨.hbm, 197, rfl⟩
abbrev main_call2_c : Ref sig .tc := ⟨.hbm, 198, rfl⟩
abbrev main_call2_v1_0 : Ref sig .tc := ⟨.hbm, 199, rfl⟩
abbrev main_v116 : Ref sig .tc := ⟨.hbm, 200, rfl⟩
abbrev main_call3_v0 : Ref sig .tc := ⟨.hbm, 201, rfl⟩
abbrev main_call3_cst : Ref sig .tc := ⟨.hbm, 202, rfl⟩
abbrev main_call3_c : Ref sig .tc := ⟨.hbm, 203, rfl⟩
abbrev main_call3_v1_0 : Ref sig .tc := ⟨.hbm, 204, rfl⟩
abbrev main_v117 : Ref sig .tc := ⟨.hbm, 205, rfl⟩
abbrev main_v118 : Ref sig .tc := ⟨.hbm, 206, rfl⟩
abbrev main_call4_c : Ref sig .tc := ⟨.hbm, 207, rfl⟩
abbrev main_call4_v0 : Ref sig .tc := ⟨.hbm, 208, rfl⟩
abbrev main_call4_v1 : Ref sig .tc := ⟨.hbm, 209, rfl⟩
abbrev main_call4_c_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_c_1 : Ref sig .tc := ⟨.hbm, 215, rfl⟩
abbrev main_call4_c_2 : Ref sig .tc := ⟨.hbm, 216, rfl⟩
abbrev main_call4_v6 : Ref sig .tc := ⟨.hbm, 217, rfl⟩
abbrev main_call4_v7 : Ref sig .tc := ⟨.hbm, 218, rfl⟩
abbrev main_call4_v8 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_c_3 : Ref sig .tc := ⟨.hbm, 223, rfl⟩
abbrev main_call4_v12 : Ref sig .tc := ⟨.hbm, 224, rfl⟩
abbrev main_call4_v13 : Ref sig .tc := ⟨.hbm, 225, rfl⟩
abbrev main_call4_v14 : Ref sig .tc := ⟨.hbm, 226, rfl⟩
abbrev main_call4_cst : Ref sig .tc := ⟨.hbm, 227, rfl⟩
abbrev main_call4_v15 : Ref sig .tc := ⟨.hbm, 228, rfl⟩
abbrev main_v119 : Ref sig .tc := ⟨.hbm, 229, rfl⟩
abbrev main_v120 : Ref sig .tc := ⟨.hbm, 230, rfl⟩
abbrev main_cst_29 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_cst_30 : Ref sig .tc := ⟨.hbm, 237, rfl⟩
abbrev main_v126 : Ref sig .tc := ⟨.hbm, 238, rfl⟩
abbrev main_cst_31 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_c_32 : Ref sig .tc := ⟨.hbm, 247, rfl⟩
abbrev main_v134 : Ref sig .tc := ⟨.hbm, 248, rfl⟩
abbrev main_v135 : Ref sig .tc := ⟨.hbm, 249, rfl⟩
abbrev main_c_33 : Ref sig .tc := ⟨.hbm, 250, rfl⟩
abbrev main_call5_v0 : Ref sig .tc := ⟨.hbm, 251, rfl⟩
abbrev main_call5_v1 : Ref sig .tc := ⟨.hbm, 252, rfl⟩
abbrev main_call5_v2 : Ref sig .tc := ⟨.hbm, 253, rfl⟩
abbrev main_call5_v3 : Ref sig .tc := ⟨.hbm, 254, rfl⟩
abbrev main_call5_v4 : Ref sig .tc := ⟨.hbm, 255, rfl⟩
abbrev main_call5_v5 : Ref sig .tc := ⟨.hbm, 256, rfl⟩
abbrev main_call5_v6 : Ref sig .tc := ⟨.hbm, 257, rfl⟩
abbrev main_call5_v7 : Ref sig .tc := ⟨.hbm, 258, rfl⟩
abbrev main_call5_v8 : Ref sig .tc := ⟨.hbm, 259, rfl⟩
abbrev main_call5_c : Ref sig .tc := ⟨.hbm, 260, rfl⟩
abbrev main_call5_v9 : Ref sig .tc := ⟨.hbm, 261, rfl⟩
abbrev main_call5_v10 : Ref sig .tc := ⟨.hbm, 262, rfl⟩
abbrev main_call5_v11 : Ref sig .tc := ⟨.hbm, 263, rfl⟩
abbrev main_call5_c_0 : Ref sig .tc := ⟨.hbm, 264, rfl⟩
abbrev main_call5_v12 : Ref sig .tc := ⟨.hbm, 265, rfl⟩
abbrev main_call5_v13 : Ref sig .tc := ⟨.hbm, 266, rfl⟩
abbrev main_v136 : Ref sig .tc := ⟨.hbm, 267, rfl⟩
abbrev main_c_34 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_c_35 : Ref sig .tc := ⟨.hbm, 272, rfl⟩
abbrev main_v140 : Ref sig .tc := ⟨.hbm, 273, rfl⟩
abbrev main_v141 : Ref sig .tc := ⟨.hbm, 274, rfl⟩
abbrev main_c_36 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_call6_v3 : Ref sig .tc := ⟨.hbm, 279, rfl⟩
abbrev main_call6_v4 : Ref sig .tc := ⟨.hbm, 280, rfl⟩
abbrev main_call6_v5 : Ref sig .tc := ⟨.hbm, 281, rfl⟩
abbrev main_call6_v6 : Ref sig .tc := ⟨.hbm, 282, rfl⟩
abbrev main_call6_v7 : Ref sig .tc := ⟨.hbm, 283, rfl⟩
abbrev main_call6_v8 : Ref sig .tc := ⟨.hbm, 284, rfl⟩
abbrev main_call6_c : Ref sig .tc := ⟨.hbm, 285, rfl⟩
abbrev main_call6_v9 : Ref sig .tc := ⟨.hbm, 286, rfl⟩
abbrev main_call6_v10 : Ref sig .tc := ⟨.hbm, 287, rfl⟩
abbrev main_call6_v11 : Ref sig .tc := ⟨.hbm, 288, rfl⟩
abbrev main_call6_c_0 : Ref sig .tc := ⟨.hbm, 289, rfl⟩
abbrev main_call6_v12 : Ref sig .tc := ⟨.hbm, 290, rfl⟩
abbrev main_call6_v13 : Ref sig .tc := ⟨.hbm, 291, rfl⟩
abbrev main_v142 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_v146 : Ref sig .tc := ⟨.hbm, 296, rfl⟩
abbrev main_v147 : Ref sig .tc := ⟨.hbm, 297, rfl⟩
abbrev main_v148 : Ref sig .tc := ⟨.hbm, 298, rfl⟩
abbrev main_cst_37 : Ref sig .tc := ⟨.hbm, 299, rfl⟩
abbrev main_v149 : Ref sig .tc := ⟨.hbm, 300, rfl⟩
abbrev main_v150 : Ref sig .tc := ⟨.hbm, 301, rfl⟩
abbrev main_cst_38 : Ref sig .tc := ⟨.hbm, 302, rfl⟩
abbrev main_call7_v0 : Ref sig .tc := ⟨.hbm, 303, rfl⟩
abbrev main_call7_v1 : Ref sig .tc := ⟨.hbm, 304, rfl⟩
abbrev main_v151 : Ref sig .tc := ⟨.hbm, 305, rfl⟩
abbrev main_v152 : Ref sig .tc := ⟨.hbm, 306, rfl⟩
abbrev main_v153 : Ref sig .tc := ⟨.hbm, 307, rfl⟩
abbrev main_c_39 : Ref sig .tc := ⟨.hbm, 308, rfl⟩
abbrev main_v154 : Ref sig .tc := ⟨.hbm, 309, rfl⟩
abbrev main_v155 : Ref sig .tc := ⟨.hbm, 310, rfl⟩
abbrev main_c_40 : Ref sig .tc := ⟨.hbm, 311, rfl⟩
abbrev main_call8_v0 : Ref sig .tc := ⟨.hbm, 312, rfl⟩
abbrev main_call8_v1 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_call8_v5 : Ref sig .tc := ⟨.hbm, 317, rfl⟩
abbrev main_call8_v6 : Ref sig .tc := ⟨.hbm, 318, rfl⟩
abbrev main_call8_v7 : Ref sig .tc := ⟨.hbm, 319, rfl⟩
abbrev main_call8_v8 : Ref sig .tc := ⟨.hbm, 320, rfl⟩
abbrev main_call8_c : Ref sig .tc := ⟨.hbm, 321, rfl⟩
abbrev main_call8_v9 : Ref sig .tc := ⟨.hbm, 322, rfl⟩
abbrev main_call8_v10 : Ref sig .tc := ⟨.hbm, 323, rfl⟩
abbrev main_call8_v11 : Ref sig .tc := ⟨.hbm, 324, rfl⟩
abbrev main_call8_c_0 : Ref sig .tc := ⟨.hbm, 325, rfl⟩
abbrev main_call8_v12 : Ref sig .tc := ⟨.hbm, 326, rfl⟩
abbrev main_call8_v13 : Ref sig .tc := ⟨.hbm, 327, rfl⟩
abbrev main_v156 : Ref sig .tc := ⟨.hbm, 328, rfl⟩
abbrev main_c_41 : Ref sig .tc := ⟨.hbm, 329, rfl⟩
abbrev main_v157 : Ref sig .tc := ⟨.hbm, 330, rfl⟩
abbrev main_v158 : Ref sig .tc := ⟨.hbm, 331, rfl⟩
abbrev main_v159 : Ref sig .tc := ⟨.hbm, 332, rfl⟩
abbrev main_c_42 : Ref sig .tc := ⟨.hbm, 333, rfl⟩
abbrev main_v160 : Ref sig .tc := ⟨.hbm, 334, rfl⟩
abbrev main_v161 : Ref sig .tc := ⟨.hbm, 335, rfl⟩
abbrev main_c_43 : Ref sig .tc := ⟨.hbm, 336, rfl⟩
abbrev main_call9_v0 : Ref sig .tc := ⟨.hbm, 337, rfl⟩
abbrev main_call9_v1 : Ref sig .tc := ⟨.hbm, 338, rfl⟩
abbrev main_call9_v2 : Ref sig .tc := ⟨.hbm, 339, rfl⟩
abbrev main_call9_v3 : Ref sig .tc := ⟨.hbm, 340, rfl⟩
abbrev main_call9_v4 : Ref sig .tc := ⟨.hbm, 341, rfl⟩
abbrev main_call9_v5 : Ref sig .tc := ⟨.hbm, 342, rfl⟩
abbrev main_call9_v6 : Ref sig .tc := ⟨.hbm, 343, rfl⟩
abbrev main_call9_v7 : Ref sig .tc := ⟨.hbm, 344, rfl⟩
abbrev main_call9_v8 : Ref sig .tc := ⟨.hbm, 345, rfl⟩
abbrev main_call9_c : Ref sig .tc := ⟨.hbm, 346, rfl⟩
abbrev main_call9_v9 : Ref sig .tc := ⟨.hbm, 347, rfl⟩
abbrev main_call9_v10 : Ref sig .tc := ⟨.hbm, 348, rfl⟩
abbrev main_call9_v11 : Ref sig .tc := ⟨.hbm, 349, rfl⟩
abbrev main_call9_c_0 : Ref sig .tc := ⟨.hbm, 350, rfl⟩
abbrev main_call9_v12 : Ref sig .tc := ⟨.hbm, 351, rfl⟩
abbrev main_call9_v13 : Ref sig .tc := ⟨.hbm, 352, rfl⟩
abbrev main_v162 : Ref sig .tc := ⟨.hbm, 353, rfl⟩
abbrev main_v163 : Ref sig .tc := ⟨.hbm, 354, rfl⟩
abbrev main_v164 : Ref sig .tc := ⟨.hbm, 355, rfl⟩
abbrev main_v165 : Ref sig .tc := ⟨.hbm, 356, rfl⟩
abbrev main_v166 : Ref sig .tc := ⟨.hbm, 357, rfl⟩
abbrev main_v167 : Ref sig .tc := ⟨.hbm, 358, rfl⟩
abbrev main_v168 : Ref sig .tc := ⟨.hbm, 359, rfl⟩
abbrev main_cst_44 : Ref sig .tc := ⟨.hbm, 360, rfl⟩
abbrev main_v169 : Ref sig .tc := ⟨.hbm, 361, rfl⟩
abbrev main_v170 : Ref sig .tc := ⟨.hbm, 362, rfl⟩
abbrev main_cst_45 : Ref sig .tc := ⟨.hbm, 363, rfl⟩
abbrev main_call10_v0 : Ref sig .tc := ⟨.hbm, 364, rfl⟩
abbrev main_call10_v1 : Ref sig .tc := ⟨.hbm, 365, rfl⟩
abbrev main_v171 : Ref sig .tc := ⟨.hbm, 366, rfl⟩
abbrev main_v172 : Ref sig .tc := ⟨.hbm, 367, rfl⟩
abbrev main_v173 : Ref sig .tc := ⟨.hbm, 368, rfl⟩
abbrev main_v174 : Ref sig .tc := ⟨.hbm, 369, rfl⟩
abbrev main_v175 : Ref sig .tc := ⟨.hbm, 370, rfl⟩
abbrev main_v176 : Ref sig .tc := ⟨.hbm, 371, rfl⟩
abbrev main_v177 : Ref sig .tc := ⟨.hbm, 372, rfl⟩
abbrev main_v178 : Ref sig .tc := ⟨.hbm, 373, rfl⟩
abbrev main_v179 : Ref sig .tc := ⟨.hbm, 374, rfl⟩
abbrev main_v180 : Ref sig .tc := ⟨.hbm, 375, rfl⟩
abbrev main_v181 : Ref sig .tc := ⟨.hbm, 376, rfl⟩
abbrev main_v182 : Ref sig .tc := ⟨.hbm, 377, rfl⟩

abbrev nD : Nat := 1
abbrev τ : Topo := Topo.v7x

variable {F : FTy → Type} [FloatOps F]
-- ==== Proof.KernelFrame.lean ====
/- The program's own frame: the body's runs, case by case, with the contents of the outputs and of the scratch left
   unnamed; the launch; and the frame. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at point 1 only — by arithmetic of the point. -/
theorem hcond0_1 : ∀ t : Fin cfg0.N, cond0_1 (grid0.coords t) ↔ t.val % 10 = 1 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S400x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x160x1600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x400x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x400x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S400x1600 .f32 := Memref.whole cc0_scratch0
abbrev scM0_1 : Memref sig .tc .vmem S400x400 .f32 := Memref.whole cc0_scratch1
abbrev scM0_2 : Memref sig .tc .vmem S400x400 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The row at which the band of the scratch read at grid coordinate `g` starts: the multiple of eight below `g·160·399/1599`, at most 344. -/
def bandRow (g : ℕ) : ℕ := min (160 * g * 399 / 1599 / 8 * 8) 344

set_option maxHeartbeats 1000000 in
/-- The kernel's own word arithmetic for that row gives the closed form at each of the ten points. -/
theorem k0_off1_closed : ∀ i : grid0.Coords, k0_off1 i = ![bandRow (i 0).val, 0] := by
  decide +kernel

instance (i : grid0.Coords) : ClosedOff (k0_off1 i) := ⟨![bandRow (i 0).val, 0], k0_off1_closed i⟩

set_option maxHeartbeats 1000000 in
/-- The body at the first point (the scratch is filled, then a block of rows stored): from whole staging memrefs, the inputs' at their contents and all
    others at anything, it runs to the continuation holding the inputs' as they were and the others at some contents. -/
theorem kernelRun0_A (c : Dev nD) (i : grid0.Coords) (arg1 : Memref sig .tc .vmem S400x256 .f32) (harg1 : arg1.IsWhole) (arg2 : Memref sig .tc .vmem S400x256 .f32) (harg2 : arg2.IsWhole) (arg3 : Memref sig .tc .vmem S128x256 .f32) (harg3 : arg3.IsWhole) (arg4 : Memref sig .tc .vmem S1x1x160x1600 .f32) (harg4 : arg4.IsWhole) (arg5 : Memref sig .tc .vmem S1x400x256 .f32) (harg5 : arg5.IsWhole) (arg6 : Memref sig .tc .vmem S1x400x256 .f32) (harg6 : arg6.IsWhole) (arg7 : Memref sig .tc .vmem S128x256 .f32) (harg7 : arg7.IsWhole) (arg8 : Memref sig .tc .vmem S400x1600 .f32) (harg8 : arg8.IsWhole) (arg9 : Memref sig .tc .vmem S400x400 .f32) (harg9 : arg9.IsWhole) (arg10 : Memref sig .tc .vmem S400x400 .f32) (harg10 : arg10.IsWhole) (hc0 : cond0_0 i) (hc1 : ¬cond0_1 i) (hoff : k0_off1 i = ![0, 0])
    (x0 : Vec F S400x256 .f32) (x1 : Vec F S400x256 .f32) (x2 : Vec F S128x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
    intro E K
    simp only [cc0__fused_kernel_eq_skeleton]; unfold cc0__fused_kernel_skel
    simp only [k0_part14_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    letI : ClosedOff (k0_off1 i) := ⟨![0, 0], hoff⟩
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 1000000 in
/-- The body at the second point (the token outputs and a block of rows are stored): from whole staging memrefs, the inputs' at their contents and all
    others at anything, it runs to the continuation holding the inputs' as they were and the others at some contents. -/
theorem kernelRun0_B (c : Dev nD) (i : grid0.Coords) (arg1 : Memref sig .tc .vmem S400x256 .f32) (harg1 : arg1.IsWhole) (arg2 : Memref sig .tc .vmem S400x256 .f32) (harg2 : arg2.IsWhole) (arg3 : Memref sig .tc .vmem S128x256 .f32) (harg3 : arg3.IsWhole) (arg4 : Memref sig .tc .vmem S1x1x160x1600 .f32) (harg4 : arg4.IsWhole) (arg5 : Memref sig .tc .vmem S1x400x256 .f32) (harg5 : arg5.IsWhole) (arg6 : Memref sig .tc .vmem S1x400x256 .f32) (harg6 : arg6.IsWhole) (arg7 : Memref sig .tc .vmem S128x256 .f32) (harg7 : arg7.IsWhole) (arg8 : Memref sig .tc .vmem S400x1600 .f32) (harg8 : arg8.IsWhole) (arg9 : Memref sig .tc .vmem S400x400 .f32) (harg9 : arg9.IsWhole) (arg10 : Memref sig .tc .vmem S400x400 .f32) (harg10 : arg10.IsWhole) (hc0 : ¬cond0_0 i) (hc1 : cond0_1 i)
    (x0 : Vec F S400x256 .f32) (x1 : Vec F S400x256 .f32) (x2 : Vec F S128x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
    intro E K
    simp only [cc0__fused_kernel_eq_skeleton]; unfold cc0__fused_kernel_skel
    simp only [k0_part14_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 1000000 in
/-- The body at a later point (a block of rows is stored): from whole staging memrefs, the inputs' at their contents and all
    others at anything, it runs to the continuation holding the inputs' as they were and the others at some contents. -/
theorem kernelRun0_C (c : Dev nD) (i : grid0.Coords) (arg1 : Memref sig .tc .vmem S400x256 .f32) (harg1 : arg1.IsWhole) (arg2 : Memref sig .tc .vmem S400x256 .f32) (harg2 : arg2.IsWhole) (arg3 : Memref sig .tc .vmem S128x256 .f32) (harg3 : arg3.IsWhole) (arg4 : Memref sig .tc .vmem S1x1x160x1600 .f32) (harg4 : arg4.IsWhole) (arg5 : Memref sig .tc .vmem S1x400x256 .f32) (harg5 : arg5.IsWhole) (arg6 : Memref sig .tc .vmem S1x400x256 .f32) (harg6 : arg6.IsWhole) (arg7 : Memref sig .tc .vmem S128x256 .f32) (harg7 : arg7.IsWhole) (arg8 : Memref sig .tc .vmem S400x1600 .f32) (harg8 : arg8.IsWhole) (arg9 : Memref sig .tc .vmem S400x400 .f32) (harg9 : arg9.IsWhole) (arg10 : Memref sig .tc .vmem S400x400 .f32) (harg10 : arg10.IsWhole) (hc0 : ¬cond0_0 i) (hc1 : ¬cond0_1 i)
    (x0 : Vec F S400x256 .f32) (x1 : Vec F S400x256 .f32) (x2 : Vec F S128x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
    intro E K
    simp only [cc0__fused_kernel_eq_skeleton]; unfold cc0__fused_kernel_skel
    simp only [k0_part14_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (3, 4, 5, 6): nothing reads what the kernel leaves in them, so nothing
    of it is named. -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- At the first point the band starts at row 0. -/
theorem hoff0 (t : Fin cfg0.N) (h : t.val % 10 = 0) : k0_off1 (grid0.coords t) = ![0, 0] := by
  have e0 : (grid0.coords t 0).val = t.val / 1 % 10 := Pipeline.Grid.coords_val t 0 (by decide) rfl
  rw [k0_off1_closed, e0, Nat.div_one, h]; rfl

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 10 := lt_of_lt_of_eq t.isLt (show cfg0.N = 10 from N_0)
  by_cases h0 : t.val % 10 = 0
  · by_cases h1 : t.val % 10 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (fun h => h1 ((hcond0_1 t).mp h)) (hoff0 t h0) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h1 : t.val % 10 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_rel m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.Grid.lean ====
/- The grid's points, the branch conditions of the kernel's body at them, and the memory it is handed. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at point 1 only — by arithmetic of the point. -/
theorem hcond0_1 : ∀ t : Fin cfg0.N, cond0_1 (grid0.coords t) ↔ t.val % 10 = 1 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S400x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x160x1600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x400x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x400x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S400x1600 .f32 := Memref.whole cc0_scratch0
abbrev scM0_1 : Memref sig .tc .vmem S400x400 .f32 := Memref.whole cc0_scratch1
abbrev scM0_2 : Memref sig .tc .vmem S400x400 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The band's first row -/

/-- The first row of the band the body reads at each point, in closed form. -/
def bandRow (g : Nat) : Nat := min (160 * g * 399 / 1599 / 8 * 8) 344

set_option maxHeartbeats 1000000 in
/-- The kernel's own word arithmetic for that row gives the closed form at each of the ten points. -/
theorem k0_off1_closed : ∀ i : grid0.Coords, k0_off1 i = ![bandRow (i 0).val, 0] := by
  decide +kernel

instance (i : grid0.Coords) : ClosedOff (k0_off1 i) := ⟨![bandRow (i 0).val, 0], k0_off1_closed i⟩

end Cert.KernelIdeal.Gen

end
-- ==== Proof.Outs.lean ====
/- What the body leaves in each buffer, as functions of the blocks it reads. -/
module

public import proofs.«01_k».proof.Proof.Grid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The word arithmetic of the band's first row -/

/-- `160·g·399 / 1599` rounded down, by the kernel's word operations. -/
def row0 (i : grid0.Coords) : BitVec 32 :=
  let arg0 : BitVec 32 := BitVec.ofNat 32 (i 0).val
  let v6 : BitVec 32 := Scalar.muli 160#32 arg0
  let v7 : BitVec 32 := Scalar.muli v6 399#32
  let v8 : BitVec 32 := Scalar.divsi v7 1599#32
  let v9 : BitVec 1 := Scalar.cmpi .sgt v7 0#32
  let v10 : BitVec 32 := Scalar.extui v9
  let v11 : BitVec 1 := Scalar.cmpi .slt v7 0#32
  let v12 : BitVec 32 := Scalar.extui v11
  let v13 : BitVec 32 := Scalar.subi v10 v12
  let v14 : BitVec 1 := Scalar.cmpi .sgt 1599#32 0#32
  let v15 : BitVec 32 := Scalar.extui v14
  let v16 : BitVec 1 := Scalar.cmpi .slt 1599#32 0#32
  let v17 : BitVec 32 := Scalar.extui v16
  let v18 : BitVec 32 := Scalar.subi v15 v17
  let v19 : BitVec 1 := Scalar.cmpi .ne v13 v18
  let v20 : BitVec 32 := Scalar.remsi v7 1599#32
  let v21 : BitVec 1 := Scalar.cmpi .ne v20 0#32
  let v22 : BitVec 1 := Scalar.andi v19 v21
  let v23 : BitVec 32 := Scalar.subi v8 1#32
  let v24 : BitVec 32 := Scalar.select v22 v23 v8
  v24

/-- That row divided by 8, towards zero. -/
def row8 (i : grid0.Coords) : BitVec 32 := Scalar.divsi (row0 i) 8#32
/-- Whether the signs of the row and of 8 differ. -/
def rowSign (i : grid0.Coords) : BitVec 1 :=
  Scalar.cmpi .ne (Scalar.subi (Scalar.extui (Scalar.cmpi .sgt (row0 i) 0#32)) (Scalar.extui (Scalar.cmpi .slt (row0 i) 0#32)))
    (Scalar.subi (Scalar.extui (Scalar.cmpi .sgt 8#32 0#32)) (Scalar.extui (Scalar.cmpi .slt 8#32 0#32)))
/-- The row's remainder by 8. -/
def rowRem (i : grid0.Coords) : BitVec 32 := Scalar.remsi (row0 i) 8#32

/-! ## Point 0: the correlation, its transpose, and the upsampled columns -/

/-- The row numbers of a 56-row band. -/
abbrev rows56 : IVec S56x160 32 := iota .tc S56x160 32 [0] iota_S56x160_d0_w32

/-- The ten column slabs the first point stores, newest first. -/
def slabs (x0 x1 : Vec F S400x256 .f32) : List (View.Piece (Elt F) S400x1600 .f32) :=
  [⟨Rect.unit ![0, 1440] S400x160.size inb_S400x1600_S400x160_0_1440, k0_pay32 (k0_pay4 x0 x1)⟩,
    ⟨Rect.unit ![0, 1280] S400x160.size inb_S400x1600_S400x160_0_1280, k0_pay31 (k0_pay4 x0 x1) rows56 (k0_pay28 (F := F)) (k0_pay29 (F := F)) (k0_pay30 (F := F))⟩,
    ⟨Rect.unit ![0, 1120] S400x160.size inb_S400x1600_S400x160_0_1120, k0_pay25 (k0_pay4 x0 x1)⟩,
    ⟨Rect.unit ![0, 960] S400x160.size inb_S400x1600_S400x160_0_960, k0_pay24 (k0_pay23 (k0_pay4 x0 x1))⟩,
    ⟨Rect.unit ![0, 800] S400x160.size inb_S400x1600_S400x160_0_800, k0_pay22 (k0_pay4 x0 x1) rows56 (k0_pay20 (F := F)) (k0_pay21 (F := F))⟩,
    ⟨Rect.unit ![0, 640] S400x160.size inb_S400x1600_S400x160_0_640, k0_pay17 (k0_pay4 x0 x1)⟩,
    ⟨Rect.unit ![0, 480] S400x160.size inb_S400x1600_S400x160_0_480, k0_pay16 (k0_pay15 (k0_pay4 x0 x1))⟩,
    ⟨Rect.unit ![0, 320] S400x160.size inb_S400x1600_S400x160_0_320, k0_pay14 (k0_pay4 x0 x1) rows56 (k0_pay12 (F := F)) (k0_pay13 (F := F))⟩,
    ⟨Rect.unit ![0, 160] S400x160.size inb_S400x1600_S400x160_0_160, k0_pay9 (k0_pay4 x0 x1)⟩,
    ⟨Rect.unit ![0, 0] S400x160.size inb_S400x1600_S400x160_0_0, k0_pay8 (k0_pay4 x0 x1) (k0_pay7 (F := F))⟩]

/-- The correlation with its columns upsampled: what the ten slabs leave in the scratch. -/
def tmpV (x0 x1 : Vec F S400x256 .f32) : Vec F S400x1600 .f32 := View.canon (slabs x0 x1)

/-! ## Every point: a block of the upsampled correlation -/

/-- The block of rows the body stores at a point, from the scratch's contents. -/
def blockV (i : grid0.Coords) (T : Vec F S400x1600 .f32) : Vec F S1x1x160x1600 .f32 :=
  k0_pay1 (BitVec.ofNat 32 (i 0).val) (row8 i) (rowSign i) (rowRem i) 0#32
    (View.ld T (Rect.unit (s := S400x1600) (k0_off1 i) S56x1600.size (k0_off1_inb i)))

/-! ## Point 1: the match positions and the token outputs -/

/-- The column numbers of the correlation. -/
abbrev cols400 : IVec S400x400 32 := iota .tc S400x400 32 [1] iota_S400x400_d1_w32
/-- The best column of each row of the correlation. -/
def idxV (C : Vec F S400x400 .f32) : IVec S400x1 32 := k0_pay35 C
/-- The best column of each row of the transposed correlation. -/
def idyV (D : Vec F S400x400 .f32) : IVec S400x1 32 := k0_pay37 D cols400 (k0_pay36 D)

/-- The first token output. -/
def f0V (x0 : Vec F S400x256 .f32) (C : Vec F S400x400 .f32) : Vec F S1x400x256 .f32 :=
  k0_pay56 (k0_pay54 (k0_pay33 x0)) (k0_pay55 (k0_pay33 x0) (idxV C)) (Scalar.ofBits .f32 0x3F000000#32)
/-- The second token output. -/
def f1V (x1 : Vec F S400x256 .f32) (D : Vec F S400x400 .f32) : Vec F S1x400x256 .f32 :=
  k0_pay57 (k0_pay34 x1) (k0_pay52 (F := F) (idyV D)) k0_pay53

/-- The mask of the 2 by 2 pooling windows. -/
def poolMask : IVec S128x400 1 :=
  k0_pay45 (iota .tc S128x400 32 [0] iota_S128x400_d0_w32)
    (k0_pay42 (iota .tc S128x400 32 [0] iota_S128x400_d0_w32) k0_pay39 k0_pay40 k0_pay41)
    (k0_pay43 (iota .tc S128x400 32 [1] iota_S128x400_d1_w32)) 2#32 (k0_pay44 (iota .tc S128x400 32 [1] iota_S128x400_d1_w32)) 0#32

/-- The pooled tokens. -/
def pooledV (x0 x1 : Vec F S400x256 .f32) (C : Vec F S400x400 .f32) : FVec F S128x256 .f32 :=
  k0_pay47 (k0_pay33 x0) (k0_pay38 (k0_pay34 x1) cols400 (idxV C)) poolMask (Scalar.ofBits .f32 0x00000000#32) (k0_pay46 (F := F))

/-- The third token output, at the padded height. -/
def t32V (x0 x1 : Vec F S400x256 .f32) (x2 : Vec F S128x256 .f32) (C : Vec F S400x400 .f32) : Vec F S128x256 .f32 :=
  k0_pay51 (pooledV x0 x1 C) (iota .tc S256x256 32 [0] iota_S256x256_d0_w32) (iota .tc S256x256 32 [1] iota_S256x256_d1_w32)
    (k0_pay48 (F := F)) 2#32 k0_pay49 k0_pay50 0#32 x2

end Cert.KernelIdeal.Gen

end
-- ==== Proof.Body.lean ====
/- The body of the kernel at the points of each kind: what it leaves in every buffer. -/
module

public import proofs.«01_k».proof.Proof.Outs
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Zero offsets, spelt out, at each number of axes. -/
theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

/-- One store through the whole shape at zero offsets leaves its payload. -/
theorem read_store_whole {S : Shape} {e : EltTy} {κ : Kind} {sp : Space} {v : View sig κ sp S e} {f : v.ty.Contents (Elt F)}
    {off : Fin S.rank → Nat} (h : off = fun _ => 0) {inb : ∀ a, off a + S.size a ≤ S.size a} {w : S.Idx → Elt F e} :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- The ten slabs cover the scratch. -/
theorem slabs_cover (x0 x1 : Vec F S400x256 .f32) : ∀ y, ∃ p ∈ slabs x0 x1, y ∈ p.1.set :=
  View.cover_of_tiledL (slabs x0 x1) S400x160.size (by sl_kernel_rfl)

set_option maxHeartbeats 1000000 in
/-- The first point: the correlation, its transpose and the upsampled columns go to the scratch, and the first
    block of rows to its output; the token outputs keep what they hold. -/
theorem runA (c : Dev nD) (i : grid0.Coords) (arg1 : Memref sig .tc .vmem S400x256 .f32) (harg1 : arg1.IsWhole) (arg2 : Memref sig .tc .vmem S400x256 .f32) (harg2 : arg2.IsWhole) (arg3 : Memref sig .tc .vmem S128x256 .f32) (harg3 : arg3.IsWhole) (arg4 : Memref sig .tc .vmem S1x1x160x1600 .f32) (harg4 : arg4.IsWhole) (arg5 : Memref sig .tc .vmem S1x400x256 .f32) (harg5 : arg5.IsWhole) (arg6 : Memref sig .tc .vmem S1x400x256 .f32) (harg6 : arg6.IsWhole) (arg7 : Memref sig .tc .vmem S128x256 .f32) (harg7 : arg7.IsWhole) (arg8 : Memref sig .tc .vmem S400x1600 .f32) (harg8 : arg8.IsWhole) (arg9 : Memref sig .tc .vmem S400x400 .f32) (harg9 : arg9.IsWhole) (arg10 : Memref sig .tc .vmem S400x400 .f32) (harg10 : arg10.IsWhole)
    (hc0 : cond0_0 i) (hc1 : ¬cond0_1 i) (hoff : k0_off1 i = ![0, 0])
    (x0 x1 : Vec F S400x256 .f32) (x2 : Vec F S128x256 .f32) (x4 x5 : Vec F S1x400x256 .f32) (x6 : Vec F S128x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare (blockV i (tmpV x0 x1)) ∗ owns (c : Thread nD τ) arg5 fullShare x4 ∗ owns (c : Thread nD τ) arg6 fullShare x5 ∗ owns (c : Thread nD τ) arg7 fullShare x6 ∗ owns (c : Thread nD τ) arg8 fullShare (tmpV x0 x1) ∗ owns (c : Thread nD τ) arg9 fullShare (k0_pay5 x0 x1) ∗ owns (c : Thread nD τ) arg10 fullShare (k0_pay6 x0 x1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
    intro E K
    simp only [cc0__fused_kernel_eq_skeleton]; unfold cc0__fused_kernel_skel
    simp only [k0_part14_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hf6
    have e1 : (View.readAt (Elt F) arg1.view (Rect.unit ![0, 0] S400x256.size inb_S400x256_S400x256_0_0).toLoadRect (harg1.unread x0)) = x0 := by
      rw [View.readAt_eq_ld, Memref.IsWhole.read_unread, View.ld_unit_zero hz2]
    have e2 : (View.readAt (Elt F) arg2.view (Rect.unit ![0, 0] S400x256.size inb_S400x256_S400x256_0_0).toLoadRect (harg2.unread x1)) = x1 := by
      rw [View.readAt_eq_ld, Memref.IsWhole.read_unread, View.ld_unit_zero hz2]
    letI : ClosedOff (k0_off1 i) := ⟨![0, 0], hoff⟩
    sl_exec (disch := first | sl_exact hc0 | sl_exact hc1)
    sl_step
    have hL : runA.sl.HS0_10 x0 x1 = slabs x0 x1 := by
      rfl
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [read_store_whole hz4]
      refine Eq.trans (b := k0_pay1 (BitVec.ofNat 32 (i 0).val) (row8 i) (rowSign i) (rowRem i) 0#32 (arg8.view.readCov (runA.sl.HS0_10 x0 x1) (Rect.unit (s := S400x1600) (k0_off1 i) S56x1600.size (k0_off1_inb i)).toLoadRect)) rfl ?_
      rw [hL, View.readCov_eq_canon']; rfl
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; swap; · iexact HS0
      ipureintro
      rw [hL]
      exact View.read_writes_eq_canon _ _ _ (slabs_cover x0 x1)
    isplitl [HS1]
    · iexists _; isplitr; swap; · iexact HS1
      ipureintro
      rw [read_store_whole hz2]
    iexists _; isplitr; swap; · iexact HS2
    ipureintro
    rw [read_store_whole hz2]

set_option maxHeartbeats 1000000 in
/-- Any later point: a block of rows is stored, the rest keeps what it holds. -/
theorem runC (c : Dev nD) (i : grid0.Coords) (arg1 : Memref sig .tc .vmem S400x256 .f32) (harg1 : arg1.IsWhole) (arg2 : Memref sig .tc .vmem S400x256 .f32) (harg2 : arg2.IsWhole) (arg3 : Memref sig .tc .vmem S128x256 .f32) (harg3 : arg3.IsWhole) (arg4 : Memref sig .tc .vmem S1x1x160x1600 .f32) (harg4 : arg4.IsWhole) (arg5 : Memref sig .tc .vmem S1x400x256 .f32) (harg5 : arg5.IsWhole) (arg6 : Memref sig .tc .vmem S1x400x256 .f32) (harg6 : arg6.IsWhole) (arg7 : Memref sig .tc .vmem S128x256 .f32) (harg7 : arg7.IsWhole) (arg8 : Memref sig .tc .vmem S400x1600 .f32) (harg8 : arg8.IsWhole) (arg9 : Memref sig .tc .vmem S400x400 .f32) (harg9 : arg9.IsWhole) (arg10 : Memref sig .tc .vmem S400x400 .f32) (harg10 : arg10.IsWhole)
    (hc0 : ¬cond0_0 i) (hc1 : ¬cond0_1 i)
    (x0 x1 : Vec F S400x256 .f32) (x2 : Vec F S128x256 .f32) (x4 x5 : Vec F S1x400x256 .f32) (x6 : Vec F S128x256 .f32) (xt : Vec F S400x1600 .f32) (xc xd : Vec F S400x400 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare xt ∗ owns (c : Thread nD τ) arg9 fullShare xc ∗ owns (c : Thread nD τ) arg10 fullShare xd
            ∗ (iprop(owns (c : Thread nD τ) arg1 fullShare x0 ∗ owns (c : Thread nD τ) arg2 fullShare x1 ∗ owns (c : Thread nD τ) arg3 fullShare x2 ∗ owns (c : Thread nD τ) arg4 fullShare (blockV i xt) ∗ owns (c : Thread nD τ) arg5 fullShare x4 ∗ owns (c : Thread nD τ) arg6 fullShare x5 ∗ owns (c : Thread nD τ) arg7 fullShare x6 ∗ owns (c : Thread nD τ) arg8 fullShare xt ∗ owns (c : Thread nD τ) arg9 fullShare xc ∗ owns (c : Thread nD τ) arg10 fullShare xd) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
    intro E K
    simp only [cc0__fused_kernel_eq_skeleton]; unfold cc0__fused_kernel_skel
    simp only [k0_part14_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hf6; obtain rfl := harg8.eq_unread hfs0; obtain rfl := harg9.eq_unread hfs1; obtain rfl := harg10.eq_unread hfs2

    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [read_store_whole hz4]
      refine Eq.trans (b := k0_pay1 (BitVec.ofNat 32 (i 0).val) (row8 i) (rowSign i) (rowRem i) 0#32 (View.readAt (Elt F) arg8.view (Rect.unit (s := S400x1600) (k0_off1 i) S56x1600.size (k0_off1_inb i)).toLoadRect (harg8.unread xt))) rfl ?_
      rw [View.readAt_eq_ld, Memref.IsWhole.read_unread]; rfl
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

set_option maxHeartbeats 1000000 in
/-- The second point: the token outputs are stored, and a block of rows. -/
theorem runB (c : Dev nD) (i : grid0.Coords) (arg1 : Memref sig .tc .vmem S400x256 .f32) (harg1 : arg1.IsWhole) (arg2 : Memref sig .tc .vmem S400x256 .f32) (harg2 : arg2.IsWhole) (arg3 : Memref sig .tc .vmem S128x256 .f32) (harg3 : arg3.IsWhole) (arg4 : Memref sig .tc .vmem S1x1x160x1600 .f32) (harg4 : arg4.IsWhole) (arg5 : Memref sig .tc .vmem S1x400x256 .f32) (harg5 : arg5.IsWhole) (arg6 : Memref sig .tc .vmem S1x400x256 .f32) (harg6 : arg6.IsWhole) (arg7 : Memref sig .tc .vmem S128x256 .f32) (harg7 : arg7.IsWhole) (arg8 : Memref sig .tc .vmem S400x1600 .f32) (harg8 : arg8.IsWhole) (arg9 : Memref sig .tc .vmem S400x400 .f32) (harg9 : arg9.IsWhole) (arg10 : Memref sig .tc .vmem S400x400 .f32) (harg10 : arg10.IsWhole)
    (hc0 : ¬cond0_0 i) (hc1 : cond0_1 i)
    (x0 x1 : Vec F S400x256 .f32) (x2 : Vec F S128x256 .f32) (xt : Vec F S400x1600 .f32) (xc xd : Vec F S400x400 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xt ∗ owns (c : Thread nD τ) arg9 fullShare xc ∗ owns (c : Thread nD τ) arg10 fullShare xd
            ∗ (iprop(owns (c : Thread nD τ) arg1 fullShare x0 ∗ owns (c : Thread nD τ) arg2 fullShare x1 ∗ owns (c : Thread nD τ) arg3 fullShare x2 ∗ owns (c : Thread nD τ) arg4 fullShare (blockV i xt) ∗ owns (c : Thread nD τ) arg5 fullShare (f0V x0 xc) ∗ owns (c : Thread nD τ) arg6 fullShare (f1V x1 xd) ∗ owns (c : Thread nD τ) arg7 fullShare (t32V x0 x1 x2 xc) ∗ owns (c : Thread nD τ) arg8 fullShare xt ∗ owns (c : Thread nD τ) arg9 fullShare xc ∗ owns (c : Thread nD τ) arg10 fullShare xd) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
    intro E K
    simp only [cc0__fused_kernel_eq_skeleton]; unfold cc0__fused_kernel_skel
    simp only [k0_part14_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg8.eq_unread hfs0; obtain rfl := harg9.eq_unread hfs1; obtain rfl := harg10.eq_unread hfs2
    have e1 : (View.readAt (Elt F) arg1.view (Rect.unit ![0, 0] S400x256.size inb_S400x256_S400x256_0_0).toLoadRect (harg1.unread x0)) = x0 := by
      rw [View.readAt_eq_ld, Memref.IsWhole.read_unread, View.ld_unit_zero hz2]
    have e2 : (View.readAt (Elt F) arg2.view (Rect.unit ![0, 0] S400x256.size inb_S400x256_S400x256_0_0).toLoadRect (harg2.unread x1)) = x1 := by
      rw [View.readAt_eq_ld, Memref.IsWhole.read_unread, View.ld_unit_zero hz2]
    have e3 : (View.readAt (Elt F) arg3.view (Rect.unit ![0, 0] S128x256.size inb_S128x256_S128x256_0_0).toLoadRect (harg3.unread x2)) = x2 := by
      rw [View.readAt_eq_ld, Memref.IsWhole.read_unread, View.ld_unit_zero hz2]
    have e9 : (View.readAt (Elt F) arg9.view (Rect.unit ![0, 0] S400x400.size inb_S400x400_S400x400_0_0).toLoadRect (harg9.unread xc)) = xc := by
      rw [View.readAt_eq_ld, Memref.IsWhole.read_unread, View.ld_unit_zero hz2]
    have e10 : (View.readAt (Elt F) arg10.view (Rect.unit ![0, 0] S400x400.size inb_S400x400_S400x400_0_0).toLoadRect (harg10.unread xd)) = xd := by
      rw [View.readAt_eq_ld, Memref.IsWhole.read_unread, View.ld_unit_zero hz2]

    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [read_store_whole hz4]
      refine Eq.trans (b := k0_pay1 (BitVec.ofNat 32 (i 0).val) (row8 i) (rowSign i) (rowRem i) 0#32 (View.readAt (Elt F) arg8.view (Rect.unit (s := S400x1600) (k0_off1 i) S56x1600.size (k0_off1_inb i)).toLoadRect (harg8.unread xt))) rfl ?_
      rw [View.readAt_eq_ld, Memref.IsWhole.read_unread]; rfl
    isplitl [H4]
    · iexists _; isplitr; swap; · iexact H4
      ipureintro
      rw [read_store_whole hz3]
      rfl
    isplitl [H5]
    · iexists _; isplitr; swap; · iexact H5
      ipureintro
      rw [read_store_whole hz3]
      rfl
    isplitl [H6]
    · iexists _; isplitr; swap; · iexact H6
      ipureintro
      rw [read_store_whole hz2]
      rfl
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Gen

end
-- ==== Proof.Launched.lean ====
/- The pipeline's contents point by point, the body's obligation, the launch, and the frame of the idealized program. -/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The inputs' blocks, the same at every point -/

/-- The first point. -/
abbrev pt0 : Fin cfg0.N := ⟨0, lt_of_lt_of_eq (by decide) N_0.symm⟩

/-- The first features, as every point finds them. -/
def X0 (c : Dev nD) : Vec F S400x256 .f32 := iblk m c 0 pt0
/-- The second features, as every point finds them. -/
def X1 (c : Dev nD) : Vec F S400x256 .f32 := iblk m c 1 pt0
/-- The encodings, as every point finds them. -/
def X2 (c : Dev nD) : Vec F S128x256 .f32 := iblk m c 2 pt0
/-- The correlation. -/
def CC (c : Dev nD) : Vec F S400x400 .f32 := k0_pay5 (X0 m c) (X1 m c)
/-- The transposed correlation. -/
def DD (c : Dev nD) : Vec F S400x400 .f32 := k0_pay6 (X0 m c) (X1 m c)
/-- The correlation with its columns upsampled. -/
def TT (c : Dev nD) : Vec F S400x1600 .f32 := tmpV (X0 m c) (X1 m c)

/-- Each input window is the whole array at every point. -/
theorem iblk_0 (c : Dev nD) (t : Fin cfg0.N) : iblk m c 0 t = X0 m c := rfl
theorem iblk_1 (c : Dev nD) (t : Fin cfg0.N) : iblk m c 1 t = X1 m c := rfl
theorem iblk_2 (c : Dev nD) (t : Fin cfg0.N) : iblk m c 2 t = X2 m c := rfl

/-! ## The proof data -/

/-- The scratch from the second point on: filled by the first. -/
def Held (c : Dev nD) : sProp 𝕄 :=
  iprop(iprop(owns (c : Thread nD τ) scM0_0 fullShare (TT m c) ∗ owns (c : Thread nD τ) scM0_1 fullShare (CC m c) ∗ owns (c : Thread nD τ) scM0_2 fullShare (DD m c)) ∗ (∃ r, prngReg c r))

/-- What the pipeline's buffers hold point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockV (grid0.coords t) (TT m c)
    | ⟨4, _⟩ => f0V (X0 m c) (CC m c)
    | ⟨5, _⟩ => f1V (X1 m c) (DD m c)
    | ⟨6, _⟩ => t32V (X0 m c) (X1 m c) (X2 m c) (CC m c)
  Φ t := if t.val = 0 then Pipeline.ΦA spec0 c else Held m c
  q _ := fullShare
  owed _ := 0

/-- The arrays are as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blockV (grid0.coords t) (TT m c) := by dsimp only [dats]
theorem after0_4 (c : Dev nD) (t : Fin cfg0.N) : (dats m 0 c).after 4 t = f0V (X0 m c) (CC m c) := by dsimp only [dats]
theorem after0_5 (c : Dev nD) (t : Fin cfg0.N) : (dats m 0 c).after 5 t = f1V (X1 m c) (DD m c) := by dsimp only [dats]
theorem after0_6 (c : Dev nD) (t : Fin cfg0.N) : (dats m 0 c).after 6 t = t32V (X0 m c) (X1 m c) (X2 m c) (CC m c) := by dsimp only [dats]

/-- Each input's buffer holds its block at every point. -/
theorem before0_0 (c : Dev nD) (t : Fin cfg0.N) (d) : (dats m 0 c).before 0 t d = X0 m c :=
  before0_0_of m (dats m 0 c) (A_eq m c 0) (after0_0 m c) t d
theorem before0_1 (c : Dev nD) (t : Fin cfg0.N) (d) : (dats m 0 c).before 1 t d = X1 m c :=
  before0_1_of m (dats m 0 c) (A_eq m c 1) (after0_1 m c) t d
theorem before0_2 (c : Dev nD) (t : Fin cfg0.N) (d) : (dats m 0 c).before 2 t d = X2 m c :=
  before0_2_of m (dats m 0 c) (A_eq m c 2) (after0_2 m c) t d

/-! ## The token outputs: stored at the second point, held to the last -/

/-- A window written at the second point only and flushed at the last: what that takes. -/
structure Lazy (w : Fin cfg0.W) : Prop where
  out : (cfg0.win w).isOut = true
  idle : ∀ i : grid0.Coords, cfg0.idle w i = !(k0_cond2 i == 1#1)
  flush : ∀ t : Fin cfg0.N, (cfg0.win w).flush t = true ↔ t.val % 10 = 9
  clip : ∀ (i : grid0.Coords) a, (cfg0.win w).clip i a = none

/-- The three token outputs are such windows. -/
theorem lazy4 : Lazy 4 := ⟨rfl, fun _ => rfl, flush0_4, fun _ _ => rfl⟩
theorem lazy5 : Lazy 5 := ⟨rfl, fun _ => rfl, flush0_5, fun _ _ => rfl⟩
theorem lazy6 : Lazy 6 := ⟨rfl, fun _ => rfl, flush0_6, fun _ _ => rfl⟩

/-- Such a window is not idle at the second point, -/
theorem Lazy.live {w : Fin cfg0.W} (L : Lazy w) {t : Fin cfg0.N} (h : t.val % 10 = 1) : cfg0.idle w (grid0.coords t) = false := by
  rw [L.idle, (hcond0_1 t).mpr h]; rfl
/-- and idle at every other. -/
theorem Lazy.rest {w : Fin cfg0.W} (L : Lazy w) {t : Fin cfg0.N} (h : t.val % 10 ≠ 1) : cfg0.idle w (grid0.coords t) = true := by
  have hn : ¬ k0_cond2 (grid0.coords t) = 1#1 := fun e => h ((hcond0_1 t).mp e)
  rw [L.idle, beq_false_of_ne hn]; rfl
/-- It is not written back before the last point. -/
theorem Lazy.noflush {w : Fin cfg0.W} (L : Lazy w) {t : Fin cfg0.N} (h : t.val % 10 ≠ 9) : (cfg0.win w).flush t = false := by
  rw [Bool.eq_false_iff]; exact fun e => h ((L.flush t).mp e)

/-- From the third point on its buffer holds what the second point stored. -/
theorem Lazy.before {w : Fin cfg0.W} (L : Lazy w) {c : Dev nD} (dat : Dat τ (Elt F) Unit ℕ (UR sig nD τ) ℕ cfg0 c)
    (G : (cfg0.win w).block.Idx → Elt F (cfg0.win w).elt) (ha : ∀ t, dat.after w t = G) (d) :
    ∀ (n : ℕ) (h : n < cfg0.N), 2 ≤ n → dat.before w ⟨n, h⟩ d = G := by
  intro n
  induction n with
  | zero => intro _ h; omega
  | succ n ih =>
    intro h hn
    have hN : n + 1 < 10 := lt_of_lt_of_eq h (show cfg0.N = 10 from N_0)
    rw [dat.before_of_pos w ⟨n + 1, h⟩ (Nat.succ_ne_zero n) ((cfg0.win w).fetch_out L.out _) d]
    have hf : (cfg0.win w).flush ⟨(⟨n + 1, h⟩ : Fin cfg0.N).val - 1, Nat.lt_of_le_of_lt (Nat.sub_le _ _) h⟩ = false :=
      L.noflush (by show (n + 1 - 1) % 10 ≠ 9; omega)
    rw [hf, if_neg Bool.false_ne_true]
    unfold Dat.left
    by_cases h1 : n = 1
    · subst h1
      have e : cfg0.idle w (cfg0.grid.coords ⟨(⟨1 + 1, h⟩ : Fin cfg0.N).val - 1, Nat.lt_of_le_of_lt (Nat.sub_le _ _) h⟩) = false :=
        L.live (by show (1 + 1 - 1) % 10 = 1; rfl)
      rw [e]
      show dat.kept w _ d = G
      unfold Dat.kept
      rw [Pipeline.fill_of_clip_none w _ (L.clip _) d (dat.after w _), Window.fill_cut, ha]
    · have e : cfg0.idle w (cfg0.grid.coords ⟨(⟨n + 1, h⟩ : Fin cfg0.N).val - 1, Nat.lt_of_le_of_lt (Nat.sub_le _ _) h⟩) = true :=
        L.rest (by show (n + 1 - 1) % 10 ≠ 1; omega)
      rw [e]
      exact ih _ (by omega)

/-- At the first point it leaves the buffer as found. -/
theorem Lazy.leaves_first {w : Fin cfg0.W} (L : Lazy w) {c : Dev nD} (dat : Dat τ (Elt F) Unit ℕ (UR sig nD τ) ℕ cfg0 c)
    {t : Fin cfg0.N} (h : t.val % 10 = 0) (d) :
    owns (c : Thread nD τ) ((cfg0.win w).stage (cfg0.slots t w)) fullShare (dat.before w t d) ⊢ dat.leavesExact w t := by
  rw [dat.leavesExact_idle w t (L.rest (by omega)) (L.noflush (by omega))]
  iintro H
  iexists d
  iexact H

/-- At every later point, a buffer holding what the second point stores is what the body leaves. -/
theorem Lazy.leaves_later {w : Fin cfg0.W} (L : Lazy w) {c : Dev nD} (dat : Dat τ (Elt F) Unit ℕ (UR sig nD τ) ℕ cfg0 c)
    (G : (cfg0.win w).block.Idx → Elt F (cfg0.win w).elt) (ha : ∀ t, dat.after w t = G) {t : Fin cfg0.N} (h : t.val ≠ 0) :
    owns (c : Thread nD τ) ((cfg0.win w).stage (cfg0.slots t w)) fullShare G ⊢ dat.leavesExact w t := by
  have hN : t.val < 10 := lt_of_lt_of_eq t.isLt (show cfg0.N = 10 from N_0)
  by_cases h1 : t.val % 10 = 1
  · rw [show dat.leavesExact w t = owns (c : Thread nD τ) ((cfg0.win w).stage (cfg0.slots t w)) fullShare (dat.after w t) from by
      unfold Dat.leavesExact
      rw [show cfg0.idle w (cfg0.grid.coords t) = false from L.live h1], ha]

  · by_cases h9 : t.val % 10 = 9
    · rw [show dat.leavesExact w t = owns (c : Thread nD τ) ((cfg0.win w).stage (cfg0.slots t w)) fullShare (dat.after w t) from by
        unfold Dat.leavesExact
        rw [show cfg0.idle w (cfg0.grid.coords t) = true from L.rest h1, (L.flush t).mpr h9], ha]

    · have e := L.before dat G ha G t.val t.isLt (by omega)
      rw [dat.leavesExact_idle w t (L.rest h1) (L.noflush h9)]
      iintro H
      iexists G
      rw [show dat.before w t G = G from e]
      iexact H

/-! ## The body's obligation -/

/-- At the first point the band starts at row 0. -/
theorem hoff0 (t : Fin cfg0.N) (h : t.val % 10 = 0) : k0_off1 (grid0.coords t) = ![0, 0] := by
  have e0 : (grid0.coords t 0).val = t.val / 1 % 10 := Pipeline.Grid.coords_val t 0 (by decide) rfl
  rw [k0_off1_closed, e0, Nat.div_one, h]; rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A window never idle is left at what the proof data says. -/
theorem leaves_live {c : Dev nD} (dat : Dat τ (Elt F) Unit ℕ (UR sig nD τ) ℕ cfg0 c) (w : Fin cfg0.W) (t : Fin cfg0.N)
    (h : cfg0.idle w (grid0.coords t) = false) :
    owns (c : Thread nD τ) ((cfg0.win w).stage (cfg0.slots t w)) fullShare (dat.after w t) ⊢ dat.leavesExact w t := by
  rw [show dat.leavesExact w t = owns (c : Thread nD τ) ((cfg0.win w).stage (cfg0.slots t w)) fullShare (dat.after w t) from by
    unfold Dat.leavesExact
    rw [show cfg0.idle w (cfg0.grid.coords t) = false from h]]

/-- The scratch after every point holds what the first point stored. -/
theorem Phi_succ (c : Dev nD) (t : Fin cfg0.N) : (dats m 0 c).Φ t.succ = Held m c := by
  dsimp only [dats]; exact if_neg (by rw [Fin.val_succ]; omega)
/-- Before the first point it holds anything, -/
theorem Phi_first (c : Dev nD) (t : Fin cfg0.N) (h : t.val = 0) : (dats m 0 c).Φ t.castSucc = Pipeline.ΦA spec0 c := by
  dsimp only [dats]; exact if_pos h
/-- before a later one what the first stored. -/
theorem Phi_later (c : Dev nD) (t : Fin cfg0.N) (h : t.val ≠ 0) : (dats m 0 c).Φ t.castSucc = Held m c := by
  dsimp only [dats]; exact if_neg h

set_option maxHeartbeats 2400000 in
/-- The body at any point, by the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_succ]
  have hN : t.val < 10 := lt_of_lt_of_eq t.isLt (show cfg0.N = 10 from N_0)
  have L0 := leaves_live (dats m 0 c) 0 t rfl
  have L1 := leaves_live (dats m 0 c) 1 t rfl
  have L2 := leaves_live (dats m 0 c) 2 t rfl
  have L3 := leaves_live (dats m 0 c) 3 t rfl
  rw [after0_0, iblk_0] at L0
  rw [after0_1, iblk_1] at L1
  rw [after0_2, iblk_2] at L2
  rw [after0_3] at L3
  by_cases h0 : t.val % 10 = 0
  · rw [Phi_first m c t (by omega), PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ _ _ ((hcond0_0 t).mpr h0) (fun h => by have := (hcond0_1 t).mp h; omega) (hoff0 t h0) (X0 m c) (X1 m c) (X2 m c) ((dats m 0 c).before 4 t d4) ((dats m 0 c).before 5 t d5) ((dats m 0 c).before 6 t d6)) Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · unfold Held
      isplitl [HS0 HS1 HS2]
      · isplitl [HS0]
        · iexact HS0
        isplitl [HS1]
        · iexact HS1
        iexact HS2
      iexact Hg
    isplitl [Ho]; · iexact Ho
    isplitl [H0]; · iapply L0; iexact H0
    isplitl [H1]; · iapply L1; iexact H1
    isplitl [H2]; · iapply L2; iexact H2
    isplitl [H3]; · iapply L3; iexact H3
    isplitl [H4]; · iapply (lazy4.leaves_first (dats m 0 c) h0 d4); iexact H4
    isplitl [H5]; · iapply (lazy5.leaves_first (dats m 0 c) h0 d5); iexact H5
    iapply (lazy6.leaves_first (dats m 0 c) h0 d6); iexact H6
  · have hz : t.val ≠ 0 := fun e => h0 (by rw [e])
    rw [Phi_later m c t hz]
    unfold Held
    by_cases h1 : t.val % 10 = 1
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ _ _ _ _ (fun h => h0 ((hcond0_0 t).mp h)) ((hcond0_1 t).mpr h1) (X0 m c) (X1 m c) (X2 m c) (TT m c) (CC m c) (DD m c)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iapply L0; iexact H0
      isplitl [H1]; · iapply L1; iexact H1
      isplitl [H2]; · iapply L2; iexact H2
      isplitl [H3]; · iapply L3; iexact H3
      isplitl [H4]; · iapply (lazy4.leaves_later (dats m 0 c) _ (after0_4 m c) hz); iexact H4
      isplitl [H5]; · iapply (lazy5.leaves_later (dats m 0 c) _ (after0_5 m c) hz); iexact H5
      iapply (lazy6.leaves_later (dats m 0 c) _ (after0_6 m c) hz); iexact H6
    · have B4 : ∀ d, (dats m 0 c).before 4 t d = _ := fun d => lazy4.before (dats m 0 c) _ (after0_4 m c) d t.val t.isLt (by omega)
      have B5 : ∀ d, (dats m 0 c).before 5 t d = _ := fun d => lazy5.before (dats m 0 c) _ (after0_5 m c) d t.val t.isLt (by omega)
      have B6 : ∀ d, (dats m 0 c).before 6 t d = _ := fun d => lazy6.before (dats m 0 c) _ (after0_6 m c) d t.val t.isLt (by omega)
      simp only [B4, B5, B6]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ _ _ _ _ _ _ (fun h => h0 ((hcond0_0 t).mp h)) (fun h => h1 ((hcond0_1 t).mp h)) (X0 m c) (X1 m c) (X2 m c) (f0V (X0 m c) (CC m c)) (f1V (X1 m c) (DD m c)) (t32V (X0 m c) (X1 m c) (X2 m c) (CC m c)) (TT m c) (CC m c) (DD m c)) Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iapply L0; iexact H0
      isplitl [H1]; · iapply L1; iexact H1
      isplitl [H2]; · iapply L2; iexact H2
      isplitl [H3]; · iapply L3; iexact H3
      isplitl [H4]; · iapply (lazy4.leaves_later (dats m 0 c) _ (after0_4 m c) hz); iexact H4
      isplitl [H5]; · iapply (lazy5.leaves_later (dats m 0 c) _ (after0_5 m c) hz); iexact H5
      iapply (lazy6.leaves_later (dats m 0 c) _ (after0_6 m c) hz); iexact H6

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point: its triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The scratch as the launch hands it over is the first point's. -/
theorem Phi_in (c : Dev nD) : Pipeline.ΦA spec0 c ⊢ (dats m 0 c).Φ 0 := by
  rw [show (dats m 0 c).Φ 0 = Pipeline.ΦA spec0 c from by dsimp only [dats]; exact if_pos rfl]

/-- After the last point its contents are forgotten. -/
theorem Phi_out (c : Dev nD) : (dats m 0 c).Φ (Fin.last cfg0.N) ⊢ Pipeline.ΦA spec0 c := by
  rw [show (dats m 0 c).Φ (Fin.last cfg0.N) = Held m c from by
    dsimp only [dats]; exact if_neg (by rw [Fin.val_last, show cfg0.N = 10 from N_0]; decide), PhiA0_eq]
  unfold Held
  iintro ⟨⟨H0, H1, H2⟩, Hg⟩
  isplitl [H0 H1 H2]
  · isplitl [H0]
    · iexists _; iexact H0
    isplitl [H1]
    · iexists _; iexact H1
    iexists _; iexact H2
  iexact Hg

set_option backward.isDefEq.respectTransparency.types false in
set_option maxHeartbeats 800000 in
/-- The launch: every run ends with the pipeline's arrays at the write-backs, the host's last lines run over them, and
    every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.RefOps.lean ====
/- The reference's operations as a list, its stages, and the facts its run needs. -/
module

public import proofs.«01_k».proof.Proof.Gen.ReferenceIdeal
public import Idealize.ShloMosaic.Lib.StableHlo.Run
public import Idealize.ShloMosaic.Lib.Pipeline.Frame

@[expose] public section

set_option maxRecDepth 8192
set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v4`, by name. -/
def fn_main_v4 : (main_call0_v15 : Ref sig .tc).ty.Contents (Elt F) → (main_call0_v16 : Ref sig .tc).ty.Contents (Elt F) → (main_v4 : Ref sig .tc).ty.Contents (Elt F) :=
  (fun a b => concatenate S1600 0 [⟨S1599, a⟩, ⟨S1, b⟩] concatenates_S1599_S1_S1600_d0)

/-- The function of the operation that writes `main_v5`, by name. -/
def fn_main_v5 : (main_call1_v15 : Ref sig .tc).ty.Contents (Elt F) → (main_call1_v16 : Ref sig .tc).ty.Contents (Elt F) → (main_v5 : Ref sig .tc).ty.Contents (Elt F) :=
  (fun a b => concatenate S1600 0 [⟨S1599, a⟩, ⟨S1, b⟩] concatenates_S1599_S1_S1600_d0)

/-- The function of the operation that writes `main_v131`, by name. -/
def fn_main_v131 : (⟨S1x100x256, .f32⟩ : BufTy).Contents (Elt F) → (⟨S1x100x256, .f32⟩ : BufTy).Contents (Elt F) → (⟨S1x100x512, .f32⟩ : BufTy).Contents (Elt F) :=
  (fun a b => concatenate S1x100x512 2 [⟨S1x100x256, a⟩, ⟨S1x100x256, b⟩] concatenates_S1x100x256_S1x100x256_S1x100x512_d2)

/-- The function of the operation that writes `main_v174`, by name. -/
def fn_main_v174 : (⟨S1x400x256, .f32⟩ : BufTy).Contents (Elt F) → (⟨S1x400x1, .f32⟩ : BufTy).Contents (Elt F) → (⟨S1x400x257, .f32⟩ : BufTy).Contents (Elt F) :=
  (fun a b => concatenate S1x400x257 2 [⟨S1x400x256, a⟩, ⟨S1x400x1, b⟩] concatenates_S1x400x256_S1x400x1_S1x400x257_d2)

/-- The function of the operation that writes `main_v178`, by name. -/
def fn_main_v178 : (⟨S1x400x256, .f32⟩ : BufTy).Contents (Elt F) → (⟨S1x400x1, .f32⟩ : BufTy).Contents (Elt F) → (⟨S1x400x257, .f32⟩ : BufTy).Contents (Elt F) :=
  (fun a b => concatenate S1x400x257 2 [⟨S1x400x256, a⟩, ⟨S1x400x1, b⟩] concatenates_S1x400x256_S1x400x1_S1x400x257_d2)

/-- @main's operations 1 … 30 of 369 (window `main_part0`). -/
abbrev ops_part0_0 : List (HloOp τ sig (Elt F)) :=
  [ binary main_arg0 main_arg1 main_v0 ((fun l r => Host.dotGeneral dot_S1x400x256_S1x400x256_S1x400x400_2_2_1_1_0_0 none l r) : (⟨S1x400x256, .f32⟩ : BufTy).Contents (Elt F) → (⟨S1x400x256, .f32⟩ : BufTy).Contents (Elt F) → (⟨S1x400x400, .f32⟩ : BufTy).Contents (Elt F)),
    nullary main_cst (constant S_ .f32 0x41800000#32),
    unary main_cst main_v1 (broadcastInDim S1x400x400 ![] bcast_S_S1x400x400 : (⟨S_, .f32⟩ : BufTy).Contents (Elt F) → (⟨S1x400x400, .f32⟩ : BufTy).Contents (Elt F)),
    binary main_v0 main_v1 main_v2 (Host.divf : (⟨S1x400x400, .f32⟩ : BufTy).Contents (Elt F) → (⟨S1x400x400, .f32⟩ : BufTy).Contents (Elt F) → (⟨S1x400x400, .f32⟩ : BufTy).Contents (Elt F)),
    unary main_v2 main_v3 (broadcastInDim S1x1x400x400 ![0, 2, 3] bcast_S1x400x400_S1x1x400x400_0_2_3 : (⟨S1x400x400, .f32⟩ : BufTy).Contents (Elt F) → (⟨S1x1x400x400, .f32⟩ : BufTy).Contents (Elt F)),
    nullary main_cst_0 (constant S_ .f32 0x00000000#32),
    nullary main_cst_1 (constant S_ .f32 0x43C78000#32),
    TRef.unary (TRef.of (T := ⟨S_, .f32⟩) main_cst_0) (TRef.of (T := ⟨S_, .f32⟩) main_call0_v0) id,
    TRef.unary (TRef.of (T := ⟨S_, .f32⟩) main_cst_1) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x44C7E000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S1599, .f32⟩) main_call0_v4) (sitofp .f32 (iotaInDim S1599 32 0)),
    TRef.nullary (TRef.of (T := ⟨S_, .f32⟩) main_call0_cst_0) (constant S_ .f32 0x44C7E000#32),
    TRef.unary (TRef.of (T := ⟨S_, .f32⟩) main_call0_cst_0) (TRef.of (T := ⟨S1599, .f32⟩) main_call0_v5) (broadcastInDim S1599 ![] bcast_S_S1599),
    TRef.binary (TRef.of (T := ⟨S1599, .f32⟩) main_call0_v4) (TRef.of (T := ⟨S1599, .f32⟩) main_call0_v5) (TRef.of (T := ⟨S1599, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S1599, .f32⟩) main_call0_v8) (broadcastInDim S1599 ![] bcast_S_S1599),
    TRef.binary (TRef.of (T := ⟨S1599, .f32⟩) main_call0_v8) (TRef.of (T := ⟨S1599, .f32⟩) main_call0_v6) (TRef.of (T := ⟨S1599, .f32⟩) main_call0_v9) subf,
    TRef.unary (TRef.of (T := ⟨S1, .f32⟩) main_call0_v7) (TRef.of (T := ⟨S1599, .f32⟩) main_call0_v10) (broadcastInDim S1599 ![0] bcast_S1_S1599_0),
    TRef.binary (TRef.of (T := ⟨S1599, .f32⟩) main_call0_v10) (TRef.of (T := ⟨S1599, .f32⟩) main_call0_v9) (TRef.of (T := ⟨S1599, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S1599, .f32⟩) main_call0_v13) (broadcastInDim S1599 ![0] bcast_S1_S1599_0),
    TRef.binary (TRef.of (T := ⟨S1599, .f32⟩) main_call0_v13) (TRef.of (T := ⟨S1599, .f32⟩) main_call0_v6) (TRef.of (T := ⟨S1599, .f32⟩) main_call0_v14) mulf,
    TRef.binary (TRef.of (T := ⟨S1599, .f32⟩) main_call0_v11) (TRef.of (T := ⟨S1599, .f32⟩) main_call0_v14) (TRef.of (T := ⟨S1599, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S1599, .f32⟩) main_call0_v15) (TRef.of (T := ⟨S1, .f32⟩) main_call0_v16) (TRef.of (T := ⟨S1600, .f32⟩) main_v4) (fn_main_v4 (F := F)),
    nullary main_cst_2 (constant S_ .f32 0x00000000#32),
    nullary main_cst_3 (constant S_ .f32 0x43C78000#32) ]

/-- @main's operations 31 … 60 of 369 (window `main_part0`). -/
abbrev ops_part0_1 : List (HloOp τ sig (Elt F)) :=
  [ TRef.unary (TRef.of (T := ⟨S_, .f32⟩) main_cst_2) (TRef.of (T := ⟨S_, .f32⟩) main_call1_v0) id,
    TRef.unary (TRef.of (T := ⟨S_, .f32⟩) main_cst_3) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x44C7E000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S1599, .f32⟩) main_call1_v4) (sitofp .f32 (iotaInDim S1599 32 0)),
    TRef.nullary (TRef.of (T := ⟨S_, .f32⟩) main_call1_cst_0) (constant S_ .f32 0x44C7E000#32),
    TRef.unary (TRef.of (T := ⟨S_, .f32⟩) main_call1_cst_0) (TRef.of (T := ⟨S1599, .f32⟩) main_call1_v5) (broadcastInDim S1599 ![] bcast_S_S1599),
    TRef.binary (TRef.of (T := ⟨S1599, .f32⟩) main_call1_v4) (TRef.of (T := ⟨S1599, .f32⟩) main_call1_v5) (TRef.of (T := ⟨S1599, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S1599, .f32⟩) main_call1_v8) (broadcastInDim S1599 ![] bcast_S_S1599),
    TRef.binary (TRef.of (T := ⟨S1599, .f32⟩) main_call1_v8) (TRef.of (T := ⟨S1599, .f32⟩) main_call1_v6) (TRef.of (T := ⟨S1599, .f32⟩) main_call1_v9) subf,
    TRef.unary (TRef.of (T := ⟨S1, .f32⟩) main_call1_v7) (TRef.of (T := ⟨S1599, .f32⟩) main_call1_v10) (broadcastInDim S1599 ![0] bcast_S1_S1599_0),
    TRef.binary (TRef.of (T := ⟨S1599, .f32⟩) main_call1_v10) (TRef.of (T := ⟨S1599, .f32⟩) main_call1_v9) (TRef.of (T := ⟨S1599, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S1599, .f32⟩) main_call1_v13) (broadcastInDim S1599 ![0] bcast_S1_S1599_0),
    TRef.binary (TRef.of (T := ⟨S1599, .f32⟩) main_call1_v13) (TRef.of (T := ⟨S1599, .f32⟩) main_call1_v6) (TRef.of (T := ⟨S1599, .f32⟩) main_call1_v14) mulf,
    TRef.binary (TRef.of (T := ⟨S1599, .f32⟩) main_call1_v11) (TRef.of (T := ⟨S1599, .f32⟩) main_call1_v14) (TRef.of (T := ⟨S1599, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S1599, .f32⟩) main_call1_v15) (TRef.of (T := ⟨S1, .f32⟩) main_call1_v16) (TRef.of (T := ⟨S1600, .f32⟩) main_v5) (fn_main_v5 (F := F)),
    unary main_v4 main_v6 (Host.floor : (⟨S1600, .f32⟩ : BufTy).Contents (Elt F) → (⟨S1600, .f32⟩ : BufTy).Contents (Elt F)),
    unary main_v6 main_v7 (fptosi 32 : (⟨S1600, .f32⟩ : BufTy).Contents (Elt F) → (⟨S1600, .i32⟩ : BufTy).Contents (Elt F)),
    unary main_v5 main_v8 (Host.floor : (⟨S1600, .f32⟩ : BufTy).Contents (Elt F) → (⟨S1600, .f32⟩ : BufTy).Contents (Elt F)),
    unary main_v8 main_v9 (fptosi 32 : (⟨S1600, .f32⟩ : BufTy).Contents (Elt F) → (⟨S1600, .i32⟩ : BufTy).Contents (Elt F)),
    nullary main_c (constantI S_ 32 1#32),
    unary main_c main_v10 (broadcastInDim S1600 ![] bcast_S_S1600 : (⟨S_, .i32⟩ : BufTy).Contents (Elt F) → (⟨S1600, .i32⟩ : BufTy).Contents (Elt F)),
    binary main_v7 main_v10 main_v11 (addi : (⟨S1600, .i32⟩ : BufTy).Contents (Elt F) → (⟨S1600, .i32⟩ : BufTy).Contents (Elt F) → (⟨S1600, .i32⟩ : BufTy).Contents (Elt F)),
    nullary main_c_4 (constantI S_ 32 399#32),
    unary main_c_4 main_v12 (broadcastInDim S1600 ![] bcast_S_S1600 : (⟨S_, .i32⟩ : BufTy).Contents (Elt F) → (⟨S1600, .i32⟩ : BufTy).Contents (Elt F)) ]

/-- @main's operations 61 … 90 of 369 (window `main_part0`). -/
abbrev ops_part0_2 : List (HloOp τ sig (Elt F)) :=
  [ binary main_v11 main_v12 main_v13 (minsi : (⟨S1600, .i32⟩ : BufTy).Contents (Elt F) → (⟨S1600, .i32⟩ : BufTy).Contents (Elt F) → (⟨S1600, .i32⟩ : BufTy).Contents (Elt F)),
    nullary main_c_5 (constantI S_ 32 1#32),
    unary main_c_5 main_v14 (broadcastInDim S1600 ![] bcast_S_S1600 : (⟨S_, .i32⟩ : BufTy).Contents (Elt F) → (⟨S1600, .i32⟩ : BufTy).Contents (Elt F)),
    binary main_v9 main_v14 main_v15 (addi : (⟨S1600, .i32⟩ : BufTy).Contents (Elt F) → (⟨S1600, .i32⟩ : BufTy).Contents (Elt F) → (⟨S1600, .i32⟩ : BufTy).Contents (Elt F)),
    nullary main_c_6 (constantI S_ 32 399#32),
    unary main_c_6 main_v16 (broadcastInDim S1600 ![] bcast_S_S1600 : (⟨S_, .i32⟩ : BufTy).Contents (Elt F) → (⟨S1600, .i32⟩ : BufTy).Contents (Elt F)),
    binary main_v15 main_v16 main_v17 (minsi : (⟨S1600, .i32⟩ : BufTy).Contents (Elt F) → (⟨S1600, .i32⟩ : BufTy).Contents (Elt F) → (⟨S1600, .i32⟩ : BufTy).Contents (Elt F)),
    unary main_v7 main_v18 (sitofp .f32 : (⟨S1600, .i32⟩ : BufTy).Contents (Elt F) → (⟨S1600, .f32⟩ : BufTy).Contents (Elt F)),
    binary main_v4 main_v18 main_v19 (subf : (⟨S1600, .f32⟩ : BufTy).Contents (Elt F) → (⟨S1600, .f32⟩ : BufTy).Contents (Elt F) → (⟨S1600, .f32⟩ : BufTy).Contents (Elt F)),
    unary main_v19 main_v20 (broadcastInDim S1x1x1600x1 ![2] bcast_S1600_S1x1x1600x1_2 : (⟨S1600, .f32⟩ : BufTy).Contents (Elt F) → (⟨S1x1x1600x1, .f32⟩ : BufTy).Contents (Elt F)),
    unary main_v9 main_v21 (sitofp .f32 : (⟨S1600, .i32⟩ : BufTy).Contents (Elt F) → (⟨S1600, .f32⟩ : BufTy).Contents (Elt F)),
    binary main_v5 main_v21 main_v22 (subf : (⟨S1600, .f32⟩ : BufTy).Contents (Elt F) → (⟨S1600, .f32⟩ : BufTy).Contents (Elt F) → (⟨S1600, .f32⟩ : BufTy).Contents (Elt F)),
    unary main_v22 main_v23 (broadcastInDim S1x1x1x1600 ![3] bcast_S1600_S1x1x1x1600_3 : (⟨S1600, .f32⟩ : BufTy).Contents (Elt F) → (⟨S1x1x1x1600, .f32⟩ : BufTy).Contents (Elt F)),
    nullary main_c_7 (constantI S_ 32 0#32),
    unary main_c_7 main_v24 (broadcastInDim S1600 ![] bcast_S_S1600 : (⟨S_, .i32⟩ : BufTy).Contents (Elt F) → (⟨S1600, .i32⟩ : BufTy).Contents (Elt F)),
    binary main_v7 main_v24 main_v25 (cmpi .slt : (⟨S1600, .i32⟩ : BufTy).Contents (Elt F) → (⟨S1600, .i32⟩ : BufTy).Contents (Elt F) → (⟨S1600, .i1⟩ : BufTy).Contents (Elt F)),
    nullary main_c_8 (constantI S_ 32 400#32),
    unary main_c_8 main_v26 (broadcastInDim S1600 ![] bcast_S_S1600 : (⟨S_, .i32⟩ : BufTy).Contents (Elt F) → (⟨S1600, .i32⟩ : BufTy).Contents (Elt F)),
    binary main_v7 main_v26 main_v27 (addi : (⟨S1600, .i32⟩ : BufTy).Contents (Elt F) → (⟨S1600, .i32⟩ : BufTy).Contents (Elt F) → (⟨S1600, .i32⟩ : BufTy).Contents (Elt F)),
    ternary main_v25 main_v27 main_v7 main_v28 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v28 main_v29 (broadcastInDim S1600x1 ![0] bcast_S1600_S1600x1_0 : (⟨S1600, .i32⟩ : BufTy).Contents (Elt F) → (⟨S1600x1, .i32⟩ : BufTy).Contents (Elt F)),
    binary main_v3 main_v29 main_v30 ((fun x i => Host.gather gather_S1x1x400x400_S1600x1_S1x1x1600x400_013_2_n_n_2_1_111400 x i) : (⟨S1x1x400x400, .f32⟩ : BufTy).Contents (Elt F) → (⟨S1600x1, .i32⟩ : BufTy).Contents (Elt F) → (⟨S1x1x1600x400, .f32⟩ : BufTy).Contents (Elt F)),
    nullary main_c_9 (constantI S_ 32 0#32),
    unary main_c_9 main_v31 (broadcastInDim S1600 ![] bcast_S_S1600 : (⟨S_, .i32⟩ : BufTy).Contents (Elt F) → (⟨S1600, .i32⟩ : BufTy).Contents (Elt F)),
    binary main_v13 main_v31 main_v32 (cmpi .slt : (⟨S1600, .i32⟩ : BufTy).Contents (Elt F) → (⟨S1600, .i32⟩ : BufTy).Contents (Elt F) → (⟨S1600, .i1⟩ : BufTy).Contents (Elt F)),
    nullary main_c_10 (constantI S_ 32 400#32),
    unary main_c_10 main_v33 (broadcastInDim S1600 ![] bcast_S_S1600 : (⟨S_, .i32⟩ : BufTy).Contents (Elt F) → (⟨S1600, .i32⟩ : BufTy).Contents (Elt F)),
    binary main_v13 main_v33 main_v34 (addi : (⟨S1600, .i32⟩ : BufTy).Contents (Elt F) → (⟨S1600, .i32⟩ : BufTy).Contents (Elt F) → (⟨S1600, .i32⟩ : BufTy).Contents (Elt F)),
    ternary main_v32 main_v34 main_v13 main_v35 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v35 main_v36 (broadcastInDim S1600x1 ![0] bcast_S1600_S1600x1_0 : (⟨S1600, .i32⟩ : BufTy).Contents (Elt F) → (⟨S1600x1, .i32⟩ : BufTy).Contents (Elt F)) ]

/-- @main's operations 91 … 100 of 369 (window `main_part0`). -/
abbrev ops_part0_3 : List (HloOp τ sig (Elt F)) :=
  [ binary main_v3 main_v36 main_v37 ((fun x i => Host.gather gather_S1x1x400x400_S1600x1_S1x1x1600x400_013_2_n_n_2_1_111400 x i) : (⟨S1x1x400x400, .f32⟩ : BufTy).Contents (Elt F) → (⟨S1600x1, .i32⟩ : BufTy).Contents (Elt F) → (⟨S1x1x1600x400, .f32⟩ : BufTy).Contents (Elt F)),
    nullary main_c_11 (constantI S_ 32 0#32),
    unary main_c_11 main_v38 (broadcastInDim S1600 ![] bcast_S_S1600 : (⟨S_, .i32⟩ : BufTy).Contents (Elt F) → (⟨S1600, .i32⟩ : BufTy).Contents (Elt F)),
    binary main_v9 main_v38 main_v39 (cmpi .slt : (⟨S1600, .i32⟩ : BufTy).Contents (Elt F) → (⟨S1600, .i32⟩ : BufTy).Contents (Elt F) → (⟨S1600, .i1⟩ : BufTy).Contents (Elt F)),
    nullary main_c_12 (constantI S_ 32 400#32),
    unary main_c_12 main_v40 (broadcastInDim S1600 ![] bcast_S_S1600 : (⟨S_, .i32⟩ : BufTy).Contents (Elt F) → (⟨S1600, .i32⟩ : BufTy).Contents (Elt F)),
    binary main_v9 main_v40 main_v41 (addi : (⟨S1600, .i32⟩ : BufTy).Contents (Elt F) → (⟨S1600, .i32⟩ : BufTy).Contents (Elt F) → (⟨S1600, .i32⟩ : BufTy).Contents (Elt F)),
    ternary main_v39 main_v41 main_v9 main_v42 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v42 main_v43 (broadcastInDim S1600x1 ![0] bcast_S1600_S1600x1_0 : (⟨S1600, .i32⟩ : BufTy).Contents (Elt F) → (⟨S1600x1, .i32⟩ : BufTy).Contents (Elt F)),
    binary main_v30 main_v43 main_v44 ((fun x i => Host.gather gather_S1x1x1600x400_S1600x1_S1x1x1600x1600_012_3_n_n_3_1_1116001 x i) : (⟨S1x1x1600x400, .f32⟩ : BufTy).Contents (Elt F) → (⟨S1600x1, .i32⟩ : BufTy).Contents (Elt F) → (⟨S1x1x1600x1600, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 101 … 160 of 369 (window `main_part1`). -/
abbrev ops_part1 : List (HloOp τ sig (Elt F)) :=
  [ nullary main_c_13 (constantI S_ 32 0#32),
    unary main_c_13 main_v45 (broadcastInDim S1600 ![] bcast_S_S1600 : (⟨S_, .i32⟩ : BufTy).Contents (Elt F) → (⟨S1600, .i32⟩ : BufTy).Contents (Elt F)),
    binary main_v17 main_v45 main_v46 (cmpi .slt : (⟨S1600, .i32⟩ : BufTy).Contents (Elt F) → (⟨S1600, .i32⟩ : BufTy).Contents (Elt F) → (⟨S1600, .i1⟩ : BufTy).Contents (Elt F)),
    nullary main_c_14 (constantI S_ 32 400#32),
    unary main_c_14 main_v47 (broadcastInDim S1600 ![] bcast_S_S1600 : (⟨S_, .i32⟩ : BufTy).Contents (Elt F) → (⟨S1600, .i32⟩ : BufTy).Contents (Elt F)),
    binary main_v17 main_v47 main_v48 (addi : (⟨S1600, .i32⟩ : BufTy).Contents (Elt F) → (⟨S1600, .i32⟩ : BufTy).Contents (Elt F) → (⟨S1600, .i32⟩ : BufTy).Contents (Elt F)),
    ternary main_v46 main_v48 main_v17 main_v49 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v49 main_v50 (broadcastInDim S1600x1 ![0] bcast_S1600_S1600x1_0 : (⟨S1600, .i32⟩ : BufTy).Contents (Elt F) → (⟨S1600x1, .i32⟩ : BufTy).Contents (Elt F)),
    binary main_v30 main_v50 main_v51 ((fun x i => Host.gather gather_S1x1x1600x400_S1600x1_S1x1x1600x1600_012_3_n_n_3_1_1116001 x i) : (⟨S1x1x1600x400, .f32⟩ : BufTy).Contents (Elt F) → (⟨S1600x1, .i32⟩ : BufTy).Contents (Elt F) → (⟨S1x1x1600x1600, .f32⟩ : BufTy).Contents (Elt F)),
    nullary main_c_15 (constantI S_ 32 0#32),
    unary main_c_15 main_v52 (broadcastInDim S1600 ![] bcast_S_S1600 : (⟨S_, .i32⟩ : BufTy).Contents (Elt F) → (⟨S1600, .i32⟩ : BufTy).Contents (Elt F)),
    binary main_v9 main_v52 main_v53 (cmpi .slt : (⟨S1600, .i32⟩ : BufTy).Contents (Elt F) → (⟨S1600, .i32⟩ : BufTy).Contents (Elt F) → (⟨S1600, .i1⟩ : BufTy).Contents (Elt F)),
    nullary main_c_16 (constantI S_ 32 400#32),
    unary main_c_16 main_v54 (broadcastInDim S1600 ![] bcast_S_S1600 : (⟨S_, .i32⟩ : BufTy).Contents (Elt F) → (⟨S1600, .i32⟩ : BufTy).Contents (Elt F)),
    binary main_v9 main_v54 main_v55 (addi : (⟨S1600, .i32⟩ : BufTy).Contents (Elt F) → (⟨S1600, .i32⟩ : BufTy).Contents (Elt F) → (⟨S1600, .i32⟩ : BufTy).Contents (Elt F)),
    ternary main_v53 main_v55 main_v9 main_v56 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v56 main_v57 (broadcastInDim S1600x1 ![0] bcast_S1600_S1600x1_0 : (⟨S1600, .i32⟩ : BufTy).Contents (Elt F) → (⟨S1600x1, .i32⟩ : BufTy).Contents (Elt F)),
    binary main_v37 main_v57 main_v58 ((fun x i => Host.gather gather_S1x1x1600x400_S1600x1_S1x1x1600x1600_012_3_n_n_3_1_1116001 x i) : (⟨S1x1x1600x400, .f32⟩ : BufTy).Contents (Elt F) → (⟨S1600x1, .i32⟩ : BufTy).Contents (Elt F) → (⟨S1x1x1600x1600, .f32⟩ : BufTy).Contents (Elt F)),
    nullary main_c_17 (constantI S_ 32 0#32),
    unary main_c_17 main_v59 (broadcastInDim S1600 ![] bcast_S_S1600 : (⟨S_, .i32⟩ : BufTy).Contents (Elt F) → (⟨S1600, .i32⟩ : BufTy).Contents (Elt F)),
    binary main_v17 main_v59 main_v60 (cmpi .slt : (⟨S1600, .i32⟩ : BufTy).Contents (Elt F) → (⟨S1600, .i32⟩ : BufTy).Contents (Elt F) → (⟨S1600, .i1⟩ : BufTy).Contents (Elt F)),
    nullary main_c_18 (constantI S_ 32 400#32),
    unary main_c_18 main_v61 (broadcastInDim S1600 ![] bcast_S_S1600 : (⟨S_, .i32⟩ : BufTy).Contents (Elt F) → (⟨S1600, .i32⟩ : BufTy).Contents (Elt F)),
    binary main_v17 main_v61 main_v62 (addi : (⟨S1600, .i32⟩ : BufTy).Contents (Elt F) → (⟨S1600, .i32⟩ : BufTy).Contents (Elt F) → (⟨S1600, .i32⟩ : BufTy).Contents (Elt F)),
    ternary main_v60 main_v62 main_v17 main_v63 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v63 main_v64 (broadcastInDim S1600x1 ![0] bcast_S1600_S1600x1_0 : (⟨S1600, .i32⟩ : BufTy).Contents (Elt F) → (⟨S1600x1, .i32⟩ : BufTy).Contents (Elt F)),
    binary main_v37 main_v64 main_v65 ((fun x i => Host.gather gather_S1x1x1600x400_S1600x1_S1x1x1600x1600_012_3_n_n_3_1_1116001 x i) : (⟨S1x1x1600x400, .f32⟩ : BufTy).Contents (Elt F) → (⟨S1600x1, .i32⟩ : BufTy).Contents (Elt F) → (⟨S1x1x1600x1600, .f32⟩ : BufTy).Contents (Elt F)),
    nullary main_cst_19 (constant S_ .f32 0x3F800000#32),
    unary main_cst_19 main_v66 (broadcastInDim S1x1x1600x1 ![] bcast_S_S1x1x1600x1 : (⟨S_, .f32⟩ : BufTy).Contents (Elt F) → (⟨S1x1x1600x1, .f32⟩ : BufTy).Contents (Elt F)),
    binary main_v66 main_v20 main_v67 (subf : (⟨S1x1x1600x1, .f32⟩ : BufTy).Contents (Elt F) → (⟨S1x1x1600x1, .f32⟩ : BufTy).Contents (Elt F) → (⟨S1x1x1600x1, .f32⟩ : BufTy).Contents (Elt F)),
    unary main_v67 main_v68 (broadcastInDim S1x1x1600x1600 ![0, 1, 2, 3] bcast_S1x1x1600x1_S1x1x1600x1600_0_1_2_3 : (⟨S1x1x1600x1, .f32⟩ : BufTy).Contents (Elt F) → (⟨S1x1x1600x1600, .f32⟩ : BufTy).Contents (Elt F)),
    binary main_v44 main_v68 main_v69 (mulf : (⟨S1x1x1600x1600, .f32⟩ : BufTy).Contents (Elt F) → (⟨S1x1x1600x1600, .f32⟩ : BufTy).Contents (Elt F) → (⟨S1x1x1600x1600, .f32⟩ : BufTy).Contents (Elt F)),
    nullary main_cst_20 (constant S_ .f32 0x3F800000#32),
    unary main_cst_20 main_v70 (broadcastInDim S1x1x1x1600 ![] bcast_S_S1x1x1x1600 : (⟨S_, .f32⟩ : BufTy).Contents (Elt F) → (⟨S1x1x1x1600, .f32⟩ : BufTy).Contents (Elt F)),
    binary main_v70 main_v23 main_v71 (subf : (⟨S1x1x1x1600, .f32⟩ : BufTy).Contents (Elt F) → (⟨S1x1x1x1600, .f32⟩ : BufTy).Contents (Elt F) → (⟨S1x1x1x1600, .f32⟩ : BufTy).Contents (Elt F)),
    unary main_v71 main_v72 (broadcastInDim S1x1x1600x1600 ![0, 1, 2, 3] bcast_S1x1x1x1600_S1x1x1600x1600_0_1_2_3 : (⟨S1x1x1x1600, .f32⟩ : BufTy).Contents (Elt F) → (⟨S1x1x1600x1600, .f32⟩ : BufTy).Contents (Elt F)),
    binary main_v69 main_v72 main_v73 (mulf : (⟨S1x1x1600x1600, .f32⟩ : BufTy).Contents (Elt F) → (⟨S1x1x1600x1600, .f32⟩ : BufTy).Contents (Elt F) → (⟨S1x1x1600x1600, .f32⟩ : BufTy).Contents (Elt F)),
    nullary main_cst_21 (constant S_ .f32 0x3F800000#32),
    unary main_cst_21 main_v74 (broadcastInDim S1x1x1600x1 ![] bcast_S_S1x1x1600x1 : (⟨S_, .f32⟩ : BufTy).Contents (Elt F) → (⟨S1x1x1600x1, .f32⟩ : BufTy).Contents (Elt F)),
    binary main_v74 main_v20 main_v75 (subf : (⟨S1x1x1600x1, .f32⟩ : BufTy).Contents (Elt F) → (⟨S1x1x1600x1, .f32⟩ : BufTy).Contents (Elt F) → (⟨S1x1x1600x1, .f32⟩ : BufTy).Contents (Elt F)),
    unary main_v75 main_v76 (broadcastInDim S1x1x1600x1600 ![0, 1, 2, 3] bcast_S1x1x1600x1_S1x1x1600x1600_0_1_2_3 : (⟨S1x1x1600x1, .f32⟩ : BufTy).Contents (Elt F) → (⟨S1x1x1600x1600, .f32⟩ : BufTy).Contents (Elt F)),
    binary main_v51 main_v76 main_v77 (mulf : (⟨S1x1x1600x1600, .f32⟩ : BufTy).Contents (Elt F) → (⟨S1x1x1600x1600, .f32⟩ : BufTy).Contents (Elt F) → (⟨S1x1x1600x1600, .f32⟩ : BufTy).Contents (Elt F)),
    unary main_v23 main_v78 (broadcastInDim S1x1x1600x1600 ![0, 1, 2, 3] bcast_S1x1x1x1600_S1x1x1600x1600_0_1_2_3 : (⟨S1x1x1x1600, .f32⟩ : BufTy).Contents (Elt F) → (⟨S1x1x1600x1600, .f32⟩ : BufTy).Contents (Elt F)),
    binary main_v77 main_v78 main_v79 (mulf : (⟨S1x1x1600x1600, .f32⟩ : BufTy).Contents (Elt F) → (⟨S1x1x1600x1600, .f32⟩ : BufTy).Contents (Elt F) → (⟨S1x1x1600x1600, .f32⟩ : BufTy).Contents (Elt F)),
    binary main_v73 main_v79 main_v80 (addf : (⟨S1x1x1600x1600, .f32⟩ : BufTy).Contents (Elt F) → (⟨S1x1x1600x1600, .f32⟩ : BufTy).Contents (Elt F) → (⟨S1x1x1600x1600, .f32⟩ : BufTy).Contents (Elt F)),
    unary main_v20 main_v81 (broadcastInDim S1x1x1600x1600 ![0, 1, 2, 3] bcast_S1x1x1600x1_S1x1x1600x1600_0_1_2_3 : (⟨S1x1x1600x1, .f32⟩ : BufTy).Contents (Elt F) → (⟨S1x1x1600x1600, .f32⟩ : BufTy).Contents (Elt F)),
    binary main_v58 main_v81 main_v82 (mulf : (⟨S1x1x1600x1600, .f32⟩ : BufTy).Contents (Elt F) → (⟨S1x1x1600x1600, .f32⟩ : BufTy).Contents (Elt F) → (⟨S1x1x1600x1600, .f32⟩ : BufTy).Contents (Elt F)),
    nullary main_cst_22 (constant S_ .f32 0x3F800000#32),
    unary main_cst_22 main_v83 (broadcastInDim S1x1x1x1600 ![] bcast_S_S1x1x1x1600 : (⟨S_, .f32⟩ : BufTy).Contents (Elt F) → (⟨S1x1x1x1600, .f32⟩ : BufTy).Contents (Elt F)),
    binary main_v83 main_v23 main_v84 (subf : (⟨S1x1x1x1600, .f32⟩ : BufTy).Contents (Elt F) → (⟨S1x1x1x1600, .f32⟩ : BufTy).Contents (Elt F) → (⟨S1x1x1x1600, .f32⟩ : BufTy).Contents (Elt F)),
    unary main_v84 main_v85 (broadcastInDim S1x1x1600x1600 ![0, 1, 2, 3] bcast_S1x1x1x1600_S1x1x1600x1600_0_1_2_3 : (⟨S1x1x1x1600, .f32⟩ : BufTy).Contents (Elt F) → (⟨S1x1x1600x1600, .f32⟩ : BufTy).Contents (Elt F)),
    binary main_v82 main_v85 main_v86 (mulf : (⟨S1x1x1600x1600, .f32⟩ : BufTy).Contents (Elt F) → (⟨S1x1x1600x1600, .f32⟩ : BufTy).Contents (Elt F) → (⟨S1x1x1600x1600, .f32⟩ : BufTy).Contents (Elt F)),
    binary main_v80 main_v86 main_v87 (addf : (⟨S1x1x1600x1600, .f32⟩ : BufTy).Contents (Elt F) → (⟨S1x1x1600x1600, .f32⟩ : BufTy).Contents (Elt F) → (⟨S1x1x1600x1600, .f32⟩ : BufTy).Contents (Elt F)),
    unary main_v20 main_v88 (broadcastInDim S1x1x1600x1600 ![0, 1, 2, 3] bcast_S1x1x1600x1_S1x1x1600x1600_0_1_2_3 : (⟨S1x1x1600x1, .f32⟩ : BufTy).Contents (Elt F) → (⟨S1x1x1600x1600, .f32⟩ : BufTy).Contents (Elt F)),
    binary main_v65 main_v88 main_v89 (mulf : (⟨S1x1x1600x1600, .f32⟩ : BufTy).Contents (Elt F) → (⟨S1x1x1600x1600, .f32⟩ : BufTy).Contents (Elt F) → (⟨S1x1x1600x1600, .f32⟩ : BufTy).Contents (Elt F)),
    unary main_v23 main_v90 (broadcastInDim S1x1x1600x1600 ![0, 1, 2, 3] bcast_S1x1x1x1600_S1x1x1600x1600_0_1_2_3 : (⟨S1x1x1x1600, .f32⟩ : BufTy).Contents (Elt F) → (⟨S1x1x1600x1600, .f32⟩ : BufTy).Contents (Elt F)),
    binary main_v89 main_v90 main_v91 (mulf : (⟨S1x1x1600x1600, .f32⟩ : BufTy).Contents (Elt F) → (⟨S1x1x1600x1600, .f32⟩ : BufTy).Contents (Elt F) → (⟨S1x1x1600x1600, .f32⟩ : BufTy).Contents (Elt F)),
    binary main_v87 main_v91 main_v92 (addf : (⟨S1x1x1600x1600, .f32⟩ : BufTy).Contents (Elt F) → (⟨S1x1x1600x1600, .f32⟩ : BufTy).Contents (Elt F) → (⟨S1x1x1600x1600, .f32⟩ : BufTy).Contents (Elt F)),
    nullary main_cst_23 (constant S_ .f32 0xFF800000#32),
    binary main_v2 main_cst_23 main_v93 ((fun x v => Host.reduce FloatOps.maximumf x v reducesTo_S1x400x400_S1x400_d1 h_S_) : (⟨S1x400x400, .f32⟩ : BufTy).Contents (Elt F) → (⟨S_, .f32⟩ : BufTy).Contents (Elt F) → (⟨S1x400, .f32⟩ : BufTy).Contents (Elt F)) ]

/-- @main's operations 161 … 190 of 369 (window `main_part2`). -/
abbrev ops_part2_0 : List (HloOp τ sig (Elt F)) :=
  [ nullary main_cst_24 (constant S_ .f32 0xFF800000#32),
    unary main_cst_24 main_v94 (broadcastInDim S1x400 ![] bcast_S_S1x400 : (⟨S_, .f32⟩ : BufTy).Contents (Elt F) → (⟨S1x400, .f32⟩ : BufTy).Contents (Elt F)),
    binary main_v94 main_v93 main_v95 (maximumf : (⟨S1x400, .f32⟩ : BufTy).Contents (Elt F) → (⟨S1x400, .f32⟩ : BufTy).Contents (Elt F) → (⟨S1x400, .f32⟩ : BufTy).Contents (Elt F)),
    unary main_v95 main_v96 (broadcastInDim S1x1x400 ![0, 2] bcast_S1x400_S1x1x400_0_2 : (⟨S1x400, .f32⟩ : BufTy).Contents (Elt F) → (⟨S1x1x400, .f32⟩ : BufTy).Contents (Elt F)),
    unary main_v96 main_v97 (broadcastInDim S1x400x400 ![0, 1, 2] bcast_S1x1x400_S1x400x400_0_1_2 : (⟨S1x1x400, .f32⟩ : BufTy).Contents (Elt F) → (⟨S1x400x400, .f32⟩ : BufTy).Contents (Elt F)),
    binary main_v2 main_v97 main_v98 (subf : (⟨S1x400x400, .f32⟩ : BufTy).Contents (Elt F) → (⟨S1x400x400, .f32⟩ : BufTy).Contents (Elt F) → (⟨S1x400x400, .f32⟩ : BufTy).Contents (Elt F)),
    unary main_v98 main_v99 (Host.exp : (⟨S1x400x400, .f32⟩ : BufTy).Contents (Elt F) → (⟨S1x400x400, .f32⟩ : BufTy).Contents (Elt F)),
    nullary main_cst_25 (constant S_ .f32 0x00000000#32),
    binary main_v99 main_cst_25 main_v100 ((fun x v => Host.reduceAdd x v reducesTo_S1x400x400_S1x400_d1 h_S_) : (⟨S1x400x400, .f32⟩ : BufTy).Contents (Elt F) → (⟨S_, .f32⟩ : BufTy).Contents (Elt F) → (⟨S1x400, .f32⟩ : BufTy).Contents (Elt F)),
    unary main_v100 main_v101 (broadcastInDim S1x1x400 ![0, 2] bcast_S1x400_S1x1x400_0_2 : (⟨S1x400, .f32⟩ : BufTy).Contents (Elt F) → (⟨S1x1x400, .f32⟩ : BufTy).Contents (Elt F)),
    unary main_v101 main_v102 (broadcastInDim S1x400x400 ![0, 1, 2] bcast_S1x1x400_S1x400x400_0_1_2 : (⟨S1x1x400, .f32⟩ : BufTy).Contents (Elt F) → (⟨S1x400x400, .f32⟩ : BufTy).Contents (Elt F)),
    binary main_v99 main_v102 main_v103 (Host.divf : (⟨S1x400x400, .f32⟩ : BufTy).Contents (Elt F) → (⟨S1x400x400, .f32⟩ : BufTy).Contents (Elt F) → (⟨S1x400x400, .f32⟩ : BufTy).Contents (Elt F)),
    nullary main_cst_26 (constant S_ .f32 0xFF800000#32),
    binary main_v2 main_cst_26 main_v104 ((fun x v => Host.reduce FloatOps.maximumf x v reducesTo_S1x400x400_S1x400_d2 h_S_) : (⟨S1x400x400, .f32⟩ : BufTy).Contents (Elt F) → (⟨S_, .f32⟩ : BufTy).Contents (Elt F) → (⟨S1x400, .f32⟩ : BufTy).Contents (Elt F)),
    nullary main_cst_27 (constant S_ .f32 0xFF800000#32),
    unary main_cst_27 main_v105 (broadcastInDim S1x400 ![] bcast_S_S1x400 : (⟨S_, .f32⟩ : BufTy).Contents (Elt F) → (⟨S1x400, .f32⟩ : BufTy).Contents (Elt F)),
    binary main_v105 main_v104 main_v106 (maximumf : (⟨S1x400, .f32⟩ : BufTy).Contents (Elt F) → (⟨S1x400, .f32⟩ : BufTy).Contents (Elt F) → (⟨S1x400, .f32⟩ : BufTy).Contents (Elt F)),
    unary main_v106 main_v107 (broadcastInDim S1x400x1 ![0, 1] bcast_S1x400_S1x400x1_0_1 : (⟨S1x400, .f32⟩ : BufTy).Contents (Elt F) → (⟨S1x400x1, .f32⟩ : BufTy).Contents (Elt F)),
    unary main_v107 main_v108 (broadcastInDim S1x400x400 ![0, 1, 2] bcast_S1x400x1_S1x400x400_0_1_2 : (⟨S1x400x1, .f32⟩ : BufTy).Contents (Elt F) → (⟨S1x400x400, .f32⟩ : BufTy).Contents (Elt F)),
    binary main_v2 main_v108 main_v109 (subf : (⟨S1x400x400, .f32⟩ : BufTy).Contents (Elt F) → (⟨S1x400x400, .f32⟩ : BufTy).Contents (Elt F) → (⟨S1x400x400, .f32⟩ : BufTy).Contents (Elt F)),
    unary main_v109 main_v110 (Host.exp : (⟨S1x400x400, .f32⟩ : BufTy).Contents (Elt F) → (⟨S1x400x400, .f32⟩ : BufTy).Contents (Elt F)),
    nullary main_cst_28 (constant S_ .f32 0x00000000#32),
    binary main_v110 main_cst_28 main_v111 ((fun x v => Host.reduceAdd x v reducesTo_S1x400x400_S1x400_d2 h_S_) : (⟨S1x400x400, .f32⟩ : BufTy).Contents (Elt F) → (⟨S_, .f32⟩ : BufTy).Contents (Elt F) → (⟨S1x400, .f32⟩ : BufTy).Contents (Elt F)),
    unary main_v111 main_v112 (broadcastInDim S1x400x1 ![0, 1] bcast_S1x400_S1x400x1_0_1 : (⟨S1x400, .f32⟩ : BufTy).Contents (Elt F) → (⟨S1x400x1, .f32⟩ : BufTy).Contents (Elt F)),
    unary main_v112 main_v113 (broadcastInDim S1x400x400 ![0, 1, 2] bcast_S1x400x1_S1x400x400_0_1_2 : (⟨S1x400x1, .f32⟩ : BufTy).Contents (Elt F) → (⟨S1x400x400, .f32⟩ : BufTy).Contents (Elt F)),
    binary main_v110 main_v113 main_v114 (Host.divf : (⟨S1x400x400, .f32⟩ : BufTy).Contents (Elt F) → (⟨S1x400x400, .f32⟩ : BufTy).Contents (Elt F) → (⟨S1x400x400, .f32⟩ : BufTy).Contents (Elt F)),
    binary main_v103 main_v114 main_v115 (mulf : (⟨S1x400x400, .f32⟩ : BufTy).Contents (Elt F) → (⟨S1x400x400, .f32⟩ : BufTy).Contents (Elt F) → (⟨S1x400x400, .f32⟩ : BufTy).Contents (Elt F)),
    TRef.nullary (TRef.of (T := ⟨S1x400x400, .i32⟩) main_call2_v0) (iotaInDim S1x400x400 32 2),
    TRef.nullary (TRef.of (T := ⟨S_, .f32⟩) main_call2_cst) (constant S_ .f32 0xFF800000#32),
    TRef.nullary (TRef.of (T := ⟨S_, .i32⟩) main_call2_c) (constantI S_ 32 0#32) ]

/-- @main's operations 191 … 220 of 369 (window `main_part2`). -/
abbrev ops_part2_1 : List (HloOp τ sig (Elt F)) :=
  [ TRef.quaternary (TRef.of (T := ⟨S1x400x400, .f32⟩) main_v115) (TRef.of (T := ⟨S1x400x400, .i32⟩) main_call2_v0) (TRef.of (T := ⟨S_, .f32⟩) main_call2_cst) (TRef.of (T := ⟨S_, .i32⟩) main_call2_c) (TRef.of (T := ⟨S1x400, .f32⟩) main_call2_v1_0) (fun x y u v j => (Host.argReduce reducer_argmax_f32_i32 x y u v reducesTo_S1x400x400_S1x400_d2 h_S_ j).1),
    TRef.quaternary (TRef.of (T := ⟨S1x400x400, .f32⟩) main_v115) (TRef.of (T := ⟨S1x400x400, .i32⟩) main_call2_v0) (TRef.of (T := ⟨S_, .f32⟩) main_call2_cst) (TRef.of (T := ⟨S_, .i32⟩) main_call2_c) (TRef.of (T := ⟨S1x400, .i32⟩) main_v116) (fun x y u v j => (Host.argReduce reducer_argmax_f32_i32 x y u v reducesTo_S1x400x400_S1x400_d2 h_S_ j).2),
    TRef.nullary (TRef.of (T := ⟨S1x400x400, .i32⟩) main_call3_v0) (iotaInDim S1x400x400 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S1x400x400, .f32⟩) main_v115) (TRef.of (T := ⟨S1x400x400, .i32⟩) main_call3_v0) (TRef.of (T := ⟨S_, .f32⟩) main_call3_cst) (TRef.of (T := ⟨S_, .i32⟩) main_call3_c) (TRef.of (T := ⟨S1x400, .f32⟩) main_call3_v1_0) (fun x y u v j => (Host.argReduce reducer_argmax_f32_i32 x y u v reducesTo_S1x400x400_S1x400_d1 h_S_ j).1),
    TRef.quaternary (TRef.of (T := ⟨S1x400x400, .f32⟩) main_v115) (TRef.of (T := ⟨S1x400x400, .i32⟩) main_call3_v0) (TRef.of (T := ⟨S_, .f32⟩) main_call3_cst) (TRef.of (T := ⟨S_, .i32⟩) main_call3_c) (TRef.of (T := ⟨S1x400, .i32⟩) main_v117) (fun x y u v j => (Host.argReduce reducer_argmax_f32_i32 x y u v reducesTo_S1x400x400_S1x400_d1 h_S_ j).2),
    reshape main_v116 main_v118 (rfl : (.i32 : EltTy) = .i32) shapeCasts_S1x400_S400,
    TRef.nullary (TRef.of (T := ⟨S_, .i32⟩) main_call4_c) (constantI S_ 32 0#32),
    TRef.unary (TRef.of (T := ⟨S_, .i32⟩) main_call4_c) (TRef.of (T := ⟨S400, .i32⟩) main_call4_v0) (broadcastInDim S400 ![] bcast_S_S400),
    TRef.binary (TRef.of (T := ⟨S400, .i32⟩) main_v118) (TRef.of (T := ⟨S400, .i32⟩) main_call4_v0) (TRef.of (T := ⟨S400, .i1⟩) main_call4_v1) (cmpi .slt),
    TRef.nullary (TRef.of (T := ⟨S_, .i32⟩) main_call4_c_0) (constantI S_ 32 400#32),
    TRef.unary (TRef.of (T := ⟨S_, .i32⟩) main_call4_c_0) (TRef.of (T := ⟨S400, .i32⟩) main_call4_v2) (broadcastInDim S400 ![] bcast_S_S400),
    TRef.binary (TRef.of (T := ⟨S400, .i32⟩) main_v118) (TRef.of (T := ⟨S400, .i32⟩) main_call4_v2) (TRef.of (T := ⟨S400, .i32⟩) main_call4_v3) addi,
    TRef.ternary (TRef.of (T := ⟨S400, .i1⟩) main_call4_v1) (TRef.of (T := ⟨S400, .i32⟩) main_call4_v3) (TRef.of (T := ⟨S400, .i32⟩) main_v118) (TRef.of (T := ⟨S400, .i32⟩) main_call4_v4) select,
    TRef.unary (TRef.of (T := ⟨S400, .i32⟩) main_call4_v4) (TRef.of (T := ⟨S400x1, .i32⟩) main_call4_v5) (broadcastInDim S400x1 ![0] bcast_S400_S400x1_0),
    TRef.nullary (TRef.of (T := ⟨S1, .i32⟩) main_call4_c_1) (constantI S1 32 399#32),
    TRef.nullary (TRef.of (T := ⟨S_, .i32⟩) main_call4_c_2) (constantI S_ 32 0#32),
    TRef.unary (TRef.of (T := ⟨S_, .i32⟩) main_call4_c_2) (TRef.of (T := ⟨S400x1, .i32⟩) main_call4_v6) (broadcastInDim S400x1 ![] bcast_S_S400x1),
    TRef.binary (TRef.of (T := ⟨S400x1, .i32⟩) main_call4_v5) (TRef.of (T := ⟨S400x1, .i32⟩) main_call4_v6) (TRef.of (T := ⟨S400x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S400x1, .i32⟩) main_call4_v9) (broadcastInDim S400x1 ![0, 1] bcast_S1x1_S400x1_0_1),
    TRef.binary (TRef.of (T := ⟨S400x1, .i32⟩) main_call4_v5) (TRef.of (T := ⟨S400x1, .i32⟩) main_call4_v9) (TRef.of (T := ⟨S400x1, .i1⟩) main_call4_v10) (cmpi .sle),
    TRef.binary (TRef.of (T := ⟨S400x1, .i1⟩) main_call4_v7) (TRef.of (T := ⟨S400x1, .i1⟩) main_call4_v10) (TRef.of (T := ⟨S400x1, .i1⟩) main_call4_v11) andi,
    TRef.nullary (TRef.of (T := ⟨S_, .i1⟩) main_call4_c_3) (constantI S_ 1 1#1),
    TRef.binary (TRef.of (T := ⟨S400x1, .i1⟩) main_call4_v11) (TRef.of (T := ⟨S_, .i1⟩) main_call4_c_3) (TRef.of (T := ⟨S400, .i1⟩) main_call4_v12) (fun x v => Host.reduce IntOp.andi x v reducesTo_S400x1_S400_d1 h_S_),
    TRef.binary (TRef.of (T := ⟨S1x400x256, .f32⟩) main_arg1) (TRef.of (T := ⟨S400x1, .i32⟩) main_call4_v5) (TRef.of (T := ⟨S1x400x256, .f32⟩) main_call4_v13) (fun x i => Host.gather gather_S1x400x256_S400x1_S1x400x256_02_1_n_n_1_1_11256 x i),
    TRef.unary (TRef.of (T := ⟨S400, .i1⟩) main_call4_v12) (TRef.of (T := ⟨S1x400x256, .i1⟩) main_call4_v14) (broadcastInDim S1x400x256 ![1] bcast_S400_S1x400x256_1),
    TRef.nullary (TRef.of (T := ⟨S_, .f32⟩) main_call4_cst) (constant S_ .f32 0x7FC00000#32),
    TRef.unary (TRef.of (T := ⟨S_, .f32⟩) main_call4_cst) (TRef.of (T := ⟨S1x400x256, .f32⟩) main_call4_v15) (broadcastInDim S1x400x256 ![] bcast_S_S1x400x256) ]

/-- @main's operations 221 … 250 of 369 (window `main_part2`). -/
abbrev ops_part2_2 : List (HloOp τ sig (Elt F)) :=
  [ TRef.ternary (TRef.of (T := ⟨S1x400x256, .i1⟩) main_call4_v14) (TRef.of (T := ⟨S1x400x256, .f32⟩) main_call4_v13) (TRef.of (T := ⟨S1x400x256, .f32⟩) main_call4_v15) (TRef.of (T := ⟨S1x400x256, .f32⟩) main_v119) select,
    binary main_arg0 main_v119 main_v120 (addf : (⟨S1x400x256, .f32⟩ : BufTy).Contents (Elt F) → (⟨S1x400x256, .f32⟩ : BufTy).Contents (Elt F) → (⟨S1x400x256, .f32⟩ : BufTy).Contents (Elt F)),
    nullary main_cst_29 (constant S_ .f32 0x3F000000#32),
    unary main_cst_29 main_v121 (broadcastInDim S1x400x256 ![] bcast_S_S1x400x256 : (⟨S_, .f32⟩ : BufTy).Contents (Elt F) → (⟨S1x400x256, .f32⟩ : BufTy).Contents (Elt F)),
    binary main_v120 main_v121 main_v122 (mulf : (⟨S1x400x256, .f32⟩ : BufTy).Contents (Elt F) → (⟨S1x400x256, .f32⟩ : BufTy).Contents (Elt F) → (⟨S1x400x256, .f32⟩ : BufTy).Contents (Elt F)),
    reshape main_v122 main_v123 (rfl : (.f32 : EltTy) = .f32) shapeCasts_S1x400x256_S1x20x20x256,
    unary main_v123 main_v124 ((transpose S1x256x20x20 [0, 3, 1, 2] · transposes_S1x20x20x256_S1x256x20x20_0_3_1_2) : (⟨S1x20x20x256, .f32⟩ : BufTy).Contents (Elt F) → (⟨S1x256x20x20, .f32⟩ : BufTy).Contents (Elt F)),
    reshape main_v124 main_v125 (rfl : (.f32 : EltTy) = .f32) shapeCasts_S1x256x20x20_S1x256x10x2x10x2,
    nullary main_cst_30 (constant S_ .f32 0x00000000#32),
    binary main_v125 main_cst_30 main_v126 ((fun x v => Host.reduceAdd x v reducesTo_S1x256x10x2x10x2_S1x256x10x10_d3_5 h_S_) : (⟨S1x256x10x2x10x2, .f32⟩ : BufTy).Contents (Elt F) → (⟨S_, .f32⟩ : BufTy).Contents (Elt F) → (⟨S1x256x10x10, .f32⟩ : BufTy).Contents (Elt F)),
    nullary main_cst_31 (constant S_ .f32 0x40800000#32),
    unary main_cst_31 main_v127 (broadcastInDim S1x256x10x10 ![] bcast_S_S1x256x10x10 : (⟨S_, .f32⟩ : BufTy).Contents (Elt F) → (⟨S1x256x10x10, .f32⟩ : BufTy).Contents (Elt F)),
    binary main_v126 main_v127 main_v128 (Host.divf : (⟨S1x256x10x10, .f32⟩ : BufTy).Contents (Elt F) → (⟨S1x256x10x10, .f32⟩ : BufTy).Contents (Elt F) → (⟨S1x256x10x10, .f32⟩ : BufTy).Contents (Elt F)),
    unary main_v128 main_v129 ((transpose S1x10x10x256 [0, 2, 3, 1] · transposes_S1x256x10x10_S1x10x10x256_0_2_3_1) : (⟨S1x256x10x10, .f32⟩ : BufTy).Contents (Elt F) → (⟨S1x10x10x256, .f32⟩ : BufTy).Contents (Elt F)),
    reshape main_v129 main_v130 (rfl : (.f32 : EltTy) = .f32) shapeCasts_S1x10x10x256_S1x100x256,
    binary main_arg7 main_v130 main_v131 (fn_main_v131 (F := F)),
    nullary main_v132 (iotaInDim S257x256 32 0),
    nullary main_v133 (iotaInDim S257x256 32 1),
    nullary main_c_32 (constantI S_ 32 257#32),
    unary main_c_32 main_v134 (broadcastInDim S257x256 ![] bcast_S_S257x256 : (⟨S_, .i32⟩ : BufTy).Contents (Elt F) → (⟨S257x256, .i32⟩ : BufTy).Contents (Elt F)),
    binary main_v133 main_v134 main_v135 (muli : (⟨S257x256, .i32⟩ : BufTy).Contents (Elt F) → (⟨S257x256, .i32⟩ : BufTy).Contents (Elt F) → (⟨S257x256, .i32⟩ : BufTy).Contents (Elt F)),
    nullary main_c_33 (constantI S_ 32 256#32),
    TRef.unary (TRef.of (T := ⟨S_, .i32⟩) main_c_33) (TRef.of (T := ⟨S_, .i32⟩) main_call5_v0) id,
    TRef.unary (TRef.of (T := ⟨S_, .i32⟩) main_call5_v0) (TRef.of (T := ⟨S257x256, .i32⟩) main_call5_v1) (broadcastInDim S257x256 ![] bcast_S_S257x256),
    TRef.binary (TRef.of (T := ⟨S257x256, .i32⟩) main_v135) (TRef.of (T := ⟨S257x256, .i32⟩) main_call5_v1) (TRef.of (T := ⟨S257x256, .i32⟩) main_call5_v2) Host.divsi,
    TRef.unary (TRef.of (T := ⟨S257x256, .i32⟩) main_v135) (TRef.of (T := ⟨S257x256, .i32⟩) main_call5_v3) signi,
    TRef.unary (TRef.of (T := ⟨S_, .i32⟩) main_call5_v0) (TRef.of (T := ⟨S_, .i32⟩) main_call5_v4) signi,
    TRef.unary (TRef.of (T := ⟨S_, .i32⟩) main_call5_v4) (TRef.of (T := ⟨S257x256, .i32⟩) main_call5_v5) (broadcastInDim S257x256 ![] bcast_S_S257x256),
    TRef.binary (TRef.of (T := ⟨S257x256, .i32⟩) main_call5_v3) (TRef.of (T := ⟨S257x256, .i32⟩) main_call5_v5) (TRef.of (T := ⟨S257x256, .i1⟩) main_call5_v6) (cmpi .ne),
    TRef.unary (TRef.of (T := ⟨S_, .i32⟩) main_call5_v0) (TRef.of (T := ⟨S257x256, .i32⟩) main_call5_v7) (broadcastInDim S257x256 ![] bcast_S_S257x256) ]

/-- @main's operations 251 … 266 of 369 (window `main_part2`). -/
abbrev ops_part2_3 : List (HloOp τ sig (Elt F)) :=
  [ TRef.binary (TRef.of (T := ⟨S257x256, .i32⟩) main_v135) (TRef.of (T := ⟨S257x256, .i32⟩) main_call5_v7) (TRef.of (T := ⟨S257x256, .i32⟩) main_call5_v8) Host.remsi,
    TRef.nullary (TRef.of (T := ⟨S_, .i32⟩) main_call5_c) (constantI S_ 32 0#32),
    TRef.unary (TRef.of (T := ⟨S_, .i32⟩) main_call5_c) (TRef.of (T := ⟨S257x256, .i32⟩) main_call5_v9) (broadcastInDim S257x256 ![] bcast_S_S257x256),
    TRef.binary (TRef.of (T := ⟨S257x256, .i32⟩) main_call5_v8) (TRef.of (T := ⟨S257x256, .i32⟩) main_call5_v9) (TRef.of (T := ⟨S257x256, .i1⟩) main_call5_v10) (cmpi .ne),
    TRef.binary (TRef.of (T := ⟨S257x256, .i1⟩) main_call5_v6) (TRef.of (T := ⟨S257x256, .i1⟩) main_call5_v10) (TRef.of (T := ⟨S257x256, .i1⟩) main_call5_v11) andi,
    TRef.nullary (TRef.of (T := ⟨S_, .i32⟩) main_call5_c_0) (constantI S_ 32 1#32),
    TRef.unary (TRef.of (T := ⟨S_, .i32⟩) main_call5_c_0) (TRef.of (T := ⟨S257x256, .i32⟩) main_call5_v12) (broadcastInDim S257x256 ![] bcast_S_S257x256),
    TRef.binary (TRef.of (T := ⟨S257x256, .i32⟩) main_call5_v2) (TRef.of (T := ⟨S257x256, .i32⟩) main_call5_v12) (TRef.of (T := ⟨S257x256, .i32⟩) main_call5_v13) subi,
    TRef.ternary (TRef.of (T := ⟨S257x256, .i1⟩) main_call5_v11) (TRef.of (T := ⟨S257x256, .i32⟩) main_call5_v13) (TRef.of (T := ⟨S257x256, .i32⟩) main_call5_v2) (TRef.of (T := ⟨S257x256, .i32⟩) main_v136) select,
    nullary main_c_34 (constantI S_ 32 1#32),
    unary main_c_34 main_v137 (broadcastInDim S257x256 ![] bcast_S_S257x256 : (⟨S_, .i32⟩ : BufTy).Contents (Elt F) → (⟨S257x256, .i32⟩ : BufTy).Contents (Elt F)),
    binary main_v133 main_v137 main_v138 (addi : (⟨S257x256, .i32⟩ : BufTy).Contents (Elt F) → (⟨S257x256, .i32⟩ : BufTy).Contents (Elt F) → (⟨S257x256, .i32⟩ : BufTy).Contents (Elt F)),
    unary main_v138 main_v139 (negi : (⟨S257x256, .i32⟩ : BufTy).Contents (Elt F) → (⟨S257x256, .i32⟩ : BufTy).Contents (Elt F)),
    nullary main_c_35 (constantI S_ 32 257#32),
    unary main_c_35 main_v140 (broadcastInDim S257x256 ![] bcast_S_S257x256 : (⟨S_, .i32⟩ : BufTy).Contents (Elt F) → (⟨S257x256, .i32⟩ : BufTy).Contents (Elt F)),
    binary main_v139 main_v140 main_v141 (muli : (⟨S257x256, .i32⟩ : BufTy).Contents (Elt F) → (⟨S257x256, .i32⟩ : BufTy).Contents (Elt F) → (⟨S257x256, .i32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2 ++ (ops_part2_3)))

/-- @main's operations 267 … 296 of 369 (window `main_part3`). -/
abbrev ops_part3_0 : List (HloOp τ sig (Elt F)) :=
  [ nullary main_c_36 (constantI S_ 32 256#32),
    TRef.unary (TRef.of (T := ⟨S_, .i32⟩) main_c_36) (TRef.of (T := ⟨S_, .i32⟩) main_call6_v0) id,
    TRef.unary (TRef.of (T := ⟨S_, .i32⟩) main_call6_v0) (TRef.of (T := ⟨S257x256, .i32⟩) main_call6_v1) (broadcastInDim S257x256 ![] bcast_S_S257x256),
    TRef.binary (TRef.of (T := ⟨S257x256, .i32⟩) main_v141) (TRef.of (T := ⟨S257x256, .i32⟩) main_call6_v1) (TRef.of (T := ⟨S257x256, .i32⟩) main_call6_v2) Host.divsi,
    TRef.unary (TRef.of (T := ⟨S257x256, .i32⟩) main_v141) (TRef.of (T := ⟨S257x256, .i32⟩) main_call6_v3) signi,
    TRef.unary (TRef.of (T := ⟨S_, .i32⟩) main_call6_v0) (TRef.of (T := ⟨S_, .i32⟩) main_call6_v4) signi,
    TRef.unary (TRef.of (T := ⟨S_, .i32⟩) main_call6_v4) (TRef.of (T := ⟨S257x256, .i32⟩) main_call6_v5) (broadcastInDim S257x256 ![] bcast_S_S257x256),
    TRef.binary (TRef.of (T := ⟨S257x256, .i32⟩) main_call6_v3) (TRef.of (T := ⟨S257x256, .i32⟩) main_call6_v5) (TRef.of (T := ⟨S257x256, .i1⟩) main_call6_v6) (cmpi .ne),
    TRef.unary (TRef.of (T := ⟨S_, .i32⟩) main_call6_v0) (TRef.of (T := ⟨S257x256, .i32⟩) main_call6_v7) (broadcastInDim S257x256 ![] bcast_S_S257x256),
    TRef.binary (TRef.of (T := ⟨S257x256, .i32⟩) main_v141) (TRef.of (T := ⟨S257x256, .i32⟩) main_call6_v7) (TRef.of (T := ⟨S257x256, .i32⟩) main_call6_v8) Host.remsi,
    TRef.nullary (TRef.of (T := ⟨S_, .i32⟩) main_call6_c) (constantI S_ 32 0#32),
    TRef.unary (TRef.of (T := ⟨S_, .i32⟩) main_call6_c) (TRef.of (T := ⟨S257x256, .i32⟩) main_call6_v9) (broadcastInDim S257x256 ![] bcast_S_S257x256),
    TRef.binary (TRef.of (T := ⟨S257x256, .i32⟩) main_call6_v8) (TRef.of (T := ⟨S257x256, .i32⟩) main_call6_v9) (TRef.of (T := ⟨S257x256, .i1⟩) main_call6_v10) (cmpi .ne),
    TRef.binary (TRef.of (T := ⟨S257x256, .i1⟩) main_call6_v6) (TRef.of (T := ⟨S257x256, .i1⟩) main_call6_v10) (TRef.of (T := ⟨S257x256, .i1⟩) main_call6_v11) andi,
    TRef.nullary (TRef.of (T := ⟨S_, .i32⟩) main_call6_c_0) (constantI S_ 32 1#32),
    TRef.unary (TRef.of (T := ⟨S_, .i32⟩) main_call6_c_0) (TRef.of (T := ⟨S257x256, .i32⟩) main_call6_v12) (broadcastInDim S257x256 ![] bcast_S_S257x256),
    TRef.binary (TRef.of (T := ⟨S257x256, .i32⟩) main_call6_v2) (TRef.of (T := ⟨S257x256, .i32⟩) main_call6_v12) (TRef.of (T := ⟨S257x256, .i32⟩) main_call6_v13) subi,
    TRef.ternary (TRef.of (T := ⟨S257x256, .i1⟩) main_call6_v11) (TRef.of (T := ⟨S257x256, .i32⟩) main_call6_v13) (TRef.of (T := ⟨S257x256, .i32⟩) main_call6_v2) (TRef.of (T := ⟨S257x256, .i32⟩) main_v142) select,
    unary main_v142 main_v143 (negi : (⟨S257x256, .i32⟩ : BufTy).Contents (Elt F) → (⟨S257x256, .i32⟩ : BufTy).Contents (Elt F)),
    binary main_v136 main_v132 main_v144 (cmpi .sle : (⟨S257x256, .i32⟩ : BufTy).Contents (Elt F) → (⟨S257x256, .i32⟩ : BufTy).Contents (Elt F) → (⟨S257x256, .i1⟩ : BufTy).Contents (Elt F)),
    binary main_v132 main_v143 main_v145 (cmpi .slt : (⟨S257x256, .i32⟩ : BufTy).Contents (Elt F) → (⟨S257x256, .i32⟩ : BufTy).Contents (Elt F) → (⟨S257x256, .i1⟩ : BufTy).Contents (Elt F)),
    binary main_v144 main_v145 main_v146 (andi : (⟨S257x256, .i1⟩ : BufTy).Contents (Elt F) → (⟨S257x256, .i1⟩ : BufTy).Contents (Elt F) → (⟨S257x256, .i1⟩ : BufTy).Contents (Elt F)),
    binary main_v143 main_v136 main_v147 (subi : (⟨S257x256, .i32⟩ : BufTy).Contents (Elt F) → (⟨S257x256, .i32⟩ : BufTy).Contents (Elt F) → (⟨S257x256, .i32⟩ : BufTy).Contents (Elt F)),
    unary main_v147 main_v148 (sitofp .f32 : (⟨S257x256, .i32⟩ : BufTy).Contents (Elt F) → (⟨S257x256, .f32⟩ : BufTy).Contents (Elt F)),
    nullary main_cst_37 (constant S_ .f32 0x3F800000#32),
    unary main_cst_37 main_v149 (broadcastInDim S257x256 ![] bcast_S_S257x256 : (⟨S_, .f32⟩ : BufTy).Contents (Elt F) → (⟨S257x256, .f32⟩ : BufTy).Contents (Elt F)),
    binary main_v149 main_v148 main_v150 (Host.divf : (⟨S257x256, .f32⟩ : BufTy).Contents (Elt F) → (⟨S257x256, .f32⟩ : BufTy).Contents (Elt F) → (⟨S257x256, .f32⟩ : BufTy).Contents (Elt F)),
    nullary main_cst_38 (constant S_ .f32 0x00000000#32),
    TRef.unary (TRef.of (T := ⟨S_, .f32⟩) main_cst_38) (TRef.of (T := ⟨S_, .f32⟩) main_call7_v0) id,
    TRef.unary (TRef.of (T := ⟨S_, .f32⟩) main_call7_v0) (TRef.of (T := ⟨S257x256, .f32⟩) main_call7_v1) (broadcastInDim S257x256 ![] bcast_S_S257x256) ]

/-- @main's operations 297 … 326 of 369 (window `main_part3`). -/
abbrev ops_part3_1 : List (HloOp τ sig (Elt F)) :=
  [ TRef.ternary (TRef.of (T := ⟨S257x256, .i1⟩) main_v146) (TRef.of (T := ⟨S257x256, .f32⟩) main_v150) (TRef.of (T := ⟨S257x256, .f32⟩) main_call7_v1) (TRef.of (T := ⟨S257x256, .f32⟩) main_v151) select,
    nullary main_v152 (iotaInDim S512x256 32 0),
    nullary main_v153 (iotaInDim S512x256 32 1),
    nullary main_c_39 (constantI S_ 32 512#32),
    unary main_c_39 main_v154 (broadcastInDim S512x256 ![] bcast_S_S512x256 : (⟨S_, .i32⟩ : BufTy).Contents (Elt F) → (⟨S512x256, .i32⟩ : BufTy).Contents (Elt F)),
    binary main_v153 main_v154 main_v155 (muli : (⟨S512x256, .i32⟩ : BufTy).Contents (Elt F) → (⟨S512x256, .i32⟩ : BufTy).Contents (Elt F) → (⟨S512x256, .i32⟩ : BufTy).Contents (Elt F)),
    nullary main_c_40 (constantI S_ 32 256#32),
    TRef.unary (TRef.of (T := ⟨S_, .i32⟩) main_c_40) (TRef.of (T := ⟨S_, .i32⟩) main_call8_v0) id,
    TRef.unary (TRef.of (T := ⟨S_, .i32⟩) main_call8_v0) (TRef.of (T := ⟨S512x256, .i32⟩) main_call8_v1) (broadcastInDim S512x256 ![] bcast_S_S512x256),
    TRef.binary (TRef.of (T := ⟨S512x256, .i32⟩) main_v155) (TRef.of (T := ⟨S512x256, .i32⟩) main_call8_v1) (TRef.of (T := ⟨S512x256, .i32⟩) main_call8_v2) Host.divsi,
    TRef.unary (TRef.of (T := ⟨S512x256, .i32⟩) main_v155) (TRef.of (T := ⟨S512x256, .i32⟩) main_call8_v3) signi,
    TRef.unary (TRef.of (T := ⟨S_, .i32⟩) main_call8_v0) (TRef.of (T := ⟨S_, .i32⟩) main_call8_v4) signi,
    TRef.unary (TRef.of (T := ⟨S_, .i32⟩) main_call8_v4) (TRef.of (T := ⟨S512x256, .i32⟩) main_call8_v5) (broadcastInDim S512x256 ![] bcast_S_S512x256),
    TRef.binary (TRef.of (T := ⟨S512x256, .i32⟩) main_call8_v3) (TRef.of (T := ⟨S512x256, .i32⟩) main_call8_v5) (TRef.of (T := ⟨S512x256, .i1⟩) main_call8_v6) (cmpi .ne),
    TRef.unary (TRef.of (T := ⟨S_, .i32⟩) main_call8_v0) (TRef.of (T := ⟨S512x256, .i32⟩) main_call8_v7) (broadcastInDim S512x256 ![] bcast_S_S512x256),
    TRef.binary (TRef.of (T := ⟨S512x256, .i32⟩) main_v155) (TRef.of (T := ⟨S512x256, .i32⟩) main_call8_v7) (TRef.of (T := ⟨S512x256, .i32⟩) main_call8_v8) Host.remsi,
    TRef.nullary (TRef.of (T := ⟨S_, .i32⟩) main_call8_c) (constantI S_ 32 0#32),
    TRef.unary (TRef.of (T := ⟨S_, .i32⟩) main_call8_c) (TRef.of (T := ⟨S512x256, .i32⟩) main_call8_v9) (broadcastInDim S512x256 ![] bcast_S_S512x256),
    TRef.binary (TRef.of (T := ⟨S512x256, .i32⟩) main_call8_v8) (TRef.of (T := ⟨S512x256, .i32⟩) main_call8_v9) (TRef.of (T := ⟨S512x256, .i1⟩) main_call8_v10) (cmpi .ne),
    TRef.binary (TRef.of (T := ⟨S512x256, .i1⟩) main_call8_v6) (TRef.of (T := ⟨S512x256, .i1⟩) main_call8_v10) (TRef.of (T := ⟨S512x256, .i1⟩) main_call8_v11) andi,
    TRef.nullary (TRef.of (T := ⟨S_, .i32⟩) main_call8_c_0) (constantI S_ 32 1#32),
    TRef.unary (TRef.of (T := ⟨S_, .i32⟩) main_call8_c_0) (TRef.of (T := ⟨S512x256, .i32⟩) main_call8_v12) (broadcastInDim S512x256 ![] bcast_S_S512x256),
    TRef.binary (TRef.of (T := ⟨S512x256, .i32⟩) main_call8_v2) (TRef.of (T := ⟨S512x256, .i32⟩) main_call8_v12) (TRef.of (T := ⟨S512x256, .i32⟩) main_call8_v13) subi,
    TRef.ternary (TRef.of (T := ⟨S512x256, .i1⟩) main_call8_v11) (TRef.of (T := ⟨S512x256, .i32⟩) main_call8_v13) (TRef.of (T := ⟨S512x256, .i32⟩) main_call8_v2) (TRef.of (T := ⟨S512x256, .i32⟩) main_v156) select,
    nullary main_c_41 (constantI S_ 32 1#32),
    unary main_c_41 main_v157 (broadcastInDim S512x256 ![] bcast_S_S512x256 : (⟨S_, .i32⟩ : BufTy).Contents (Elt F) → (⟨S512x256, .i32⟩ : BufTy).Contents (Elt F)),
    binary main_v153 main_v157 main_v158 (addi : (⟨S512x256, .i32⟩ : BufTy).Contents (Elt F) → (⟨S512x256, .i32⟩ : BufTy).Contents (Elt F) → (⟨S512x256, .i32⟩ : BufTy).Contents (Elt F)),
    unary main_v158 main_v159 (negi : (⟨S512x256, .i32⟩ : BufTy).Contents (Elt F) → (⟨S512x256, .i32⟩ : BufTy).Contents (Elt F)),
    nullary main_c_42 (constantI S_ 32 512#32),
    unary main_c_42 main_v160 (broadcastInDim S512x256 ![] bcast_S_S512x256 : (⟨S_, .i32⟩ : BufTy).Contents (Elt F) → (⟨S512x256, .i32⟩ : BufTy).Contents (Elt F)) ]

/-- @main's operations 327 … 356 of 369 (window `main_part3`). -/
abbrev ops_part3_2 : List (HloOp τ sig (Elt F)) :=
  [ binary main_v159 main_v160 main_v161 (muli : (⟨S512x256, .i32⟩ : BufTy).Contents (Elt F) → (⟨S512x256, .i32⟩ : BufTy).Contents (Elt F) → (⟨S512x256, .i32⟩ : BufTy).Contents (Elt F)),
    nullary main_c_43 (constantI S_ 32 256#32),
    TRef.unary (TRef.of (T := ⟨S_, .i32⟩) main_c_43) (TRef.of (T := ⟨S_, .i32⟩) main_call9_v0) id,
    TRef.unary (TRef.of (T := ⟨S_, .i32⟩) main_call9_v0) (TRef.of (T := ⟨S512x256, .i32⟩) main_call9_v1) (broadcastInDim S512x256 ![] bcast_S_S512x256),
    TRef.binary (TRef.of (T := ⟨S512x256, .i32⟩) main_v161) (TRef.of (T := ⟨S512x256, .i32⟩) main_call9_v1) (TRef.of (T := ⟨S512x256, .i32⟩) main_call9_v2) Host.divsi,
    TRef.unary (TRef.of (T := ⟨S512x256, .i32⟩) main_v161) (TRef.of (T := ⟨S512x256, .i32⟩) main_call9_v3) signi,
    TRef.unary (TRef.of (T := ⟨S_, .i32⟩) main_call9_v0) (TRef.of (T := ⟨S_, .i32⟩) main_call9_v4) signi,
    TRef.unary (TRef.of (T := ⟨S_, .i32⟩) main_call9_v4) (TRef.of (T := ⟨S512x256, .i32⟩) main_call9_v5) (broadcastInDim S512x256 ![] bcast_S_S512x256),
    TRef.binary (TRef.of (T := ⟨S512x256, .i32⟩) main_call9_v3) (TRef.of (T := ⟨S512x256, .i32⟩) main_call9_v5) (TRef.of (T := ⟨S512x256, .i1⟩) main_call9_v6) (cmpi .ne),
    TRef.unary (TRef.of (T := ⟨S_, .i32⟩) main_call9_v0) (TRef.of (T := ⟨S512x256, .i32⟩) main_call9_v7) (broadcastInDim S512x256 ![] bcast_S_S512x256),
    TRef.binary (TRef.of (T := ⟨S512x256, .i32⟩) main_v161) (TRef.of (T := ⟨S512x256, .i32⟩) main_call9_v7) (TRef.of (T := ⟨S512x256, .i32⟩) main_call9_v8) Host.remsi,
    TRef.nullary (TRef.of (T := ⟨S_, .i32⟩) main_call9_c) (constantI S_ 32 0#32),
    TRef.unary (TRef.of (T := ⟨S_, .i32⟩) main_call9_c) (TRef.of (T := ⟨S512x256, .i32⟩) main_call9_v9) (broadcastInDim S512x256 ![] bcast_S_S512x256),
    TRef.binary (TRef.of (T := ⟨S512x256, .i32⟩) main_call9_v8) (TRef.of (T := ⟨S512x256, .i32⟩) main_call9_v9) (TRef.of (T := ⟨S512x256, .i1⟩) main_call9_v10) (cmpi .ne),
    TRef.binary (TRef.of (T := ⟨S512x256, .i1⟩) main_call9_v6) (TRef.of (T := ⟨S512x256, .i1⟩) main_call9_v10) (TRef.of (T := ⟨S512x256, .i1⟩) main_call9_v11) andi,
    TRef.nullary (TRef.of (T := ⟨S_, .i32⟩) main_call9_c_0) (constantI S_ 32 1#32),
    TRef.unary (TRef.of (T := ⟨S_, .i32⟩) main_call9_c_0) (TRef.of (T := ⟨S512x256, .i32⟩) main_call9_v12) (broadcastInDim S512x256 ![] bcast_S_S512x256),
    TRef.binary (TRef.of (T := ⟨S512x256, .i32⟩) main_call9_v2) (TRef.of (T := ⟨S512x256, .i32⟩) main_call9_v12) (TRef.of (T := ⟨S512x256, .i32⟩) main_call9_v13) subi,
    TRef.ternary (TRef.of (T := ⟨S512x256, .i1⟩) main_call9_v11) (TRef.of (T := ⟨S512x256, .i32⟩) main_call9_v13) (TRef.of (T := ⟨S512x256, .i32⟩) main_call9_v2) (TRef.of (T := ⟨S512x256, .i32⟩) main_v162) select,
    unary main_v162 main_v163 (negi : (⟨S512x256, .i32⟩ : BufTy).Contents (Elt F) → (⟨S512x256, .i32⟩ : BufTy).Contents (Elt F)),
    binary main_v156 main_v152 main_v164 (cmpi .sle : (⟨S512x256, .i32⟩ : BufTy).Contents (Elt F) → (⟨S512x256, .i32⟩ : BufTy).Contents (Elt F) → (⟨S512x256, .i1⟩ : BufTy).Contents (Elt F)),
    binary main_v152 main_v163 main_v165 (cmpi .slt : (⟨S512x256, .i32⟩ : BufTy).Contents (Elt F) → (⟨S512x256, .i32⟩ : BufTy).Contents (Elt F) → (⟨S512x256, .i1⟩ : BufTy).Contents (Elt F)),
    binary main_v164 main_v165 main_v166 (andi : (⟨S512x256, .i1⟩ : BufTy).Contents (Elt F) → (⟨S512x256, .i1⟩ : BufTy).Contents (Elt F) → (⟨S512x256, .i1⟩ : BufTy).Contents (Elt F)),
    binary main_v163 main_v156 main_v167 (subi : (⟨S512x256, .i32⟩ : BufTy).Contents (Elt F) → (⟨S512x256, .i32⟩ : BufTy).Contents (Elt F) → (⟨S512x256, .i32⟩ : BufTy).Contents (Elt F)),
    unary main_v167 main_v168 (sitofp .f32 : (⟨S512x256, .i32⟩ : BufTy).Contents (Elt F) → (⟨S512x256, .f32⟩ : BufTy).Contents (Elt F)),
    nullary main_cst_44 (constant S_ .f32 0x3F800000#32),
    unary main_cst_44 main_v169 (broadcastInDim S512x256 ![] bcast_S_S512x256 : (⟨S_, .f32⟩ : BufTy).Contents (Elt F) → (⟨S512x256, .f32⟩ : BufTy).Contents (Elt F)),
    binary main_v169 main_v168 main_v170 (Host.divf : (⟨S512x256, .f32⟩ : BufTy).Contents (Elt F) → (⟨S512x256, .f32⟩ : BufTy).Contents (Elt F) → (⟨S512x256, .f32⟩ : BufTy).Contents (Elt F)),
    nullary main_cst_45 (constant S_ .f32 0x00000000#32),
    TRef.unary (TRef.of (T := ⟨S_, .f32⟩) main_cst_45) (TRef.of (T := ⟨S_, .f32⟩) main_call10_v0) id ]

/-- @main's operations 357 … 369 of 369 (window `main_part3`). -/
abbrev ops_part3_3 : List (HloOp τ sig (Elt F)) :=
  [ TRef.unary (TRef.of (T := ⟨S_, .f32⟩) main_call10_v0) (TRef.of (T := ⟨S512x256, .f32⟩) main_call10_v1) (broadcastInDim S512x256 ![] bcast_S_S512x256),
    TRef.ternary (TRef.of (T := ⟨S512x256, .i1⟩) main_v166) (TRef.of (T := ⟨S512x256, .f32⟩) main_v170) (TRef.of (T := ⟨S512x256, .f32⟩) main_call10_v1) (TRef.of (T := ⟨S512x256, .f32⟩) main_v171) select,
    unary main_v116 main_v172 (broadcastInDim S1x400x1 ![0, 1] bcast_S1x400_S1x400x1_0_1 : (⟨S1x400, .i32⟩ : BufTy).Contents (Elt F) → (⟨S1x400x1, .i32⟩ : BufTy).Contents (Elt F)),
    unary main_v172 main_v173 (sitofp .f32 : (⟨S1x400x1, .i32⟩ : BufTy).Contents (Elt F) → (⟨S1x400x1, .f32⟩ : BufTy).Contents (Elt F)),
    binary main_arg0 main_v173 main_v174 (fn_main_v174 (F := F)),
    binary main_v174 main_v151 main_v175 ((fun l r => Host.dotGeneral dot_S1x400x257_S257x256_S1x400x256_2_0_01_1_n_n none l r) : (⟨S1x400x257, .f32⟩ : BufTy).Contents (Elt F) → (⟨S257x256, .f32⟩ : BufTy).Contents (Elt F) → (⟨S1x400x256, .f32⟩ : BufTy).Contents (Elt F)),
    unary main_v117 main_v176 (broadcastInDim S1x400x1 ![0, 1] bcast_S1x400_S1x400x1_0_1 : (⟨S1x400, .i32⟩ : BufTy).Contents (Elt F) → (⟨S1x400x1, .i32⟩ : BufTy).Contents (Elt F)),
    unary main_v176 main_v177 (sitofp .f32 : (⟨S1x400x1, .i32⟩ : BufTy).Contents (Elt F) → (⟨S1x400x1, .f32⟩ : BufTy).Contents (Elt F)),
    binary main_arg1 main_v177 main_v178 (fn_main_v178 (F := F)),
    binary main_v178 main_v151 main_v179 ((fun l r => Host.dotGeneral dot_S1x400x257_S257x256_S1x400x256_2_0_01_1_n_n none l r) : (⟨S1x400x257, .f32⟩ : BufTy).Contents (Elt F) → (⟨S257x256, .f32⟩ : BufTy).Contents (Elt F) → (⟨S1x400x256, .f32⟩ : BufTy).Contents (Elt F)),
    binary main_v131 main_v171 main_v180 ((fun l r => Host.dotGeneral dot_S1x100x512_S512x256_S1x100x256_2_0_01_1_n_n none l r) : (⟨S1x100x512, .f32⟩ : BufTy).Contents (Elt F) → (⟨S512x256, .f32⟩ : BufTy).Contents (Elt F) → (⟨S1x100x256, .f32⟩ : BufTy).Contents (Elt F)),
    unary main_v180 main_v181 (broadcastInDim S1x100x1x256 ![0, 1, 3] bcast_S1x100x256_S1x100x1x256_0_1_3 : (⟨S1x100x256, .f32⟩ : BufTy).Contents (Elt F) → (⟨S1x100x1x256, .f32⟩ : BufTy).Contents (Elt F)),
    reshape main_v181 main_v182 (rfl : (.f32 : EltTy) = .f32) shapeCasts_S1x100x1x256_S100x1x256 ]

/-- Window `main_part3`'s operations. Not an abbreviation: `main_eq` below splits `ops` into the windows and no further. -/
def ops_part3 : List (HloOp τ sig (Elt F)) :=
  ops_part3_0 ++ (ops_part3_1 ++ (ops_part3_2 ++ (ops_part3_3)))

/-- @main's 369 operations, in order (a called function's operations stand in its call's place, spelt `TRef.…`). -/
abbrev ops : List (HloOp τ sig (Elt F)) :=
  ops_part0 ++ (ops_part1 ++ (ops_part2 ++ (ops_part3)))

set_option maxHeartbeats 4000000 in
/-- This stretch of the program is its list of operations. -/
theorem main_part0_eq (c : Dev nD) : main_part0 (F := F) c = seq ops_part0 := rfl
/-- This stretch of the program is its list of operations. -/
theorem main_part1_eq (c : Dev nD) : main_part1 (F := F) c = seq ops_part1 := rfl
set_option maxHeartbeats 4000000 in
/-- This stretch of the program is its list of operations. -/
theorem main_part2_eq (c : Dev nD) : main_part2 (F := F) c = seq ops_part2 := rfl
set_option maxHeartbeats 4000000 in
/-- This stretch of the program is its list of operations. -/
theorem main_part3_eq (c : Dev nD) : main_part3 (F := F) c = seq ops_part3 := rfl
/-- This stretch of the program is its list of operations. -/
theorem main_eq (c : Dev nD) : main (F := F) c = seq ops := by
  simp only [ops, seq_append, ← main_part0_eq c, ← main_part1_eq c, ← main_part2_eq c, ← main_part3_eq c]
  rfl
/-- Nothing of the program is scoped. -/
theorem scopedRefs_eq : (Finset.univ.filter fun b : Ref sig .tc => b.isScoped) = ∅ := by decide
/-- Nothing of the program is scoped. -/
theorem scopedSems_eq : (Finset.univ.filter fun sm : SemLoc sig => sm.isScoped .tc) = ∅ := by decide
/-- These operations touch the TensorCore's buffers only. -/
theorem ops_part0_0_sub : (ops_part0_0 : List (HloOp τ sig (Elt F))).Forall fun op => op.bufs ⊆ tcRefs τ sig :=
  ⟨binary_bufs_sub .., nullary_bufs_sub .., unary_bufs_sub .., binary_bufs_sub .., unary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., nullary_bufs_sub .., nullary_bufs_sub ..⟩
/-- None of these operations writes a buffer fresh. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part0_1_sub : (ops_part0_1 : List (HloOp τ sig (Elt F))).Forall fun op => op.bufs ⊆ tcRefs τ sig :=
  ⟨unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub ..⟩
/-- None of these operations writes a buffer fresh. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part0_2_sub : (ops_part0_2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
/-- None of these operations writes a buffer fresh. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part0_3_sub : (ops_part0_3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub ..⟩
/-- None of these operations writes a buffer fresh. -/
theorem ops_part0_3_fresh : (ops_part0_3 : List (HloOp τ sig (Elt F))).Forall fun op => op.fresh = ∅ :=
  ⟨rfl, rfl, rfl, rfl, rfl, rfl, rfl, rfl, rfl, rfl⟩
/-- These operations touch the TensorCore's buffers only. -/
theorem ops_part1_sub : (ops_part1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., binary_bufs_sub .., binary_bufs_sub .., nullary_bufs_sub .., binary_bufs_sub ..⟩
/-- None of these operations writes a buffer fresh. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part2_0_sub : (ops_part2_0 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., nullary_bufs_sub ..⟩
/-- None of these operations writes a buffer fresh. -/
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part2_1_sub : (ops_part2_1 : List (HloOp τ sig (Elt F))).Forall fun op => op.bufs ⊆ tcRefs τ sig :=
  ⟨quaternary_bufs_sub .., quaternary_bufs_sub .., nullary_bufs_sub .., nullary_bufs_sub .., nullary_bufs_sub .., quaternary_bufs_sub .., quaternary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub ..⟩
/-- None of these operations writes a buffer fresh. -/
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part2_2_sub : (ops_part2_2 : List (HloOp τ sig (Elt F))).Forall fun op => op.bufs ⊆ tcRefs τ sig :=
  ⟨ternary_bufs_sub .., binary_bufs_sub .., nullary_bufs_sub .., unary_bufs_sub .., binary_bufs_sub .., reshape_bufs_sub .., unary_bufs_sub .., reshape_bufs_sub .., nullary_bufs_sub .., binary_bufs_sub .., nullary_bufs_sub .., unary_bufs_sub .., binary_bufs_sub .., unary_bufs_sub .., reshape_bufs_sub .., binary_bufs_sub .., nullary_bufs_sub .., nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub ..⟩
/-- None of these operations writes a buffer fresh. -/
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part2_3_sub : (ops_part2_3 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., unary_bufs_sub .., nullary_bufs_sub .., unary_bufs_sub .., binary_bufs_sub ..⟩
/-- None of these operations writes a buffer fresh. -/
theorem ops_part2_3_fresh : (ops_part2_3 : List (HloOp τ sig (Elt F))).Forall fun op => op.fresh = ∅ :=
  ⟨rfl, rfl, rfl, rfl, rfl, rfl, rfl, rfl, rfl, rfl, rfl, rfl, rfl, rfl, rfl, rfl⟩
/-- These operations touch the TensorCore's buffers only. -/
theorem ops_part3_0_sub : (ops_part3_0 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., unary_bufs_sub ..⟩
/-- None of these operations writes a buffer fresh. -/
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part3_1_sub : (ops_part3_1 : List (HloOp τ sig (Elt F))).Forall fun op => op.bufs ⊆ tcRefs τ sig :=
  ⟨ternary_bufs_sub .., nullary_bufs_sub .., nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., unary_bufs_sub .., nullary_bufs_sub .., unary_bufs_sub ..⟩
/-- None of these operations writes a buffer fresh. -/
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part3_2_sub : (ops_part3_2 : List (HloOp τ sig (Elt F))).Forall fun op => op.bufs ⊆ tcRefs τ sig :=
  ⟨binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub ..⟩
/-- None of these operations writes a buffer fresh. -/
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch the TensorCore's buffers only. -/
theorem ops_part3_3_sub : (ops_part3_3 : List (HloOp τ sig (Elt F))).Forall fun op => op.bufs ⊆ tcRefs τ sig :=
  ⟨unary_bufs_sub .., ternary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub ..⟩
/-- None of these operations writes a buffer fresh. -/
theorem ops_part3_3_fresh : (ops_part3_3 : List (HloOp τ sig (Elt F))).Forall fun op => op.fresh = ∅ :=
  ⟨rfl, rfl, rfl, rfl, rfl, rfl, rfl, rfl, rfl, rfl, rfl, rfl, rfl⟩
/-- These operations touch the TensorCore's buffers only. -/
theorem ops_sub : (ops : List (HloOp τ sig (Elt F))).Forall fun op => op.bufs ⊆ tcRefs τ sig :=
  List.forall_iff_forall_mem.mpr fun op h => by
    simp only [ops, ops_part0, ops_part2, ops_part3, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part2_3_sub op h, List.forall_iff_forall_mem.mp ops_part3_0_sub op h, List.forall_iff_forall_mem.mp ops_part3_1_sub op h, List.forall_iff_forall_mem.mp ops_part3_2_sub op h, List.forall_iff_forall_mem.mp ops_part3_3_sub op h]
/-- None of these operations writes a buffer fresh. -/
theorem ops_fresh : ∀ op ∈ (ops : List (HloOp τ sig (Elt F))), op.fresh = ∅ := fun op h => by
    simp only [ops, ops_part0, ops_part2, ops_part3, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part2_3_fresh op h, List.forall_iff_forall_mem.mp ops_part3_0_fresh op h, List.forall_iff_forall_mem.mp ops_part3_1_fresh op h, List.forall_iff_forall_mem.mp ops_part3_2_fresh op h, List.forall_iff_forall_mem.mp ops_part3_3_fresh op h]

/-- `main_v2`'s composed term of the arguments (named: it is used 5 times). -/
def res_main_v2 (V0 : Valuation τ sig (Elt F)) : (Proc.devRef .tc main_v2 : DevRef τ sig).ty.Contents (Elt F) :=
  Host.divf (Host.dotGeneral dot_S1x400x256_S1x400x256_S1x400x400_2_2_1_1_0_0 none (V0 (Proc.devRef .tc main_arg0)) (V0 (Proc.devRef .tc main_arg1))) (broadcastInDim S1x400x400 ![] bcast_S_S1x400x400 (constant S_ .f32 0x41800000#32))

/-- `main_v3`'s composed term of the arguments (named: it is used 2 times). -/
def res_main_v3 (V0 : Valuation τ sig (Elt F)) : (Proc.devRef .tc main_v3 : DevRef τ sig).ty.Contents (Elt F) :=
  broadcastInDim S1x1x400x400 ![0, 2, 3] bcast_S1x400x400_S1x1x400x400_0_2_3 (res_main_v2 V0)

/-- `main_call0_v0`'s composed term of the arguments (named: it is used 2 times). -/
def res_main_call0_v0 (V0 : Valuation τ sig (Elt F)) : (Proc.devRef .tc main_call0_v0 : DevRef τ sig).ty.Contents (Elt F) :=
  id (constant S_ .f32 0x00000000#32)

/-- `main_call0_v1`'s composed term of the arguments (named: it is used 3 times). -/
def res_main_call0_v1 (V0 : Valuation τ sig (Elt F)) : (Proc.devRef .tc main_call0_v1 : DevRef τ sig).ty.Contents (Elt F) :=
  id (constant S_ .f32 0x43C78000#32)

/-- `main_call0_v6`'s composed term of the arguments (named: it is used 2 times). -/
def res_main_call0_v6 (V0 : Valuation τ sig (Elt F)) : (Proc.devRef .tc main_call0_v6 : DevRef τ sig).ty.Contents (Elt F) :=
  Host.divf (sitofp .f32 (iotaInDim S1599 32 0)) (broadcastInDim S1599 ![] bcast_S_S1599 (constant S_ .f32 0x44C7E000#32))

/-- `main_v4`'s composed term of the arguments (named: it is used 2 times). -/
def res_main_v4 (V0 : Valuation τ sig (Elt F)) : (Proc.devRef .tc main_v4 : DevRef τ sig).ty.Contents (Elt F) :=
  concatenate S1600 0 [⟨S1599, (addf (mulf (broadcastInDim S1599 ![0] bcast_S1_S1599_0 (shapeCast _ (res_main_call0_v0 V0) shapeCasts_S_S1)) (subf (broadcastInDim S1599 ![] bcast_S_S1599 (constant S_ .f32 0x3F800000#32)) (res_main_call0_v6 V0))) (mulf (broadcastInDim S1599 ![0] bcast_S1_S1599_0 (shapeCast _ (res_main_call0_v1 V0) shapeCasts_S_S1)) (res_main_call0_v6 V0)))⟩, ⟨S1, (broadcastInDim S1 ![] bcast_S_S1 (res_main_call0_v1 V0))⟩] concatenates_S1599_S1_S1600_d0

/-- `main_call1_v0`'s composed term of the arguments (named: it is used 2 times). -/
def res_main_call1_v0 (V0 : Valuation τ sig (Elt F)) : (Proc.devRef .tc main_call1_v0 : DevRef τ sig).ty.Contents (Elt F) :=
  id (constant S_ .f32 0x00000000#32)

/-- `main_call1_v1`'s composed term of the arguments (named: it is used 3 times). -/
def res_main_call1_v1 (V0 : Valuation τ sig (Elt F)) : (Proc.devRef .tc main_call1_v1 : DevRef τ sig).ty.Contents (Elt F) :=
  id (constant S_ .f32 0x43C78000#32)

/-- `main_call1_v6`'s composed term of the arguments (named: it is used 2 times). -/
def res_main_call1_v6 (V0 : Valuation τ sig (Elt F)) : (Proc.devRef .tc main_call1_v6 : DevRef τ sig).ty.Contents (Elt F) :=
  Host.divf (sitofp .f32 (iotaInDim S1599 32 0)) (broadcastInDim S1599 ![] bcast_S_S1599 (constant S_ .f32 0x44C7E000#32))

/-- `main_v5`'s composed term of the arguments (named: it is used 2 times). -/
def res_main_v5 (V0 : Valuation τ sig (Elt F)) : (Proc.devRef .tc main_v5 : DevRef τ sig).ty.Contents (Elt F) :=
  concatenate S1600 0 [⟨S1599, (addf (mulf (broadcastInDim S1599 ![0] bcast_S1_S1599_0 (shapeCast _ (res_main_call1_v0 V0) shapeCasts_S_S1)) (subf (broadcastInDim S1599 ![] bcast_S_S1599 (constant S_ .f32 0x3F800000#32)) (res_main_call1_v6 V0))) (mulf (broadcastInDim S1599 ![0] bcast_S1_S1599_0 (shapeCast _ (res_main_call1_v1 V0) shapeCasts_S_S1)) (res_main_call1_v6 V0)))⟩, ⟨S1, (broadcastInDim S1 ![] bcast_S_S1 (res_main_call1_v1 V0))⟩] concatenates_S1599_S1_S1600_d0

/-- `main_v7`'s composed term of the arguments (named: it is used 5 times). -/
def res_main_v7 (V0 : Valuation τ sig (Elt F)) : (Proc.devRef .tc main_v7 : DevRef τ sig).ty.Contents (Elt F) :=
  fptosi 32 (Host.floor (res_main_v4 V0))

/-- `main_v9`'s composed term of the arguments (named: it is used 8 times). -/
def res_main_v9 (V0 : Valuation τ sig (Elt F)) : (Proc.devRef .tc main_v9 : DevRef τ sig).ty.Contents (Elt F) :=
  fptosi 32 (Host.floor (res_main_v5 V0))

/-- `main_v13`'s composed term of the arguments (named: it is used 3 times). -/
def res_main_v13 (V0 : Valuation τ sig (Elt F)) : (Proc.devRef .tc main_v13 : DevRef τ sig).ty.Contents (Elt F) :=
  minsi (addi (res_main_v7 V0) (broadcastInDim S1600 ![] bcast_S_S1600 (constantI S_ 32 1#32))) (broadcastInDim S1600 ![] bcast_S_S1600 (constantI S_ 32 399#32))

/-- `main_v17`'s composed term of the arguments (named: it is used 6 times). -/
def res_main_v17 (V0 : Valuation τ sig (Elt F)) : (Proc.devRef .tc main_v17 : DevRef τ sig).ty.Contents (Elt F) :=
  minsi (addi (res_main_v9 V0) (broadcastInDim S1600 ![] bcast_S_S1600 (constantI S_ 32 1#32))) (broadcastInDim S1600 ![] bcast_S_S1600 (constantI S_ 32 399#32))

/-- `main_v20`'s composed term of the arguments (named: it is used 4 times). -/
def res_main_v20 (V0 : Valuation τ sig (Elt F)) : (Proc.devRef .tc main_v20 : DevRef τ sig).ty.Contents (Elt F) :=
  broadcastInDim S1x1x1600x1 ![2] bcast_S1600_S1x1x1600x1_2 (subf (res_main_v4 V0) (sitofp .f32 (res_main_v7 V0)))

/-- `main_v23`'s composed term of the arguments (named: it is used 4 times). -/
def res_main_v23 (V0 : Valuation τ sig (Elt F)) : (Proc.devRef .tc main_v23 : DevRef τ sig).ty.Contents (Elt F) :=
  broadcastInDim S1x1x1x1600 ![3] bcast_S1600_S1x1x1x1600_3 (subf (res_main_v5 V0) (sitofp .f32 (res_main_v9 V0)))

/-- `main_v30`'s composed term of the arguments (named: it is used 2 times). -/
def res_main_v30 (V0 : Valuation τ sig (Elt F)) : (Proc.devRef .tc main_v30 : DevRef τ sig).ty.Contents (Elt F) :=
  Host.gather gather_S1x1x400x400_S1600x1_S1x1x1600x400_013_2_n_n_2_1_111400 (res_main_v3 V0) (broadcastInDim S1600x1 ![0] bcast_S1600_S1600x1_0 (select (cmpi .slt (res_main_v7 V0) (broadcastInDim S1600 ![] bcast_S_S1600 (constantI S_ 32 0#32))) (addi (res_main_v7 V0) (broadcastInDim S1600 ![] bcast_S_S1600 (constantI S_ 32 400#32))) (res_main_v7 V0)))

/-- `main_v37`'s composed term of the arguments (named: it is used 2 times). -/
def res_main_v37 (V0 : Valuation τ sig (Elt F)) : (Proc.devRef .tc main_v37 : DevRef τ sig).ty.Contents (Elt F) :=
  Host.gather gather_S1x1x400x400_S1600x1_S1x1x1600x400_013_2_n_n_2_1_111400 (res_main_v3 V0) (broadcastInDim S1600x1 ![0] bcast_S1600_S1600x1_0 (select (cmpi .slt (res_main_v13 V0) (broadcastInDim S1600 ![] bcast_S_S1600 (constantI S_ 32 0#32))) (addi (res_main_v13 V0) (broadcastInDim S1600 ![] bcast_S_S1600 (constantI S_ 32 400#32))) (res_main_v13 V0)))

/-- `main_v99`'s composed term of the arguments (named: it is used 2 times). -/
def res_main_v99 (V0 : Valuation τ sig (Elt F)) : (Proc.devRef .tc main_v99 : DevRef τ sig).ty.Contents (Elt F) :=
  Host.exp (subf (res_main_v2 V0) (broadcastInDim S1x400x400 ![0, 1, 2] bcast_S1x1x400_S1x400x400_0_1_2 (broadcastInDim S1x1x400 ![0, 2] bcast_S1x400_S1x1x400_0_2 (maximumf (broadcastInDim S1x400 ![] bcast_S_S1x400 (constant S_ .f32 0xFF800000#32)) (Host.reduce FloatOps.maximumf (res_main_v2 V0) (constant S_ .f32 0xFF800000#32) reducesTo_S1x400x400_S1x400_d1 h_S_)))))

/-- `main_v110`'s composed term of the arguments (named: it is used 2 times). -/
def res_main_v110 (V0 : Valuation τ sig (Elt F)) : (Proc.devRef .tc main_v110 : DevRef τ sig).ty.Contents (Elt F) :=
  Host.exp (subf (res_main_v2 V0) (broadcastInDim S1x400x400 ![0, 1, 2] bcast_S1x400x1_S1x400x400_0_1_2 (broadcastInDim S1x400x1 ![0, 1] bcast_S1x400_S1x400x1_0_1 (maximumf (broadcastInDim S1x400 ![] bcast_S_S1x400 (constant S_ .f32 0xFF800000#32)) (Host.reduce FloatOps.maximumf (res_main_v2 V0) (constant S_ .f32 0xFF800000#32) reducesTo_S1x400x400_S1x400_d2 h_S_)))))

/-- `main_v115`'s composed term of the arguments (named: it is used 4 times). -/
def res_main_v115 (V0 : Valuation τ sig (Elt F)) : (Proc.devRef .tc main_v115 : DevRef τ sig).ty.Contents (Elt F) :=
  mulf (Host.divf (res_main_v99 V0) (broadcastInDim S1x400x400 ![0, 1, 2] bcast_S1x1x400_S1x400x400_0_1_2 (broadcastInDim S1x1x400 ![0, 2] bcast_S1x400_S1x1x400_0_2 (Host.reduceAdd (res_main_v99 V0) (constant S_ .f32 0x00000000#32) reducesTo_S1x400x400_S1x400_d1 h_S_)))) (Host.divf (res_main_v110 V0) (broadcastInDim S1x400x400 ![0, 1, 2] bcast_S1x400x1_S1x400x400_0_1_2 (broadcastInDim S1x400x1 ![0, 1] bcast_S1x400_S1x400x1_0_1 (Host.reduceAdd (res_main_v110 V0) (constant S_ .f32 0x00000000#32) reducesTo_S1x400x400_S1x400_d2 h_S_))))

/-- `main_call2_v0`'s composed term of the arguments (named: it is used 2 times). -/
def res_main_call2_v0 (V0 : Valuation τ sig (Elt F)) : (Proc.devRef .tc main_call2_v0 : DevRef τ sig).ty.Contents (Elt F) :=
  iotaInDim S1x400x400 32 2

/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

/-- `main_call2_c`'s composed term of the arguments (named: it is used 2 times). -/
def res_main_call2_c (V0 : Valuation τ sig (Elt F)) : (Proc.devRef .tc main_call2_c : DevRef τ sig).ty.Contents (Elt F) :=
  constantI S_ 32 0#32

/-- `main_v116`'s composed term of the arguments (named: it is used 2 times). -/
def res_main_v116 (V0 : Valuation τ sig (Elt F)) : (Proc.devRef .tc main_v116 : DevRef τ sig).ty.Contents (Elt F) :=
  (fun j => (Host.argReduce reducer_argmax_f32_i32 (res_main_v115 V0) (res_main_call2_v0 V0) (res_main_call2_cst V0) (res_main_call2_c V0) reducesTo_S1x400x400_S1x400_d2 h_S_ j).2)

/-- `main_call3_v0`'s composed term of the arguments (named: it is used 2 times). -/
def res_main_call3_v0 (V0 : Valuation τ sig (Elt F)) : (Proc.devRef .tc main_call3_v0 : DevRef τ sig).ty.Contents (Elt F) :=
  iotaInDim S1x400x400 32 1

/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

/-- `main_call3_c`'s composed term of the arguments (named: it is used 2 times). -/
def res_main_call3_c (V0 : Valuation τ sig (Elt F)) : (Proc.devRef .tc main_call3_c : DevRef τ sig).ty.Contents (Elt F) :=
  constantI S_ 32 0#32

/-- `main_v118`'s composed term of the arguments (named: it is used 3 times). -/
def res_main_v118 (V0 : Valuation τ sig (Elt F)) : (Proc.devRef .tc main_v118 : DevRef τ sig).ty.Contents (Elt F) :=
  shapeCast _ (res_main_v116 V0) shapeCasts_S1x400_S400

/-- `main_call4_v5`'s composed term of the arguments (named: it is used 3 times). -/
def res_main_call4_v5 (V0 : Valuation τ sig (Elt F)) : (Proc.devRef .tc main_call4_v5 : DevRef τ sig).ty.Contents (Elt F) :=
  broadcastInDim S400x1 ![0] bcast_S400_S400x1_0 (select (cmpi .slt (res_main_v118 V0) (broadcastInDim S400 ![] bcast_S_S400 (constantI S_ 32 0#32))) (addi (res_main_v118 V0) (broadcastInDim S400 ![] bcast_S_S400 (constantI S_ 32 400#32))) (res_main_v118 V0))

/-- `main_v132`'s composed term of the arguments (named: it is used 2 times). -/
def res_main_v132 (V0 : Valuation τ sig (Elt F)) : (Proc.devRef .tc main_v132 : DevRef τ sig).ty.Contents (Elt F) :=
  iotaInDim S257x256 32 0

/-- `main_v133`'s composed term of the arguments (named: it is used 2 times). -/
def res_main_v133 (V0 : Valuation τ sig (Elt F)) : (Proc.devRef .tc main_v133 : DevRef τ sig).ty.Contents (Elt F) :=
  iotaInDim S257x256 32 1

/-- `main_v135`'s composed term of the arguments (named: it is used 3 times). -/
def res_main_v135 (V0 : Valuation τ sig (Elt F)) : (Proc.devRef .tc main_v135 : DevRef τ sig).ty.Contents (Elt F) :=
  muli (res_main_v133 V0) (broadcastInDim S257x256 ![] bcast_S_S257x256 (constantI S_ 32 257#32))

/-- `main_call5_v0`'s composed term of the arguments (named: it is used 3 times). -/
def res_main_call5_v0 (V0 : Valuation τ sig (Elt F)) : (Proc.devRef .tc main_call5_v0 : DevRef τ sig).ty.Contents (Elt F) :=
  id (constantI S_ 32 256#32)

/-- `main_call5_v2`'s composed term of the arguments (named: it is used 2 times). -/
def res_main_call5_v2 (V0 : Valuation τ sig (Elt F)) : (Proc.devRef .tc main_call5_v2 : DevRef τ sig).ty.Contents (Elt F) :=
  Host.divsi (res_main_v135 V0) (broadcastInDim S257x256 ![] bcast_S_S257x256 (res_main_call5_v0 V0))

/-- `main_v136`'s composed term of the arguments (named: it is used 2 times). -/
def res_main_v136 (V0 : Valuation τ sig (Elt F)) : (Proc.devRef .tc main_v136 : DevRef τ sig).ty.Contents (Elt F) :=
  select (andi (cmpi .ne (signi (res_main_v135 V0)) (broadcastInDim S257x256 ![] bcast_S_S257x256 (signi (res_main_call5_v0 V0)))) (cmpi .ne (Host.remsi (res_main_v135 V0) (broadcastInDim S257x256 ![] bcast_S_S257x256 (res_main_call5_v0 V0))) (broadcastInDim S257x256 ![] bcast_S_S257x256 (constantI S_ 32 0#32)))) (subi (res_main_call5_v2 V0) (broadcastInDim S257x256 ![] bcast_S_S257x256 (constantI S_ 32 1#32))) (res_main_call5_v2 V0)

/-- `main_v141`'s composed term of the arguments (named: it is used 3 times). -/
def res_main_v141 (V0 : Valuation τ sig (Elt F)) : (Proc.devRef .tc main_v141 : DevRef τ sig).ty.Contents (Elt F) :=
  muli (negi (addi (res_main_v133 V0) (broadcastInDim S257x256 ![] bcast_S_S257x256 (constantI S_ 32 1#32)))) (broadcastInDim S257x256 ![] bcast_S_S257x256 (constantI S_ 32 257#32))

/-- `main_call6_v0`'s composed term of the arguments (named: it is used 3 times). -/
def res_main_call6_v0 (V0 : Valuation τ sig (Elt F)) : (Proc.devRef .tc main_call6_v0 : DevRef τ sig).ty.Contents (Elt F) :=
  id (constantI S_ 32 256#32)

/-- `main_call6_v2`'s composed term of the arguments (named: it is used 2 times). -/
def res_main_call6_v2 (V0 : Valuation τ sig (Elt F)) : (Proc.devRef .tc main_call6_v2 : DevRef τ sig).ty.Contents (Elt F) :=
  Host.divsi (res_main_v141 V0) (broadcastInDim S257x256 ![] bcast_S_S257x256 (res_main_call6_v0 V0))

/-- `main_v143`'s composed term of the arguments (named: it is used 2 times). -/
def res_main_v143 (V0 : Valuation τ sig (Elt F)) : (Proc.devRef .tc main_v143 : DevRef τ sig).ty.Contents (Elt F) :=
  negi (select (andi (cmpi .ne (signi (res_main_v141 V0)) (broadcastInDim S257x256 ![] bcast_S_S257x256 (signi (res_main_call6_v0 V0)))) (cmpi .ne (Host.remsi (res_main_v141 V0) (broadcastInDim S257x256 ![] bcast_S_S257x256 (res_main_call6_v0 V0))) (broadcastInDim S257x256 ![] bcast_S_S257x256 (constantI S_ 32 0#32)))) (subi (res_main_call6_v2 V0) (broadcastInDim S257x256 ![] bcast_S_S257x256 (constantI S_ 32 1#32))) (res_main_call6_v2 V0))

/-- `main_v151`'s composed term of the arguments (named: it is used 2 times). -/
def res_main_v151 (V0 : Valuation τ sig (Elt F)) : (Proc.devRef .tc main_v151 : DevRef τ sig).ty.Contents (Elt F) :=
  select (andi (cmpi .sle (res_main_v136 V0) (res_main_v132 V0)) (cmpi .slt (res_main_v132 V0) (res_main_v143 V0))) (Host.divf (broadcastInDim S257x256 ![] bcast_S_S257x256 (constant S_ .f32 0x3F800000#32)) (sitofp .f32 (subi (res_main_v143 V0) (res_main_v136 V0)))) (broadcastInDim S257x256 ![] bcast_S_S257x256 (id (constant S_ .f32 0x00000000#32)))

/-- `main_v152`'s composed term of the arguments (named: it is used 2 times). -/
def res_main_v152 (V0 : Valuation τ sig (Elt F)) : (Proc.devRef .tc main_v152 : DevRef τ sig).ty.Contents (Elt F) :=
  iotaInDim S512x256 32 0

/-- `main_v153`'s composed term of the arguments (named: it is used 2 times). -/
def res_main_v153 (V0 : Valuation τ sig (Elt F)) : (Proc.devRef .tc main_v153 : DevRef τ sig).ty.Contents (Elt F) :=
  iotaInDim S512x256 32 1

/-- `main_v155`'s composed term of the arguments (named: it is used 3 times). -/
def res_main_v155 (V0 : Valuation τ sig (Elt F)) : (Proc.devRef .tc main_v155 : DevRef τ sig).ty.Contents (Elt F) :=
  muli (res_main_v153 V0) (broadcastInDim S512x256 ![] bcast_S_S512x256 (constantI S_ 32 512#32))

/-- `main_call8_v0`'s composed term of the arguments (named: it is used 3 times). -/
def res_main_call8_v0 (V0 : Valuation τ sig (Elt F)) : (Proc.devRef .tc main_call8_v0 : DevRef τ sig).ty.Contents (Elt F) :=
  id (constantI S_ 32 256#32)

/-- `main_call8_v2`'s composed term of the arguments (named: it is used 2 times). -/
def res_main_call8_v2 (V0 : Valuation τ sig (Elt F)) : (Proc.devRef .tc main_call8_v2 : DevRef τ sig).ty.Contents (Elt F) :=
  Host.divsi (res_main_v155 V0) (broadcastInDim S512x256 ![] bcast_S_S512x256 (res_main_call8_v0 V0))

/-- `main_v156`'s composed term of the arguments (named: it is used 2 times). -/
def res_main_v156 (V0 : Valuation τ sig (Elt F)) : (Proc.devRef .tc main_v156 : DevRef τ sig).ty.Contents (Elt F) :=
  select (andi (cmpi .ne (signi (res_main_v155 V0)) (broadcastInDim S512x256 ![] bcast_S_S512x256 (signi (res_main_call8_v0 V0)))) (cmpi .ne (Host.remsi (res_main_v155 V0) (broadcastInDim S512x256 ![] bcast_S_S512x256 (res_main_call8_v0 V0))) (broadcastInDim S512x256 ![] bcast_S_S512x256 (constantI S_ 32 0#32)))) (subi (res_main_call8_v2 V0) (broadcastInDim S512x256 ![] bcast_S_S512x256 (constantI S_ 32 1#32))) (res_main_call8_v2 V0)

/-- `main_v161`'s composed term of the arguments (named: it is used 3 times). -/
def res_main_v161 (V0 : Valuation τ sig (Elt F)) : (Proc.devRef .tc main_v161 : DevRef τ sig).ty.Contents (Elt F) :=
  muli (negi (addi (res_main_v153 V0) (broadcastInDim S512x256 ![] bcast_S_S512x256 (constantI S_ 32 1#32)))) (broadcastInDim S512x256 ![] bcast_S_S512x256 (constantI S_ 32 512#32))

/-- `main_call9_v0`'s composed term of the arguments (named: it is used 3 times). -/
def res_main_call9_v0 (V0 : Valuation τ sig (Elt F)) : (Proc.devRef .tc main_call9_v0 : DevRef τ sig).ty.Contents (Elt F) :=
  id (constantI S_ 32 256#32)

/-- `main_call9_v2`'s composed term of the arguments (named: it is used 2 times). -/
def res_main_call9_v2 (V0 : Valuation τ sig (Elt F)) : (Proc.devRef .tc main_call9_v2 : DevRef τ sig).ty.Contents (Elt F) :=
  Host.divsi (res_main_v161 V0) (broadcastInDim S512x256 ![] bcast_S_S512x256 (res_main_call9_v0 V0))

/-- `main_v163`'s composed term of the arguments (named: it is used 2 times). -/
def res_main_v163 (V0 : Valuation τ sig (Elt F)) : (Proc.devRef .tc main_v163 : DevRef τ sig).ty.Contents (Elt F) :=
  negi (select (andi (cmpi .ne (signi (res_main_v161 V0)) (broadcastInDim S512x256 ![] bcast_S_S512x256 (signi (res_main_call9_v0 V0)))) (cmpi .ne (Host.remsi (res_main_v161 V0) (broadcastInDim S512x256 ![] bcast_S_S512x256 (res_main_call9_v0 V0))) (broadcastInDim S512x256 ![] bcast_S_S512x256 (constantI S_ 32 0#32)))) (subi (res_main_call9_v2 V0) (broadcastInDim S512x256 ![] bcast_S_S512x256 (constantI S_ 32 1#32))) (res_main_call9_v2 V0))

end Cert.ReferenceIdeal.Value

end
-- ==== Proof.RefRun.lean ====
/- The reference's run: each result as the operations compose it, the arguments unchanged. -/
module

public import proofs.«01_k».proof.Proof.RefOps

@[expose] public section

set_option maxRecDepth 8192
set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The upsampled correlation as the reference composes it. -/
def outConf (V0 : Valuation τ sig (Elt F)) : (Proc.devRef .tc main_v92 : DevRef τ sig).ty.Contents (Elt F) :=
  addf (addf (addf (mulf (mulf (Host.gather gather_S1x1x1600x400_S1600x1_S1x1x1600x1600_012_3_n_n_3_1_1116001 (res_main_v30 V0) (broadcastInDim S1600x1 ![0] bcast_S1600_S1600x1_0 (select (cmpi .slt (res_main_v9 V0) (broadcastInDim S1600 ![] bcast_S_S1600 (constantI S_ 32 0#32))) (addi (res_main_v9 V0) (broadcastInDim S1600 ![] bcast_S_S1600 (constantI S_ 32 400#32))) (res_main_v9 V0)))) (broadcastInDim S1x1x1600x1600 ![0, 1, 2, 3] bcast_S1x1x1600x1_S1x1x1600x1600_0_1_2_3 (subf (broadcastInDim S1x1x1600x1 ![] bcast_S_S1x1x1600x1 (constant S_ .f32 0x3F800000#32)) (res_main_v20 V0)))) (broadcastInDim S1x1x1600x1600 ![0, 1, 2, 3] bcast_S1x1x1x1600_S1x1x1600x1600_0_1_2_3 (subf (broadcastInDim S1x1x1x1600 ![] bcast_S_S1x1x1x1600 (constant S_ .f32 0x3F800000#32)) (res_main_v23 V0)))) (mulf (mulf (Host.gather gather_S1x1x1600x400_S1600x1_S1x1x1600x1600_012_3_n_n_3_1_1116001 (res_main_v30 V0) (broadcastInDim S1600x1 ![0] bcast_S1600_S1600x1_0 (select (cmpi .slt (res_main_v17 V0) (broadcastInDim S1600 ![] bcast_S_S1600 (constantI S_ 32 0#32))) (addi (res_main_v17 V0) (broadcastInDim S1600 ![] bcast_S_S1600 (constantI S_ 32 400#32))) (res_main_v17 V0)))) (broadcastInDim S1x1x1600x1600 ![0, 1, 2, 3] bcast_S1x1x1600x1_S1x1x1600x1600_0_1_2_3 (subf (broadcastInDim S1x1x1600x1 ![] bcast_S_S1x1x1600x1 (constant S_ .f32 0x3F800000#32)) (res_main_v20 V0)))) (broadcastInDim S1x1x1600x1600 ![0, 1, 2, 3] bcast_S1x1x1x1600_S1x1x1600x1600_0_1_2_3 (res_main_v23 V0)))) (mulf (mulf (Host.gather gather_S1x1x1600x400_S1600x1_S1x1x1600x1600_012_3_n_n_3_1_1116001 (res_main_v37 V0) (broadcastInDim S1600x1 ![0] bcast_S1600_S1600x1_0 (select (cmpi .slt (res_main_v9 V0) (broadcastInDim S1600 ![] bcast_S_S1600 (constantI S_ 32 0#32))) (addi (res_main_v9 V0) (broadcastInDim S1600 ![] bcast_S_S1600 (constantI S_ 32 400#32))) (res_main_v9 V0)))) (broadcastInDim S1x1x1600x1600 ![0, 1, 2, 3] bcast_S1x1x1600x1_S1x1x1600x1600_0_1_2_3 (res_main_v20 V0))) (broadcastInDim S1x1x1600x1600 ![0, 1, 2, 3] bcast_S1x1x1x1600_S1x1x1600x1600_0_1_2_3 (subf (broadcastInDim S1x1x1x1600 ![] bcast_S_S1x1x1x1600 (constant S_ .f32 0x3F800000#32)) (res_main_v23 V0))))) (mulf (mulf (Host.gather gather_S1x1x1600x400_S1600x1_S1x1x1600x1600_012_3_n_n_3_1_1116001 (res_main_v37 V0) (broadcastInDim S1600x1 ![0] bcast_S1600_S1600x1_0 (select (cmpi .slt (res_main_v17 V0) (broadcastInDim S1600 ![] bcast_S_S1600 (constantI S_ 32 0#32))) (addi (res_main_v17 V0) (broadcastInDim S1600 ![] bcast_S_S1600 (constantI S_ 32 400#32))) (res_main_v17 V0)))) (broadcastInDim S1x1x1600x1600 ![0, 1, 2, 3] bcast_S1x1x1600x1_S1x1x1600x1600_0_1_2_3 (res_main_v20 V0))) (broadcastInDim S1x1x1600x1600 ![0, 1, 2, 3] bcast_S1x1x1x1600_S1x1x1600x1600_0_1_2_3 (res_main_v23 V0)))

/-- The first token output as the reference composes it. -/
def outF0 (V0 : Valuation τ sig (Elt F)) : (Proc.devRef .tc main_v175 : DevRef τ sig).ty.Contents (Elt F) :=
  Host.dotGeneral dot_S1x400x257_S257x256_S1x400x256_2_0_01_1_n_n none (concatenate S1x400x257 2 [⟨S1x400x256, (V0 (Proc.devRef .tc main_arg0))⟩, ⟨S1x400x1, (sitofp .f32 (broadcastInDim S1x400x1 ![0, 1] bcast_S1x400_S1x400x1_0_1 (res_main_v116 V0)))⟩] concatenates_S1x400x256_S1x400x1_S1x400x257_d2) (res_main_v151 V0)

/-- The second token output as the reference composes it. -/
def outF1 (V0 : Valuation τ sig (Elt F)) : (Proc.devRef .tc main_v179 : DevRef τ sig).ty.Contents (Elt F) :=
  Host.dotGeneral dot_S1x400x257_S257x256_S1x400x256_2_0_01_1_n_n none (concatenate S1x400x257 2 [⟨S1x400x256, (V0 (Proc.devRef .tc main_arg1))⟩, ⟨S1x400x1, (sitofp .f32 (broadcastInDim S1x400x1 ![0, 1] bcast_S1x400_S1x400x1_0_1 ((fun j => (Host.argReduce reducer_argmax_f32_i32 (res_main_v115 V0) (res_main_call3_v0 V0) (res_main_call3_cst V0) (res_main_call3_c V0) reducesTo_S1x400x400_S1x400_d1 h_S_ j).2))))⟩] concatenates_S1x400x256_S1x400x1_S1x400x257_d2) (res_main_v151 V0)

/-- The third token output as the reference composes it. -/
def outT32 (V0 : Valuation τ sig (Elt F)) : (Proc.devRef .tc main_v182 : DevRef τ sig).ty.Contents (Elt F) :=
  shapeCast _ (broadcastInDim S1x100x1x256 ![0, 1, 3] bcast_S1x100x256_S1x100x1x256_0_1_3 (Host.dotGeneral dot_S1x100x512_S512x256_S1x100x256_2_0_01_1_n_n none (concatenate S1x100x512 2 [⟨S1x100x256, (V0 (Proc.devRef .tc main_arg7))⟩, ⟨S1x100x256, (shapeCast _ (transpose S1x10x10x256 [0, 2, 3, 1] (Host.divf (Host.reduceAdd (shapeCast _ (transpose S1x256x20x20 [0, 3, 1, 2] (shapeCast _ (mulf (addf (V0 (Proc.devRef .tc main_arg0)) (select (broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)) (Host.gather gather_S1x400x256_S400x1_S1x400x256_02_1_n_n_1_1_11256 (V0 (Proc.devRef .tc main_arg1)) (res_main_call4_v5 V0)) (broadcastInDim S1x400x256 ![] bcast_S_S1x400x256 (constant S_ .f32 0x7FC00000#32)))) (broadcastInDim S1x400x256 ![] bcast_S_S1x400x256 (constant S_ .f32 0x3F000000#32))) shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)⟩] concatenates_S1x100x256_S1x100x256_S1x100x512_d2) (select (andi (cmpi .sle (res_main_v156 V0) (res_main_v152 V0)) (cmpi .slt (res_main_v152 V0) (res_main_v163 V0))) (Host.divf (broadcastInDim S512x256 ![] bcast_S_S512x256 (constant S_ .f32 0x3F800000#32)) (sitofp .f32 (subi (res_main_v163 V0) (res_main_v156 V0)))) (broadcastInDim S512x256 ![] bcast_S_S512x256 (id (constant S_ .f32 0x00000000#32)))))) shapeCasts_S1x100x1x256_S100x1x256

/-- The device's buffer contents before @main's first window. -/
def val0 (V0 : Valuation τ sig (Elt F)) : Valuation τ sig (Elt F) := V0
/-- The arguments of @main. -/
abbrev argRefs : List (Ref sig .tc) := [main_arg0, main_arg1, main_arg2, main_arg3, main_arg4, main_arg5, main_arg6, main_arg7, main_arg8]
/-- An argument still holds what it was launched with. -/
theorem val0_arg (V0 : Valuation τ sig (Elt F)) (r : Ref sig .tc) (h : r ∈ argRefs) : val0 V0 (no_index (Proc.devRef .tc r)) = V0 (Proc.devRef .tc r) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_cst_0, main_cst_1, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v4, main_cst_2, main_cst_3]
/-- What these operations write. -/
theorem ops_part0_0_writes : (ops_part0_0 : List (HloOp τ sig (Elt F))).Forall fun op => op.writes ⊆ (ops_part0_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- An argument still holds what it was launched with. -/
theorem val0_1_arg (V0 : Valuation τ sig (Elt F)) (r : Ref sig .tc) (h : r ∈ argRefs) : val0_1 V0 (no_index (Proc.devRef .tc r)) = V0 (Proc.devRef .tc r) :=
  (val0_1_keep V0 r ((by decide : ∀ r ∈ argRefs, r ∉ ops_part0_0_W) r h)).trans (val0_arg V0 r h)
set_option maxHeartbeats 2000000 in
/-- What `main_v2` holds then. -/
theorem val0_1_main_v2 (V0 : Valuation τ sig (Elt F)) : val0_1 V0 (no_index (Proc.devRef .tc main_v2)) = res_main_v2 V0 := by
  unfold val0_1
  simp only [ops_part0_0, TRef.binary, TRef.nullary, TRef.reshape, TRef.unary, TRef.toBuf, TRef.ofBuf, cast_eq]
  after_results_simp
  simp only [val0_arg V0 main_arg1 (by decide), val0_arg V0 main_arg0 (by decide)] <;> rfl
set_option maxHeartbeats 2000000 in
/-- What `main_v3` holds then. -/
theorem val0_1_main_v3 (V0 : Valuation τ sig (Elt F)) : val0_1 V0 (no_index (Proc.devRef .tc main_v3)) = res_main_v3 V0 := by
  unfold val0_1
  simp only [ops_part0_0, TRef.binary, TRef.nullary, TRef.reshape, TRef.unary, TRef.toBuf, TRef.ofBuf, cast_eq]
  after_results_simp
  simp only [val0_arg V0 main_arg1 (by decide), val0_arg V0 main_arg0 (by decide)] <;> rfl
set_option maxHeartbeats 2000000 in
/-- What `main_v4` holds then. -/
theorem val0_1_main_v4 (V0 : Valuation τ sig (Elt F)) : val0_1 V0 (no_index (Proc.devRef .tc main_v4)) = res_main_v4 V0 := by
  unfold val0_1
  simp only [ops_part0_0, TRef.binary, TRef.nullary, TRef.reshape, TRef.unary, TRef.toBuf, TRef.ofBuf, cast_eq]
  after_results_simp
  all_goals rfl
set_option maxHeartbeats 2000000 in
/-- What `main_cst_2` holds then. -/
theorem val0_1_main_cst_2 (V0 : Valuation τ sig (Elt F)) : val0_1 V0 (no_index (Proc.devRef .tc main_cst_2)) = constant S_ .f32 0x00000000#32 := by
  unfold val0_1
  simp only [ops_part0_0, TRef.binary, TRef.nullary, TRef.reshape, TRef.unary, TRef.toBuf, TRef.ofBuf, cast_eq]
  after_results_simp
  all_goals rfl
set_option maxHeartbeats 2000000 in
/-- What `main_cst_3` holds then. -/
theorem val0_1_main_cst_3 (V0 : Valuation τ sig (Elt F)) : val0_1 V0 (no_index (Proc.devRef .tc main_cst_3)) = constant S_ .f32 0x43C78000#32 := by
  unfold val0_1
  simp only [ops_part0_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_v0, main_call1_v1, main_call1_v2, main_call1_cst, main_call1_v3, main_call1_v4, main_call1_cst_0, main_call1_v5, main_call1_v6, main_call1_v7, main_call1_cst_1, main_call1_v8, main_call1_v9, main_call1_v10, main_call1_v11, main_call1_v12, main_call1_v13, main_call1_v14, main_call1_v15, main_call1_v16, main_v5, main_v6, main_v7, main_v8, main_v9, main_c, main_v10, main_v11, main_c_4, main_v12]
/-- What these operations write. -/
theorem ops_part0_1_writes : (ops_part0_1 : List (HloOp τ sig (Elt F))).Forall fun op => op.writes ⊆ (ops_part0_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- An argument still holds what it was launched with. -/
theorem val0_2_arg (V0 : Valuation τ sig (Elt F)) (r : Ref sig .tc) (h : r ∈ argRefs) : val0_2 V0 (no_index (Proc.devRef .tc r)) = V0 (Proc.devRef .tc r) :=
  (val0_2_keep V0 r ((by decide : ∀ r ∈ argRefs, r ∉ ops_part0_1_W) r h)).trans (val0_1_arg V0 r h)
/-- What `main_v2` holds then. -/
theorem val0_2_main_v2 (V0 : Valuation τ sig (Elt F)) : val0_2 V0 (no_index (Proc.devRef .tc main_v2)) = res_main_v2 V0 :=
  (val0_2_keep V0 main_v2 (by decide)).trans (val0_1_main_v2 V0)
/-- What `main_v3` holds then. -/
theorem val0_2_main_v3 (V0 : Valuation τ sig (Elt F)) : val0_2 V0 (no_index (Proc.devRef .tc main_v3)) = res_main_v3 V0 :=
  (val0_2_keep V0 main_v3 (by decide)).trans (val0_1_main_v3 V0)
/-- What `main_v4` holds then. -/
theorem val0_2_main_v4 (V0 : Valuation τ sig (Elt F)) : val0_2 V0 (no_index (Proc.devRef .tc main_v4)) = res_main_v4 V0 :=
  (val0_2_keep V0 main_v4 (by decide)).trans (val0_1_main_v4 V0)
set_option maxHeartbeats 2000000 in
/-- What `main_v5` holds then. -/
theorem val0_2_main_v5 (V0 : Valuation τ sig (Elt F)) : val0_2 V0 (no_index (Proc.devRef .tc main_v5)) = res_main_v5 V0 := by
  unfold val0_2
  simp only [ops_part0_1, TRef.binary, TRef.nullary, TRef.reshape, TRef.unary, TRef.toBuf, TRef.ofBuf, cast_eq]
  after_results_simp
  simp only [val0_1_main_cst_3, val0_1_main_cst_2] <;> rfl
set_option maxHeartbeats 2000000 in
/-- What `main_v7` holds then. -/
theorem val0_2_main_v7 (V0 : Valuation τ sig (Elt F)) : val0_2 V0 (no_index (Proc.devRef .tc main_v7)) = res_main_v7 V0 := by
  unfold val0_2
  simp only [ops_part0_1, TRef.binary, TRef.nullary, TRef.reshape, TRef.unary, TRef.toBuf, TRef.ofBuf, cast_eq]
  after_results_simp
  simp only [val0_1_main_v4] <;> rfl
set_option maxHeartbeats 2000000 in
/-- What `main_v9` holds then. -/
theorem val0_2_main_v9 (V0 : Valuation τ sig (Elt F)) : val0_2 V0 (no_index (Proc.devRef .tc main_v9)) = res_main_v9 V0 := by
  unfold val0_2
  simp only [ops_part0_1, TRef.binary, TRef.nullary, TRef.reshape, TRef.unary, TRef.toBuf, TRef.ofBuf, cast_eq]
  after_results_simp
  simp only [val0_1_main_cst_3, val0_1_main_cst_2] <;> rfl
set_option maxHeartbeats 2000000 in
/-- What `main_v11` holds then. -/
theorem val0_2_main_v11 (V0 : Valuation τ sig (Elt F)) : val0_2 V0 (no_index (Proc.devRef .tc main_v11)) = addi (res_main_v7 V0) (broadcastInDim S1600 ![] bcast_S_S1600 (constantI S_ 32 1#32)) := by
  unfold val0_2
  simp only [ops_part0_1, TRef.binary, TRef.nullary, TRef.reshape, TRef.unary, TRef.toBuf, TRef.ofBuf, cast_eq]
  after_results_simp
  simp only [val0_1_main_v4] <;> rfl
set_option maxHeartbeats 2000000 in
/-- What `main_v12` holds then. -/
theorem val0_2_main_v12 (V0 : Valuation τ sig (Elt F)) : val0_2 V0 (no_index (Proc.devRef .tc main_v12)) = broadcastInDim S1600 ![] bcast_S_S1600 (constantI S_ 32 399#32) := by
  unfold val0_2
  simp only [ops_part0_1, TRef.binary, TRef.nullary, TRef.reshape, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v13, main_c_5, main_v14, main_v15, main_c_6, main_v16, main_v17, main_v18, main_v19, main_v20, main_v21, main_v22, main_v23, main_c_7, main_v24, main_v25, main_c_8, main_v26, main_v27, main_v28, main_v29, main_v30, main_c_9, main_v31, main_v32, main_c_10, main_v33, main_v34, main_v35, main_v36]
/-- What these operations write. -/
theorem ops_part0_2_writes : (ops_part0_2 : List (HloOp τ sig (Elt F))).Forall fun op => op.writes ⊆ (ops_part0_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- An argument still holds what it was launched with. -/
theorem val0_3_arg (V0 : Valuation τ sig (Elt F)) (r : Ref sig .tc) (h : r ∈ argRefs) : val0_3 V0 (no_index (Proc.devRef .tc r)) = V0 (Proc.devRef .tc r) :=
  (val0_3_keep V0 r ((by decide : ∀ r ∈ argRefs, r ∉ ops_part0_2_W) r h)).trans (val0_2_arg V0 r h)
/-- What `main_v2` holds then. -/
theorem val0_3_main_v2 (V0 : Valuation τ sig (Elt F)) : val0_3 V0 (no_index (Proc.devRef .tc main_v2)) = res_main_v2 V0 :=
  (val0_3_keep V0 main_v2 (by decide)).trans (val0_2_main_v2 V0)
/-- What `main_v3` holds then. -/
theorem val0_3_main_v3 (V0 : Valuation τ sig (Elt F)) : val0_3 V0 (no_index (Proc.devRef .tc main_v3)) = res_main_v3 V0 :=
  (val0_3_keep V0 main_v3 (by decide)).trans (val0_2_main_v3 V0)
/-- What `main_v9` holds then. -/
theorem val0_3_main_v9 (V0 : Valuation τ sig (Elt F)) : val0_3 V0 (no_index (Proc.devRef .tc main_v9)) = res_main_v9 V0 :=
  (val0_3_keep V0 main_v9 (by decide)).trans (val0_2_main_v9 V0)
set_option maxHeartbeats 2000000 in
/-- What `main_v17` holds then. -/
theorem val0_3_main_v17 (V0 : Valuation τ sig (Elt F)) : val0_3 V0 (no_index (Proc.devRef .tc main_v17)) = res_main_v17 V0 := by
  unfold val0_3
  simp only [ops_part0_2]
  after_results_simp
  simp only [val0_2_main_v9] <;> rfl
set_option maxHeartbeats 2000000 in
/-- What `main_v20` holds then. -/
theorem val0_3_main_v20 (V0 : Valuation τ sig (Elt F)) : val0_3 V0 (no_index (Proc.devRef .tc main_v20)) = res_main_v20 V0 := by
  unfold val0_3
  simp only [ops_part0_2]
  after_results_simp
  simp only [val0_2_main_v7, val0_2_main_v4] <;> rfl
set_option maxHeartbeats 2000000 in
/-- What `main_v23` holds then. -/
theorem val0_3_main_v23 (V0 : Valuation τ sig (Elt F)) : val0_3 V0 (no_index (Proc.devRef .tc main_v23)) = res_main_v23 V0 := by
  unfold val0_3
  simp only [ops_part0_2]
  after_results_simp
  simp only [val0_2_main_v9, val0_2_main_v5] <;> rfl
set_option maxHeartbeats 2000000 in
/-- What `main_v30` holds then. -/
theorem val0_3_main_v30 (V0 : Valuation τ sig (Elt F)) : val0_3 V0 (no_index (Proc.devRef .tc main_v30)) = res_main_v30 V0 := by
  unfold val0_3
  simp only [ops_part0_2]
  after_results_simp
  simp only [val0_2_main_v7, val0_2_main_v3] <;> rfl
set_option maxHeartbeats 2000000 in
/-- What `main_v36` holds then. -/
theorem val0_3_main_v36 (V0 : Valuation τ sig (Elt F)) : val0_3 V0 (no_index (Proc.devRef .tc main_v36)) = broadcastInDim S1600x1 ![0] bcast_S1600_S1600x1_0 (select (cmpi .slt (res_main_v13 V0) (broadcastInDim S1600 ![] bcast_S_S1600 (constantI S_ 32 0#32))) (addi (res_main_v13 V0) (broadcastInDim S1600 ![] bcast_S_S1600 (constantI S_ 32 400#32))) (res_main_v13 V0)) := by
  unfold val0_3
  simp only [ops_part0_2]
  after_results_simp
  simp only [val0_2_main_v12, val0_2_main_v11] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v37, main_c_11, main_v38, main_v39, main_c_12, main_v40, main_v41, main_v42, main_v43, main_v44]
/-- What these operations write. -/
theorem ops_part0_3_writes : (ops_part0_3 : List (HloOp τ sig (Elt F))).Forall fun op => op.writes ⊆ (ops_part0_3_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
/-- An argument still holds what it was launched with. -/
theorem val1_arg (V0 : Valuation τ sig (Elt F)) (r : Ref sig .tc) (h : r ∈ argRefs) : val1 V0 (no_index (Proc.devRef .tc r)) = V0 (Proc.devRef .tc r) :=
  (val1_keep V0 r ((by decide : ∀ r ∈ argRefs, r ∉ ops_part0_3_W) r h)).trans (val0_3_arg V0 r h)
/-- What `main_v2` holds then. -/
theorem val1_main_v2 (V0 : Valuation τ sig (Elt F)) : val1 V0 (no_index (Proc.devRef .tc main_v2)) = res_main_v2 V0 :=
  (val1_keep V0 main_v2 (by decide)).trans (val0_3_main_v2 V0)
/-- What `main_v9` holds then. -/
theorem val1_main_v9 (V0 : Valuation τ sig (Elt F)) : val1 V0 (no_index (Proc.devRef .tc main_v9)) = res_main_v9 V0 :=
  (val1_keep V0 main_v9 (by decide)).trans (val0_3_main_v9 V0)
/-- What `main_v17` holds then. -/
theorem val1_main_v17 (V0 : Valuation τ sig (Elt F)) : val1 V0 (no_index (Proc.devRef .tc main_v17)) = res_main_v17 V0 :=
  (val1_keep V0 main_v17 (by decide)).trans (val0_3_main_v17 V0)
/-- What `main_v20` holds then. -/
theorem val1_main_v20 (V0 : Valuation τ sig (Elt F)) : val1 V0 (no_index (Proc.devRef .tc main_v20)) = res_main_v20 V0 :=
  (val1_keep V0 main_v20 (by decide)).trans (val0_3_main_v20 V0)
/-- What `main_v23` holds then. -/
theorem val1_main_v23 (V0 : Valuation τ sig (Elt F)) : val1 V0 (no_index (Proc.devRef .tc main_v23)) = res_main_v23 V0 :=
  (val1_keep V0 main_v23 (by decide)).trans (val0_3_main_v23 V0)
/-- What `main_v30` holds then. -/
theorem val1_main_v30 (V0 : Valuation τ sig (Elt F)) : val1 V0 (no_index (Proc.devRef .tc main_v30)) = res_main_v30 V0 :=
  (val1_keep V0 main_v30 (by decide)).trans (val0_3_main_v30 V0)
set_option maxHeartbeats 1000000 in
/-- What `main_v37` holds then. -/
theorem val1_main_v37 (V0 : Valuation τ sig (Elt F)) : val1 V0 (no_index (Proc.devRef .tc main_v37)) = res_main_v37 V0 := by
  unfold val1
  simp only [ops_part0_3]
  after_results_simp
  simp only [val0_3_main_v36, val0_3_main_v3] <;> rfl
set_option maxHeartbeats 1000000 in
/-- What `main_v44` holds then. -/
theorem val1_main_v44 (V0 : Valuation τ sig (Elt F)) : val1 V0 (no_index (Proc.devRef .tc main_v44)) = Host.gather gather_S1x1x1600x400_S1600x1_S1x1x1600x1600_012_3_n_n_3_1_1116001 (res_main_v30 V0) (broadcastInDim S1600x1 ![0] bcast_S1600_S1600x1_0 (select (cmpi .slt (res_main_v9 V0) (broadcastInDim S1600 ![] bcast_S_S1600 (constantI S_ 32 0#32))) (addi (res_main_v9 V0) (broadcastInDim S1600 ![] bcast_S_S1600 (constantI S_ 32 400#32))) (res_main_v9 V0))) := by
  unfold val1
  simp only [ops_part0_3]
  after_results_simp
  simp only [val0_3_main_v9, val0_3_main_v30] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_c_13, main_v45, main_v46, main_c_14, main_v47, main_v48, main_v49, main_v50, main_v51, main_c_15, main_v52, main_v53, main_c_16, main_v54, main_v55, main_v56, main_v57, main_v58, main_c_17, main_v59, main_v60, main_c_18, main_v61, main_v62, main_v63, main_v64, main_v65, main_cst_19, main_v66, main_v67, main_v68, main_v69, main_cst_20, main_v70, main_v71, main_v72, main_v73, main_cst_21, main_v74, main_v75, main_v76, main_v77, main_v78, main_v79, main_v80, main_v81, main_v82, main_cst_22, main_v83, main_v84, main_v85, main_v86, main_v87, main_v88, main_v89, main_v90, main_v91, main_v92, main_cst_23, main_v93]
/-- What these operations write. -/
theorem ops_part1_writes : (ops_part1 : List (HloOp τ sig (Elt F))).Forall fun op => op.writes ⊆ (ops_part1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- An argument still holds what it was launched with. -/
theorem val2_arg (V0 : Valuation τ sig (Elt F)) (r : Ref sig .tc) (h : r ∈ argRefs) : val2 V0 (no_index (Proc.devRef .tc r)) = V0 (Proc.devRef .tc r) :=
  (val2_keep V0 r ((by decide : ∀ r ∈ argRefs, r ∉ ops_part1_W) r h)).trans (val1_arg V0 r h)
/-- What `main_v2` holds then. -/
theorem val2_main_v2 (V0 : Valuation τ sig (Elt F)) : val2 V0 (no_index (Proc.devRef .tc main_v2)) = res_main_v2 V0 :=
  (val2_keep V0 main_v2 (by decide)).trans (val1_main_v2 V0)
set_option maxHeartbeats 2000000 in
/-- What `main_v92` holds then. -/
theorem val2_main_v92 (V0 : Valuation τ sig (Elt F)) : val2 V0 (no_index (Proc.devRef .tc main_v92)) = outConf V0 := by
  unfold val2
  simp only [ops_part1]
  after_results_simp
  simp only [val1_main_v23, val1_main_v20, val1_main_v17, val1_main_v37, val1_main_v9, val1_main_v30, val1_main_v44] <;> rfl
set_option maxHeartbeats 2000000 in
/-- What `main_v93` holds then. -/
theorem val2_main_v93 (V0 : Valuation τ sig (Elt F)) : val2 V0 (no_index (Proc.devRef .tc main_v93)) = Host.reduce FloatOps.maximumf (res_main_v2 V0) (constant S_ .f32 0xFF800000#32) reducesTo_S1x400x400_S1x400_d1 h_S_ := by
  unfold val2
  simp only [ops_part1]
  after_results_simp
  simp only [val1_main_v2] <;> rfl

/-- The device's buffer contents after @main's first 190 operations. -/
def val2_1 (V0 : Valuation τ sig (Elt F)) : Valuation τ sig (Elt F) := after ops_part2_0 (val2 V0)
/-- The buffers that window `ops_part2_0`'s operations write. -/
abbrev ops_part2_0_W : List (Ref sig .tc) := [main_cst_24, main_v94, main_v95, main_v96, main_v97, main_v98, main_v99, main_cst_25, main_v100, main_v101, main_v102, main_v103, main_cst_26, main_v104, main_cst_27, main_v105, main_v106, main_v107, main_v108, main_v109, main_v110, main_cst_28, main_v111, main_v112, main_v113, main_v114, main_v115, main_call2_v0, main_call2_cst, main_call2_c]
/-- What these operations write. -/
theorem ops_part2_0_writes : (ops_part2_0 : List (HloOp τ sig (Elt F))).Forall fun op => op.writes ⊆ (ops_part2_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
/-- An argument still holds what it was launched with. -/
theorem val2_1_arg (V0 : Valuation τ sig (Elt F)) (r : Ref sig .tc) (h : r ∈ argRefs) : val2_1 V0 (no_index (Proc.devRef .tc r)) = V0 (Proc.devRef .tc r) :=
  (val2_1_keep V0 r ((by decide : ∀ r ∈ argRefs, r ∉ ops_part2_0_W) r h)).trans (val2_arg V0 r h)
/-- What `main_v92` holds then. -/
theorem val2_1_main_v92 (V0 : Valuation τ sig (Elt F)) : val2_1 V0 (no_index (Proc.devRef .tc main_v92)) = outConf V0 :=
  (val2_1_keep V0 main_v92 (by decide)).trans (val2_main_v92 V0)
set_option maxHeartbeats 2000000 in
/-- What `main_v115` holds then. -/
theorem val2_1_main_v115 (V0 : Valuation τ sig (Elt F)) : val2_1 V0 (no_index (Proc.devRef .tc main_v115)) = res_main_v115 V0 := by
  unfold val2_1
  simp only [ops_part2_0, TRef.nullary, TRef.toBuf, TRef.ofBuf, cast_eq]
  after_results_simp
  simp only [val2_main_v2, val2_main_v93] <;> rfl
set_option maxHeartbeats 2000000 in
/-- What `main_call2_v0` holds then. -/
theorem val2_1_main_call2_v0 (V0 : Valuation τ sig (Elt F)) : val2_1 V0 (no_index (Proc.devRef .tc main_call2_v0)) = res_main_call2_v0 V0 := by
  unfold val2_1
  simp only [ops_part2_0, TRef.nullary, TRef.toBuf, TRef.ofBuf, cast_eq]
  after_results_simp
  all_goals rfl
set_option maxHeartbeats 2000000 in
/-- What `main_call2_cst` holds then. -/
theorem val2_1_main_call2_cst (V0 : Valuation τ sig (Elt F)) : val2_1 V0 (no_index (Proc.devRef .tc main_call2_cst)) = res_main_call2_cst V0 := by
  unfold val2_1
  simp only [ops_part2_0, TRef.nullary, TRef.toBuf, TRef.ofBuf, cast_eq]
  after_results_simp
  all_goals rfl
set_option maxHeartbeats 2000000 in
/-- What `main_call2_c` holds then. -/
theorem val2_1_main_call2_c (V0 : Valuation τ sig (Elt F)) : val2_1 V0 (no_index (Proc.devRef .tc main_call2_c)) = res_main_call2_c V0 := by
  unfold val2_1
  simp only [ops_part2_0, TRef.nullary, TRef.toBuf, TRef.ofBuf, cast_eq]
  after_results_simp
  all_goals rfl

/-- The device's buffer contents after @main's first 220 operations. -/
def val2_2 (V0 : Valuation τ sig (Elt F)) : Valuation τ sig (Elt F) := after ops_part2_1 (val2_1 V0)
/-- The buffers that window `ops_part2_1`'s operations write. -/
abbrev ops_part2_1_W : List (Ref sig .tc) := [main_call2_v1_0, main_v116, main_call3_v0, main_call3_cst, main_call3_c, main_call3_v1_0, main_v117, main_v118, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15]
/-- What these operations write. -/
theorem ops_part2_1_writes : (ops_part2_1 : List (HloOp τ sig (Elt F))).Forall fun op => op.writes ⊆ (ops_part2_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
/-- An argument still holds what it was launched with. -/
theorem val2_2_arg (V0 : Valuation τ sig (Elt F)) (r : Ref sig .tc) (h : r ∈ argRefs) : val2_2 V0 (no_index (Proc.devRef .tc r)) = V0 (Proc.devRef .tc r) :=
  (val2_2_keep V0 r ((by decide : ∀ r ∈ argRefs, r ∉ ops_part2_1_W) r h)).trans (val2_1_arg V0 r h)
/-- What `main_v92` holds then. -/
theorem val2_2_main_v92 (V0 : Valuation τ sig (Elt F)) : val2_2 V0 (no_index (Proc.devRef .tc main_v92)) = outConf V0 :=
  (val2_2_keep V0 main_v92 (by decide)).trans (val2_1_main_v92 V0)
set_option maxHeartbeats 2000000 in
/-- What `main_v116` holds then. -/
theorem val2_2_main_v116 (V0 : Valuation τ sig (Elt F)) : val2_2 V0 (no_index (Proc.devRef .tc main_v116)) = res_main_v116 V0 := by
  unfold val2_2
  simp only [ops_part2_1, TRef.binary, TRef.nullary, TRef.quaternary, TRef.ternary, TRef.unary, TRef.toBuf, TRef.ofBuf, cast_eq]
  after_results_simp
  simp only [val2_1_main_call2_c, val2_1_main_call2_cst, val2_1_main_call2_v0, val2_1_main_v115] <;> rfl
set_option maxHeartbeats 2000000 in
/-- What `main_v117` holds then. -/
theorem val2_2_main_v117 (V0 : Valuation τ sig (Elt F)) : val2_2 V0 (no_index (Proc.devRef .tc main_v117)) = (fun j => (Host.argReduce reducer_argmax_f32_i32 (res_main_v115 V0) (res_main_call3_v0 V0) (res_main_call3_cst V0) (res_main_call3_c V0) reducesTo_S1x400x400_S1x400_d1 h_S_ j).2) := by
  unfold val2_2
  simp only [ops_part2_1, TRef.binary, TRef.nullary, TRef.quaternary, TRef.ternary, TRef.unary, TRef.toBuf, TRef.ofBuf, cast_eq]
  after_results_simp
  simp only [val2_1_main_v115] <;> rfl
set_option maxHeartbeats 2000000 in
/-- What `main_call4_v13` holds then. -/
theorem val2_2_main_call4_v13 (V0 : Valuation τ sig (Elt F)) : val2_2 V0 (no_index (Proc.devRef .tc main_call4_v13)) = Host.gather gather_S1x400x256_S400x1_S1x400x256_02_1_n_n_1_1_11256 (V0 (Proc.devRef .tc main_arg1)) (res_main_call4_v5 V0) := by
  unfold val2_2
  simp only [ops_part2_1, TRef.binary, TRef.nullary, TRef.quaternary, TRef.ternary, TRef.unary, TRef.toBuf, TRef.ofBuf, cast_eq]
  after_results_simp
  simp only [val2_1_main_call2_c, val2_1_main_call2_cst, val2_1_main_call2_v0, val2_1_main_v115, val2_1_arg V0 main_arg1 (by decide)] <;> rfl
set_option maxHeartbeats 2000000 in
/-- What `main_call4_v14` holds then. -/
theorem val2_2_main_call4_v14 (V0 : Valuation τ sig (Elt F)) : val2_2 V0 (no_index (Proc.devRef .tc main_call4_v14)) = broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_) := by
  unfold val2_2
  simp only [ops_part2_1, TRef.binary, TRef.nullary, TRef.quaternary, TRef.ternary, TRef.unary, TRef.toBuf, TRef.ofBuf, cast_eq]
  after_results_simp
  simp only [val2_1_main_call2_c, val2_1_main_call2_cst, val2_1_main_call2_v0, val2_1_main_v115] <;> rfl
set_option maxHeartbeats 2000000 in
/-- What `main_call4_v15` holds then. -/
theorem val2_2_main_call4_v15 (V0 : Valuation τ sig (Elt F)) : val2_2 V0 (no_index (Proc.devRef .tc main_call4_v15)) = broadcastInDim S1x400x256 ![] bcast_S_S1x400x256 (constant S_ .f32 0x7FC00000#32) := by
  unfold val2_2
  simp only [ops_part2_1, TRef.binary, TRef.nullary, TRef.quaternary, TRef.ternary, TRef.unary, TRef.toBuf, TRef.ofBuf, cast_eq]
  after_results_simp
  all_goals rfl

/-- The device's buffer contents after @main's first 250 operations. -/
def val2_3 (V0 : Valuation τ sig (Elt F)) : Valuation τ sig (Elt F) := after ops_part2_2 (val2_2 V0)
/-- The buffers that window `ops_part2_2`'s operations write. -/
abbrev ops_part2_2_W : List (Ref sig .tc) := [main_v119, main_v120, main_cst_29, main_v121, main_v122, main_v123, main_v124, main_v125, main_cst_30, main_v126, main_cst_31, main_v127, main_v128, main_v129, main_v130, main_v131, main_v132, main_v133, main_c_32, main_v134, main_v135, main_c_33, main_call5_v0, main_call5_v1, main_call5_v2, main_call5_v3, main_call5_v4, main_call5_v5, main_call5_v6, main_call5_v7]
/-- What these operations write. -/
theorem ops_part2_2_writes : (ops_part2_2 : List (HloOp τ sig (Elt F))).Forall fun op => op.writes ⊆ (ops_part2_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val2_3_keep (V0 : Valuation τ sig (Elt F)) (r : Ref sig .tc) (h : r ∉ ops_part2_2_W) :
    val2_3 V0 (Proc.devRef .tc r) = val2_2 V0 (Proc.devRef .tc r) :=
  after_of_writes_sub ops_part2_2 _ ops_part2_2_writes h
/-- An argument still holds what it was launched with. -/
theorem val2_3_arg (V0 : Valuation τ sig (Elt F)) (r : Ref sig .tc) (h : r ∈ argRefs) : val2_3 V0 (no_index (Proc.devRef .tc r)) = V0 (Proc.devRef .tc r) :=
  (val2_3_keep V0 r ((by decide : ∀ r ∈ argRefs, r ∉ ops_part2_2_W) r h)).trans (val2_2_arg V0 r h)
/-- What `main_v92` holds then. -/
theorem val2_3_main_v92 (V0 : Valuation τ sig (Elt F)) : val2_3 V0 (no_index (Proc.devRef .tc main_v92)) = outConf V0 :=
  (val2_3_keep V0 main_v92 (by decide)).trans (val2_2_main_v92 V0)
/-- What `main_v116` holds then. -/
theorem val2_3_main_v116 (V0 : Valuation τ sig (Elt F)) : val2_3 V0 (no_index (Proc.devRef .tc main_v116)) = res_main_v116 V0 :=
  (val2_3_keep V0 main_v116 (by decide)).trans (val2_2_main_v116 V0)
/-- What `main_v117` holds then. -/
theorem val2_3_main_v117 (V0 : Valuation τ sig (Elt F)) : val2_3 V0 (no_index (Proc.devRef .tc main_v117)) = (fun j => (Host.argReduce reducer_argmax_f32_i32 (res_main_v115 V0) (res_main_call3_v0 V0) (res_main_call3_cst V0) (res_main_call3_c V0) reducesTo_S1x400x400_S1x400_d1 h_S_ j).2) :=
  (val2_3_keep V0 main_v117 (by decide)).trans (val2_2_main_v117 V0)
set_option maxHeartbeats 2000000 in
/-- What `main_v131` holds then. -/
theorem val2_3_main_v131 (V0 : Valuation τ sig (Elt F)) : val2_3 V0 (no_index (Proc.devRef .tc main_v131)) = concatenate S1x100x512 2 [⟨S1x100x256, (V0 (Proc.devRef .tc main_arg7))⟩, ⟨S1x100x256, (shapeCast _ (transpose S1x10x10x256 [0, 2, 3, 1] (Host.divf (Host.reduceAdd (shapeCast _ (transpose S1x256x20x20 [0, 3, 1, 2] (shapeCast _ (mulf (addf (V0 (Proc.devRef .tc main_arg0)) (select (broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)) (Host.gather gather_S1x400x256_S400x1_S1x400x256_02_1_n_n_1_1_11256 (V0 (Proc.devRef .tc main_arg1)) (res_main_call4_v5 V0)) (broadcastInDim S1x400x256 ![] bcast_S_S1x400x256 (constant S_ .f32 0x7FC00000#32)))) (broadcastInDim S1x400x256 ![] bcast_S_S1x400x256 (constant S_ .f32 0x3F000000#32))) shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)⟩] concatenates_S1x100x256_S1x100x256_S1x100x512_d2 := by
  unfold val2_3
  simp only [ops_part2_2, TRef.binary, TRef.ternary, TRef.unary, TRef.toBuf, TRef.ofBuf, cast_eq]
  after_results_simp
  simp only [val2_2_main_call4_v15, val2_2_main_call4_v13, val2_2_main_call4_v14, val2_2_arg V0 main_arg0 (by decide), val2_2_arg V0 main_arg7 (by decide)] <;> rfl
set_option maxHeartbeats 2000000 in
/-- What `main_v132` holds then. -/
theorem val2_3_main_v132 (V0 : Valuation τ sig (Elt F)) : val2_3 V0 (no_index (Proc.devRef .tc main_v132)) = res_main_v132 V0 := by
  unfold val2_3
  simp only [ops_part2_2, TRef.binary, TRef.ternary, TRef.unary, TRef.toBuf, TRef.ofBuf, cast_eq]
  after_results_simp
  all_goals rfl
set_option maxHeartbeats 2000000 in
/-- What `main_v133` holds then. -/
theorem val2_3_main_v133 (V0 : Valuation τ sig (Elt F)) : val2_3 V0 (no_index (Proc.devRef .tc main_v133)) = res_main_v133 V0 := by
  unfold val2_3
  simp only [ops_part2_2, TRef.binary, TRef.ternary, TRef.unary, TRef.toBuf, TRef.ofBuf, cast_eq]
  after_results_simp
  all_goals rfl
set_option maxHeartbeats 2000000 in
/-- What `main_v135` holds then. -/
theorem val2_3_main_v135 (V0 : Valuation τ sig (Elt F)) : val2_3 V0 (no_index (Proc.devRef .tc main_v135)) = res_main_v135 V0 := by
  unfold val2_3
  simp only [ops_part2_2, TRef.binary, TRef.ternary, TRef.unary, TRef.toBuf, TRef.ofBuf, cast_eq]
  after_results_simp
  all_goals rfl
set_option maxHeartbeats 2000000 in
/-- What `main_call5_v2` holds then. -/
theorem val2_3_main_call5_v2 (V0 : Valuation τ sig (Elt F)) : val2_3 V0 (no_index (Proc.devRef .tc main_call5_v2)) = res_main_call5_v2 V0 := by
  unfold val2_3
  simp only [ops_part2_2, TRef.binary, TRef.ternary, TRef.unary, TRef.toBuf, TRef.ofBuf, cast_eq]
  after_results_simp
  all_goals rfl
set_option maxHeartbeats 2000000 in
/-- What `main_call5_v6` holds then. -/
theorem val2_3_main_call5_v6 (V0 : Valuation τ sig (Elt F)) : val2_3 V0 (no_index (Proc.devRef .tc main_call5_v6)) = cmpi .ne (signi (res_main_v135 V0)) (broadcastInDim S257x256 ![] bcast_S_S257x256 (signi (res_main_call5_v0 V0))) := by
  unfold val2_3
  simp only [ops_part2_2, TRef.binary, TRef.ternary, TRef.unary, TRef.toBuf, TRef.ofBuf, cast_eq]
  after_results_simp
  all_goals rfl
set_option maxHeartbeats 2000000 in
/-- What `main_call5_v7` holds then. -/
theorem val2_3_main_call5_v7 (V0 : Valuation τ sig (Elt F)) : val2_3 V0 (no_index (Proc.devRef .tc main_call5_v7)) = broadcastInDim S257x256 ![] bcast_S_S257x256 (res_main_call5_v0 V0) := by
  unfold val2_3
  simp only [ops_part2_2, TRef.binary, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_3 (val2_3 V0)
/-- The buffers that window `ops_part2_3`'s operations write. -/
abbrev ops_part2_3_W : List (Ref sig .tc) := [main_call5_v8, main_call5_c, main_call5_v9, main_call5_v10, main_call5_v11, main_call5_c_0, main_call5_v12, main_call5_v13, main_v136, main_c_34, main_v137, main_v138, main_v139, main_c_35, main_v140, main_v141]
/-- What these operations write. -/
theorem ops_part2_3_writes : (ops_part2_3 : List (HloOp τ sig (Elt F))).Forall fun op => op.writes ⊆ (ops_part2_3_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_3` does not write keeps its contents through it. -/
theorem val3_keep (V0 : Valuation τ sig (Elt F)) (r : Ref sig .tc) (h : r ∉ ops_part2_3_W) :
    val3 V0 (Proc.devRef .tc r) = val2_3 V0 (Proc.devRef .tc r) :=
  after_of_writes_sub ops_part2_3 _ ops_part2_3_writes h
/-- An argument still holds what it was launched with. -/
theorem val3_arg (V0 : Valuation τ sig (Elt F)) (r : Ref sig .tc) (h : r ∈ argRefs) : val3 V0 (no_index (Proc.devRef .tc r)) = V0 (Proc.devRef .tc r) :=
  (val3_keep V0 r ((by decide : ∀ r ∈ argRefs, r ∉ ops_part2_3_W) r h)).trans (val2_3_arg V0 r h)
/-- What `main_v92` holds then. -/
theorem val3_main_v92 (V0 : Valuation τ sig (Elt F)) : val3 V0 (no_index (Proc.devRef .tc main_v92)) = outConf V0 :=
  (val3_keep V0 main_v92 (by decide)).trans (val2_3_main_v92 V0)
/-- What `main_v116` holds then. -/
theorem val3_main_v116 (V0 : Valuation τ sig (Elt F)) : val3 V0 (no_index (Proc.devRef .tc main_v116)) = res_main_v116 V0 :=
  (val3_keep V0 main_v116 (by decide)).trans (val2_3_main_v116 V0)
/-- What `main_v117` holds then. -/
theorem val3_main_v117 (V0 : Valuation τ sig (Elt F)) : val3 V0 (no_index (Proc.devRef .tc main_v117)) = (fun j => (Host.argReduce reducer_argmax_f32_i32 (res_main_v115 V0) (res_main_call3_v0 V0) (res_main_call3_cst V0) (res_main_call3_c V0) reducesTo_S1x400x400_S1x400_d1 h_S_ j).2) :=
  (val3_keep V0 main_v117 (by decide)).trans (val2_3_main_v117 V0)
/-- What `main_v131` holds then. -/
theorem val3_main_v131 (V0 : Valuation τ sig (Elt F)) : val3 V0 (no_index (Proc.devRef .tc main_v131)) = concatenate S1x100x512 2 [⟨S1x100x256, (V0 (Proc.devRef .tc main_arg7))⟩, ⟨S1x100x256, (shapeCast _ (transpose S1x10x10x256 [0, 2, 3, 1] (Host.divf (Host.reduceAdd (shapeCast _ (transpose S1x256x20x20 [0, 3, 1, 2] (shapeCast _ (mulf (addf (V0 (Proc.devRef .tc main_arg0)) (select (broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)) (Host.gather gather_S1x400x256_S400x1_S1x400x256_02_1_n_n_1_1_11256 (V0 (Proc.devRef .tc main_arg1)) (res_main_call4_v5 V0)) (broadcastInDim S1x400x256 ![] bcast_S_S1x400x256 (constant S_ .f32 0x7FC00000#32)))) (broadcastInDim S1x400x256 ![] bcast_S_S1x400x256 (constant S_ .f32 0x3F000000#32))) shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)⟩] concatenates_S1x100x256_S1x100x256_S1x100x512_d2 :=
  (val3_keep V0 main_v131 (by decide)).trans (val2_3_main_v131 V0)
/-- What `main_v132` holds then. -/
theorem val3_main_v132 (V0 : Valuation τ sig (Elt F)) : val3 V0 (no_index (Proc.devRef .tc main_v132)) = res_main_v132 V0 :=
  (val3_keep V0 main_v132 (by decide)).trans (val2_3_main_v132 V0)
set_option maxHeartbeats 1600000 in
/-- What `main_v136` holds then. -/
theorem val3_main_v136 (V0 : Valuation τ sig (Elt F)) : val3 V0 (no_index (Proc.devRef .tc main_v136)) = res_main_v136 V0 := by
  unfold val3
  simp only [ops_part2_3, TRef.binary, TRef.nullary, TRef.ternary, TRef.unary, TRef.toBuf, TRef.ofBuf, cast_eq]
  after_results_simp
  simp only [val2_3_main_call5_v2, val2_3_main_call5_v7, val2_3_main_v135, val2_3_main_call5_v6] <;> rfl
set_option maxHeartbeats 1600000 in
/-- What `main_v141` holds then. -/
theorem val3_main_v141 (V0 : Valuation τ sig (Elt F)) : val3 V0 (no_index (Proc.devRef .tc main_v141)) = res_main_v141 V0 := by
  unfold val3
  simp only [ops_part2_3, TRef.binary, TRef.nullary, TRef.ternary, TRef.unary, TRef.toBuf, TRef.ofBuf, cast_eq]
  after_results_simp
  simp only [val2_3_main_v133] <;> rfl

/-- The device's buffer contents after @main's first 296 operations. -/
def val3_1 (V0 : Valuation τ sig (Elt F)) : Valuation τ sig (Elt F) := after ops_part3_0 (val3 V0)
/-- The buffers that window `ops_part3_0`'s operations write. -/
abbrev ops_part3_0_W : List (Ref sig .tc) := [main_c_36, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v142, main_v143, main_v144, main_v145, main_v146, main_v147, main_v148, main_cst_37, main_v149, main_v150, main_cst_38, main_call7_v0, main_call7_v1]
/-- What these operations write. -/
theorem ops_part3_0_writes : (ops_part3_0 : List (HloOp τ sig (Elt F))).Forall fun op => op.writes ⊆ (ops_part3_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
/-- An argument still holds what it was launched with. -/
theorem val3_1_arg (V0 : Valuation τ sig (Elt F)) (r : Ref sig .tc) (h : r ∈ argRefs) : val3_1 V0 (no_index (Proc.devRef .tc r)) = V0 (Proc.devRef .tc r) :=
  (val3_1_keep V0 r ((by decide : ∀ r ∈ argRefs, r ∉ ops_part3_0_W) r h)).trans (val3_arg V0 r h)
/-- What `main_v92` holds then. -/
theorem val3_1_main_v92 (V0 : Valuation τ sig (Elt F)) : val3_1 V0 (no_index (Proc.devRef .tc main_v92)) = outConf V0 :=
  (val3_1_keep V0 main_v92 (by decide)).trans (val3_main_v92 V0)
/-- What `main_v116` holds then. -/
theorem val3_1_main_v116 (V0 : Valuation τ sig (Elt F)) : val3_1 V0 (no_index (Proc.devRef .tc main_v116)) = res_main_v116 V0 :=
  (val3_1_keep V0 main_v116 (by decide)).trans (val3_main_v116 V0)
/-- What `main_v117` holds then. -/
theorem val3_1_main_v117 (V0 : Valuation τ sig (Elt F)) : val3_1 V0 (no_index (Proc.devRef .tc main_v117)) = (fun j => (Host.argReduce reducer_argmax_f32_i32 (res_main_v115 V0) (res_main_call3_v0 V0) (res_main_call3_cst V0) (res_main_call3_c V0) reducesTo_S1x400x400_S1x400_d1 h_S_ j).2) :=
  (val3_1_keep V0 main_v117 (by decide)).trans (val3_main_v117 V0)
/-- What `main_v131` holds then. -/
theorem val3_1_main_v131 (V0 : Valuation τ sig (Elt F)) : val3_1 V0 (no_index (Proc.devRef .tc main_v131)) = concatenate S1x100x512 2 [⟨S1x100x256, (V0 (Proc.devRef .tc main_arg7))⟩, ⟨S1x100x256, (shapeCast _ (transpose S1x10x10x256 [0, 2, 3, 1] (Host.divf (Host.reduceAdd (shapeCast _ (transpose S1x256x20x20 [0, 3, 1, 2] (shapeCast _ (mulf (addf (V0 (Proc.devRef .tc main_arg0)) (select (broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)) (Host.gather gather_S1x400x256_S400x1_S1x400x256_02_1_n_n_1_1_11256 (V0 (Proc.devRef .tc main_arg1)) (res_main_call4_v5 V0)) (broadcastInDim S1x400x256 ![] bcast_S_S1x400x256 (constant S_ .f32 0x7FC00000#32)))) (broadcastInDim S1x400x256 ![] bcast_S_S1x400x256 (constant S_ .f32 0x3F000000#32))) shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)⟩] concatenates_S1x100x256_S1x100x256_S1x100x512_d2 :=
  (val3_1_keep V0 main_v131 (by decide)).trans (val3_main_v131 V0)
set_option maxHeartbeats 2000000 in
/-- What `main_v146` holds then. -/
theorem val3_1_main_v146 (V0 : Valuation τ sig (Elt F)) : val3_1 V0 (no_index (Proc.devRef .tc main_v146)) = andi (cmpi .sle (res_main_v136 V0) (res_main_v132 V0)) (cmpi .slt (res_main_v132 V0) (res_main_v143 V0)) := by
  unfold val3_1
  simp only [ops_part3_0, TRef.binary, TRef.nullary, TRef.ternary, TRef.unary, TRef.toBuf, TRef.ofBuf, cast_eq]
  after_results_simp
  simp only [val3_main_v141, val3_main_v132, val3_main_v136] <;> rfl
set_option maxHeartbeats 2000000 in
/-- What `main_v150` holds then. -/
theorem val3_1_main_v150 (V0 : Valuation τ sig (Elt F)) : val3_1 V0 (no_index (Proc.devRef .tc main_v150)) = Host.divf (broadcastInDim S257x256 ![] bcast_S_S257x256 (constant S_ .f32 0x3F800000#32)) (sitofp .f32 (subi (res_main_v143 V0) (res_main_v136 V0))) := by
  unfold val3_1
  simp only [ops_part3_0, TRef.binary, TRef.nullary, TRef.ternary, TRef.unary, TRef.toBuf, TRef.ofBuf, cast_eq]
  after_results_simp
  simp only [val3_main_v136, val3_main_v141] <;> rfl
set_option maxHeartbeats 2000000 in
/-- What `main_call7_v1` holds then. -/
theorem val3_1_main_call7_v1 (V0 : Valuation τ sig (Elt F)) : val3_1 V0 (no_index (Proc.devRef .tc main_call7_v1)) = broadcastInDim S257x256 ![] bcast_S_S257x256 (id (constant S_ .f32 0x00000000#32)) := by
  unfold val3_1
  simp only [ops_part3_0, TRef.binary, TRef.nullary, TRef.ternary, TRef.unary, TRef.toBuf, TRef.ofBuf, cast_eq]
  after_results_simp
  all_goals rfl

/-- The device's buffer contents after @main's first 326 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v151, main_v152, main_v153, main_c_39, main_v154, main_v155, main_c_40, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v156, main_c_41, main_v157, main_v158, main_v159, main_c_42, main_v160]
/-- What these operations write. -/
theorem ops_part3_1_writes : (ops_part3_1 : List (HloOp τ sig (Elt F))).Forall fun op => op.writes ⊆ (ops_part3_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
/-- An argument still holds what it was launched with. -/
theorem val3_2_arg (V0 : Valuation τ sig (Elt F)) (r : Ref sig .tc) (h : r ∈ argRefs) : val3_2 V0 (no_index (Proc.devRef .tc r)) = V0 (Proc.devRef .tc r) :=
  (val3_2_keep V0 r ((by decide : ∀ r ∈ argRefs, r ∉ ops_part3_1_W) r h)).trans (val3_1_arg V0 r h)
/-- What `main_v92` holds then. -/
theorem val3_2_main_v92 (V0 : Valuation τ sig (Elt F)) : val3_2 V0 (no_index (Proc.devRef .tc main_v92)) = outConf V0 :=
  (val3_2_keep V0 main_v92 (by decide)).trans (val3_1_main_v92 V0)
/-- What `main_v116` holds then. -/
theorem val3_2_main_v116 (V0 : Valuation τ sig (Elt F)) : val3_2 V0 (no_index (Proc.devRef .tc main_v116)) = res_main_v116 V0 :=
  (val3_2_keep V0 main_v116 (by decide)).trans (val3_1_main_v116 V0)
/-- What `main_v117` holds then. -/
theorem val3_2_main_v117 (V0 : Valuation τ sig (Elt F)) : val3_2 V0 (no_index (Proc.devRef .tc main_v117)) = (fun j => (Host.argReduce reducer_argmax_f32_i32 (res_main_v115 V0) (res_main_call3_v0 V0) (res_main_call3_cst V0) (res_main_call3_c V0) reducesTo_S1x400x400_S1x400_d1 h_S_ j).2) :=
  (val3_2_keep V0 main_v117 (by decide)).trans (val3_1_main_v117 V0)
/-- What `main_v131` holds then. -/
theorem val3_2_main_v131 (V0 : Valuation τ sig (Elt F)) : val3_2 V0 (no_index (Proc.devRef .tc main_v131)) = concatenate S1x100x512 2 [⟨S1x100x256, (V0 (Proc.devRef .tc main_arg7))⟩, ⟨S1x100x256, (shapeCast _ (transpose S1x10x10x256 [0, 2, 3, 1] (Host.divf (Host.reduceAdd (shapeCast _ (transpose S1x256x20x20 [0, 3, 1, 2] (shapeCast _ (mulf (addf (V0 (Proc.devRef .tc main_arg0)) (select (broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)) (Host.gather gather_S1x400x256_S400x1_S1x400x256_02_1_n_n_1_1_11256 (V0 (Proc.devRef .tc main_arg1)) (res_main_call4_v5 V0)) (broadcastInDim S1x400x256 ![] bcast_S_S1x400x256 (constant S_ .f32 0x7FC00000#32)))) (broadcastInDim S1x400x256 ![] bcast_S_S1x400x256 (constant S_ .f32 0x3F000000#32))) shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)⟩] concatenates_S1x100x256_S1x100x256_S1x100x512_d2 :=
  (val3_2_keep V0 main_v131 (by decide)).trans (val3_1_main_v131 V0)
set_option maxHeartbeats 2000000 in
/-- What `main_v151` holds then. -/
theorem val3_2_main_v151 (V0 : Valuation τ sig (Elt F)) : val3_2 V0 (no_index (Proc.devRef .tc main_v151)) = res_main_v151 V0 := by
  unfold val3_2
  simp only [ops_part3_1, TRef.binary, TRef.nullary, TRef.ternary, TRef.unary, TRef.toBuf, TRef.ofBuf, cast_eq]
  after_results_simp
  simp only [val3_1_main_call7_v1, val3_1_main_v150, val3_1_main_v146] <;> rfl
set_option maxHeartbeats 2000000 in
/-- What `main_v152` holds then. -/
theorem val3_2_main_v152 (V0 : Valuation τ sig (Elt F)) : val3_2 V0 (no_index (Proc.devRef .tc main_v152)) = res_main_v152 V0 := by
  unfold val3_2
  simp only [ops_part3_1, TRef.binary, TRef.nullary, TRef.ternary, TRef.unary, TRef.toBuf, TRef.ofBuf, cast_eq]
  after_results_simp
  all_goals rfl
set_option maxHeartbeats 2000000 in
/-- What `main_v156` holds then. -/
theorem val3_2_main_v156 (V0 : Valuation τ sig (Elt F)) : val3_2 V0 (no_index (Proc.devRef .tc main_v156)) = res_main_v156 V0 := by
  unfold val3_2
  simp only [ops_part3_1, TRef.binary, TRef.nullary, TRef.ternary, TRef.unary, TRef.toBuf, TRef.ofBuf, cast_eq]
  after_results_simp
  all_goals rfl
set_option maxHeartbeats 2000000 in
/-- What `main_v159` holds then. -/
theorem val3_2_main_v159 (V0 : Valuation τ sig (Elt F)) : val3_2 V0 (no_index (Proc.devRef .tc main_v159)) = negi (addi (res_main_v153 V0) (broadcastInDim S512x256 ![] bcast_S_S512x256 (constantI S_ 32 1#32))) := by
  unfold val3_2
  simp only [ops_part3_1, TRef.binary, TRef.nullary, TRef.ternary, TRef.unary, TRef.toBuf, TRef.ofBuf, cast_eq]
  after_results_simp
  all_goals rfl
set_option maxHeartbeats 2000000 in
/-- What `main_v160` holds then. -/
theorem val3_2_main_v160 (V0 : Valuation τ sig (Elt F)) : val3_2 V0 (no_index (Proc.devRef .tc main_v160)) = broadcastInDim S512x256 ![] bcast_S_S512x256 (constantI S_ 32 512#32) := by
  unfold val3_2
  simp only [ops_part3_1, TRef.binary, TRef.nullary, TRef.ternary, TRef.unary, TRef.toBuf, TRef.ofBuf, cast_eq]
  after_results_simp
  all_goals rfl

/-- The device's buffer contents after @main's first 356 operations. -/
def val3_3 (V0 : Valuation τ sig (Elt F)) : Valuation τ sig (Elt F) := after ops_part3_2 (val3_2 V0)
/-- The buffers that window `ops_part3_2`'s operations write. -/
abbrev ops_part3_2_W : List (Ref sig .tc) := [main_v161, main_c_43, main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v162, main_v163, main_v164, main_v165, main_v166, main_v167, main_v168, main_cst_44, main_v169, main_v170, main_cst_45, main_call10_v0]
/-- What these operations write. -/
theorem ops_part3_2_writes : (ops_part3_2 : List (HloOp τ sig (Elt F))).Forall fun op => op.writes ⊆ (ops_part3_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val3_3_keep (V0 : Valuation τ sig (Elt F)) (r : Ref sig .tc) (h : r ∉ ops_part3_2_W) :
    val3_3 V0 (Proc.devRef .tc r) = val3_2 V0 (Proc.devRef .tc r) :=
  after_of_writes_sub ops_part3_2 _ ops_part3_2_writes h
/-- An argument still holds what it was launched with. -/
theorem val3_3_arg (V0 : Valuation τ sig (Elt F)) (r : Ref sig .tc) (h : r ∈ argRefs) : val3_3 V0 (no_index (Proc.devRef .tc r)) = V0 (Proc.devRef .tc r) :=
  (val3_3_keep V0 r ((by decide : ∀ r ∈ argRefs, r ∉ ops_part3_2_W) r h)).trans (val3_2_arg V0 r h)
/-- What `main_v92` holds then. -/
theorem val3_3_main_v92 (V0 : Valuation τ sig (Elt F)) : val3_3 V0 (no_index (Proc.devRef .tc main_v92)) = outConf V0 :=
  (val3_3_keep V0 main_v92 (by decide)).trans (val3_2_main_v92 V0)
/-- What `main_v116` holds then. -/
theorem val3_3_main_v116 (V0 : Valuation τ sig (Elt F)) : val3_3 V0 (no_index (Proc.devRef .tc main_v116)) = res_main_v116 V0 :=
  (val3_3_keep V0 main_v116 (by decide)).trans (val3_2_main_v116 V0)
/-- What `main_v117` holds then. -/
theorem val3_3_main_v117 (V0 : Valuation τ sig (Elt F)) : val3_3 V0 (no_index (Proc.devRef .tc main_v117)) = (fun j => (Host.argReduce reducer_argmax_f32_i32 (res_main_v115 V0) (res_main_call3_v0 V0) (res_main_call3_cst V0) (res_main_call3_c V0) reducesTo_S1x400x400_S1x400_d1 h_S_ j).2) :=
  (val3_3_keep V0 main_v117 (by decide)).trans (val3_2_main_v117 V0)
/-- What `main_v131` holds then. -/
theorem val3_3_main_v131 (V0 : Valuation τ sig (Elt F)) : val3_3 V0 (no_index (Proc.devRef .tc main_v131)) = concatenate S1x100x512 2 [⟨S1x100x256, (V0 (Proc.devRef .tc main_arg7))⟩, ⟨S1x100x256, (shapeCast _ (transpose S1x10x10x256 [0, 2, 3, 1] (Host.divf (Host.reduceAdd (shapeCast _ (transpose S1x256x20x20 [0, 3, 1, 2] (shapeCast _ (mulf (addf (V0 (Proc.devRef .tc main_arg0)) (select (broadcastInDim S1x400x256 ![1] bcast_S400_S1x400x256_1 (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)) (Host.gather gather_S1x400x256_S400x1_S1x400x256_02_1_n_n_1_1_11256 (V0 (Proc.devRef .tc main_arg1)) (res_main_call4_v5 V0)) (broadcastInDim S1x400x256 ![] bcast_S_S1x400x256 (constant S_ .f32 0x7FC00000#32)))) (broadcastInDim S1x400x256 ![] bcast_S_S1x400x256 (constant S_ .f32 0x3F000000#32))) shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)⟩] concatenates_S1x100x256_S1x100x256_S1x100x512_d2 :=
  (val3_3_keep V0 main_v131 (by decide)).trans (val3_2_main_v131 V0)
/-- What `main_v151` holds then. -/
theorem val3_3_main_v151 (V0 : Valuation τ sig (Elt F)) : val3_3 V0 (no_index (Proc.devRef .tc main_v151)) = res_main_v151 V0 :=
  (val3_3_keep V0 main_v151 (by decide)).trans (val3_2_main_v151 V0)
set_option maxHeartbeats 2000000 in
/-- What `main_v166` holds then. -/
theorem val3_3_main_v166 (V0 : Valuation τ sig (Elt F)) : val3_3 V0 (no_index (Proc.devRef .tc main_v166)) = andi (cmpi .sle (res_main_v156 V0) (res_main_v152 V0)) (cmpi .slt (res_main_v152 V0) (res_main_v163 V0)) := by
  unfold val3_3
  simp only [ops_part3_2, TRef.binary, TRef.nullary, TRef.ternary, TRef.unary, TRef.toBuf, TRef.ofBuf, cast_eq]
  after_results_simp
  simp only [val3_2_main_v160, val3_2_main_v159, val3_2_main_v152, val3_2_main_v156] <;> rfl
set_option maxHeartbeats 2000000 in
/-- What `main_v170` holds then. -/
theorem val3_3_main_v170 (V0 : Valuation τ sig (Elt F)) : val3_3 V0 (no_index (Proc.devRef .tc main_v170)) = Host.divf (broadcastInDim S512x256 ![] bcast_S_S512x256 (constant S_ .f32 0x3F800000#32)) (sitofp .f32 (subi (res_main_v163 V0) (res_main_v156 V0))) := by
  unfold val3_3
  simp only [ops_part3_2, TRef.binary, TRef.nullary, TRef.ternary, TRef.unary, TRef.toBuf, TRef.ofBuf, cast_eq]
  after_results_simp
  simp only [val3_2_main_v156, val3_2_main_v160, val3_2_main_v159] <;> rfl
set_option maxHeartbeats 2000000 in
/-- What `main_call10_v0` holds then. -/
theorem val3_3_main_call10_v0 (V0 : Valuation τ sig (Elt F)) : val3_3 V0 (no_index (Proc.devRef .tc main_call10_v0)) = id (constant S_ .f32 0x00000000#32) := by
  unfold val3_3
  simp only [ops_part3_2, TRef.binary, TRef.nullary, TRef.ternary, TRef.unary, TRef.toBuf, TRef.ofBuf, cast_eq]
  after_results_simp
  all_goals rfl

/-- The device's buffer contents after @main's first 4 windows. -/
def val4 (V0 : Valuation τ sig (Elt F)) : Valuation τ sig (Elt F) := after ops_part3_3 (val3_3 V0)
/-- The buffers that window `ops_part3_3`'s operations write. -/
abbrev ops_part3_3_W : List (Ref sig .tc) := [main_call10_v1, main_v171, main_v172, main_v173, main_v174, main_v175, main_v176, main_v177, main_v178, main_v179, main_v180, main_v181, main_v182]
/-- What these operations write. -/
theorem ops_part3_3_writes : (ops_part3_3 : List (HloOp τ sig (Elt F))).Forall fun op => op.writes ⊆ (ops_part3_3_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_3` does not write keeps its contents through it. -/
theorem val4_keep (V0 : Valuation τ sig (Elt F)) (r : Ref sig .tc) (h : r ∉ ops_part3_3_W) :
    val4 V0 (Proc.devRef .tc r) = val3_3 V0 (Proc.devRef .tc r) :=
  after_of_writes_sub ops_part3_3 _ ops_part3_3_writes h
/-- An argument still holds what it was launched with. -/
theorem val4_arg (V0 : Valuation τ sig (Elt F)) (r : Ref sig .tc) (h : r ∈ argRefs) : val4 V0 (no_index (Proc.devRef .tc r)) = V0 (Proc.devRef .tc r) :=
  (val4_keep V0 r ((by decide : ∀ r ∈ argRefs, r ∉ ops_part3_3_W) r h)).trans (val3_3_arg V0 r h)
/-- What `main_v92` holds then. -/
theorem val4_main_v92 (V0 : Valuation τ sig (Elt F)) : val4 V0 (no_index (Proc.devRef .tc main_v92)) = outConf V0 :=
  (val4_keep V0 main_v92 (by decide)).trans (val3_3_main_v92 V0)
set_option maxHeartbeats 1300000 in
/-- What `main_v175` holds then. -/
theorem val4_main_v175 (V0 : Valuation τ sig (Elt F)) : val4 V0 (no_index (Proc.devRef .tc main_v175)) = outF0 V0 := by
  unfold val4
  simp only [ops_part3_3, TRef.ternary, TRef.unary, TRef.toBuf, TRef.ofBuf, cast_eq]
  after_results_simp
  simp only [val3_3_main_v151, val3_3_main_v116, val3_3_arg V0 main_arg0 (by decide)] <;> rfl
set_option maxHeartbeats 1300000 in
/-- What `main_v179` holds then. -/
theorem val4_main_v179 (V0 : Valuation τ sig (Elt F)) : val4 V0 (no_index (Proc.devRef .tc main_v179)) = outF1 V0 := by
  unfold val4
  simp only [ops_part3_3, TRef.ternary, TRef.unary, TRef.toBuf, TRef.ofBuf, cast_eq]
  after_results_simp
  simp only [val3_3_main_v151, val3_3_main_v117, val3_3_arg V0 main_arg1 (by decide)] <;> rfl
set_option maxHeartbeats 1300000 in
/-- What `main_v182` holds then. -/
theorem val4_main_v182 (V0 : Valuation τ sig (Elt F)) : val4 V0 (no_index (Proc.devRef .tc main_v182)) = outT32 V0 := by
  unfold outT32
  unfold val4
  simp only [ops_part3_3, TRef.ternary, TRef.unary, TRef.toBuf, TRef.ofBuf, cast_eq]
  after_results_simp
  simp only [val3_3_main_call10_v0, val3_3_main_v170, val3_3_main_v166, val3_3_main_v131] <;> rfl

/-- The windows one after the other are the whole list. -/
theorem after_ops (V0 : Valuation τ sig (Elt F)) : after ops V0 = val4 V0 := by
  simp only [ops, ops_part0, ops_part2, ops_part3, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = outConf (launchContents m c)
      ∧ r.2.mem ((c.tc : Thread nD τ).loc main_v175) = outF0 (launchContents m c)
      ∧ r.2.mem ((c.tc : Thread nD τ).loc main_v179) = outF1 (launchContents m c)
      ∧ r.2.mem ((c.tc : Thread nD τ).loc main_v182) = outT32 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v92).trans ((congrFun (after_ops (launchContents m c)) (Proc.devRef .tc main_v92)).trans (val4_main_v92 (launchContents m c))),
      (h c main_v175).trans ((congrFun (after_ops (launchContents m c)) (Proc.devRef .tc main_v175)).trans (val4_main_v175 (launchContents m c))),
      (h c main_v179).trans ((congrFun (after_ops (launchContents m c)) (Proc.devRef .tc main_v179)).trans (val4_main_v179 (launchContents m c))),
      (h c main_v182).trans ((congrFun (after_ops (launchContents m c)) (Proc.devRef .tc main_v182)).trans (val4_main_v182 (launchContents m c))),
      (h c main_arg0).trans ((congrFun (after_ops (launchContents m c)) (Proc.devRef .tc main_arg0)).trans (val4_arg (launchContents m c) main_arg0 (by decide))),
      (h c main_arg1).trans ((congrFun (after_ops (launchContents m c)) (Proc.devRef .tc main_arg1)).trans (val4_arg (launchContents m c) main_arg1 (by decide))),
      (h c main_arg2).trans ((congrFun (after_ops (launchContents m c)) (Proc.devRef .tc main_arg2)).trans (val4_arg (launchContents m c) main_arg2 (by decide))),
      (h c main_arg3).trans ((congrFun (after_ops (launchContents m c)) (Proc.devRef .tc main_arg3)).trans (val4_arg (launchContents m c) main_arg3 (by decide))),
      (h c main_arg4).trans ((congrFun (after_ops (launchContents m c)) (Proc.devRef .tc main_arg4)).trans (val4_arg (launchContents m c) main_arg4 (by decide))),
      (h c main_arg5).trans ((congrFun (after_ops (launchContents m c)) (Proc.devRef .tc main_arg5)).trans (val4_arg (launchContents m c) main_arg5 (by decide))),
      (h c main_arg6).trans ((congrFun (after_ops (launchContents m c)) (Proc.devRef .tc main_arg6)).trans (val4_arg (launchContents m c) main_arg6 (by decide))),
      (h c main_arg7).trans ((congrFun (after_ops (launchContents m c)) (Proc.devRef .tc main_arg7)).trans (val4_arg (launchContents m c) main_arg7 (by decide))),
      (h c main_arg8).trans ((congrFun (after_ops (launchContents m c)) (Proc.devRef .tc main_arg8)).trans (val4_arg (launchContents m c) main_arg8 (by decide)))⟩)
    (run_seq scopedRefs_eq scopedSems_eq defs main (fun _ => ops) main_eq (fun _ => ops_sub) m ρ fun _ => ops_fresh)

end Cert.ReferenceIdeal.Value

end
-- ==== Proof.Best.lean ====
/- The first place at which a row of 400 extended reals is largest: what the kernel's maximum and minimum over the row
   find, and what the reference's left fold over the row's pairs of value and place finds. -/
module

public import proofs.«01_k».proof.ReferenceIdeal
public import Idealize.ShloMosaic.Lib.Pipeline.ValueKit

@[expose] public section

set_option maxRecDepth 16384

noncomputable section

namespace Cert.Matching

open Idealize.ShloMosaic Idealize.ShloMosaic.TcCoe Idealize.SL.Sem

/-- The places of a row. -/
local notation "P400" => Fin 400

/-- Some place of a row holds a largest value and no earlier place does. -/
theorem exists_best (f : P400 → EReal) : ∃ k : P400, ∀ j, f j < f k ∨ (f j = f k ∧ k ≤ j) := by
  obtain ⟨k0, h0⟩ := Finite.exists_max f
  have hne : (Finset.univ.filter fun k => f k = f k0).Nonempty := ⟨k0, by simp⟩
  refine ⟨(Finset.univ.filter fun k => f k = f k0).min' hne, fun j => ?_⟩
  have hk : f ((Finset.univ.filter fun k => f k = f k0).min' hne) = f k0 := by
    have := Finset.min'_mem _ hne
    simpa using this
  rcases lt_or_eq_of_le (h0 j) with h | h
  · exact Or.inl (lt_of_lt_of_eq h hk.symm)
  · exact Or.inr ⟨h.trans hk.symm, Finset.min'_le _ _ (by simpa using h)⟩

/-- The first place at which a row is largest. -/
def best (f : P400 → EReal) : P400 := (exists_best f).choose

/-- The row is nowhere larger than at its best place, and nowhere before it as large. -/
theorem best_spec (f : P400 → EReal) (j : P400) : f j < f (best f) ∨ (f j = f (best f) ∧ best f ≤ j) :=
  (exists_best f).choose_spec j

/-- No value of the row is above the one at its best place. -/
theorem le_best (f : P400 → EReal) (j : P400) : f j ≤ f (best f) := by
  rcases best_spec f j with h | h
  · exact h.le
  · exact h.1.le

/-- The largest value of a row, as a fold from the bottom, is the one at the best place. -/
theorem fold_max_eq_best (f : P400 → EReal) : Finset.fold max ⊥ f Finset.univ = f (best f) :=
  le_antisymm ((Finset.fold_max_le _).mpr ⟨bot_le, fun x _ => le_best f x⟩)
    ((Finset.le_fold_max _).mpr (Or.inr ⟨best f, Finset.mem_univ _, le_rfl⟩))

/-- A word of a place, as a signed integer. -/
theorem toInt_place (k : P400) : (BitVec.ofNat 32 k.val).toInt = k.val := by
  have := k.isLt
  rw [BitVec.toInt_eq_toNat_of_lt] <;> simp only [BitVec.toNat_ofNat] <;> omega

/-- The signed minimum of words over a finite set is below the start and below every word, and is one of them. -/
theorem fold_min_spec {ι : Type} [DecidableEq ι] (b : BitVec 32) (g : ι → BitVec 32) (s : Finset ι) :
    (Finset.fold IntOp.minsi b g s).toInt ≤ b.toInt ∧ (∀ x ∈ s, (Finset.fold IntOp.minsi b g s).toInt ≤ (g x).toInt)
      ∧ (Finset.fold IntOp.minsi b g s = b ∨ ∃ x ∈ s, Finset.fold IntOp.minsi b g s = g x) := by
  induction s using Finset.induction_on with
  | empty => simp
  | insert a s ha ih =>
    rw [Finset.fold_insert ha]
    obtain ⟨h1, h2, h3⟩ := ih
    by_cases h : (g a).toInt < (Finset.fold IntOp.minsi b g s).toInt
    · have e : IntOp.minsi (g a) (Finset.fold IntOp.minsi b g s) = g a := by
        simp [IntOp.minsi, BitVec.slt, h]
      rw [e]
      refine ⟨by omega, fun x hx => ?_, Or.inr ⟨a, by simp, rfl⟩⟩
      rcases Finset.mem_insert.mp hx with rfl | hx
      · exact le_rfl
      · exact h.le.trans (h2 x hx)
    · have e : IntOp.minsi (g a) (Finset.fold IntOp.minsi b g s) = Finset.fold IntOp.minsi b g s := by
        simp [IntOp.minsi, BitVec.slt, h]
      rw [e]
      refine ⟨h1, fun x hx => ?_, ?_⟩
      · rcases Finset.mem_insert.mp hx with rfl | hx
        · omega
        · exact h2 x hx
      · rcases h3 with h3 | ⟨x, hx, h3⟩
        · exact Or.inl h3
        · exact Or.inr ⟨x, Finset.mem_insert_of_mem hx, h3⟩

/-- The least place whose value is the row's maximum, as the kernel finds it, is the best place. -/
theorem fold_min_eq_best (f : P400 → EReal) :
    Finset.fold IntOp.minsi 2147483647#32
      (fun x => if f x = Finset.fold max ⊥ (fun x => f x) Finset.univ then BitVec.ofNat 32 x.val else 1073741824#32) Finset.univ
      = BitVec.ofNat 32 (best f).val := by
  have hm : Finset.fold max ⊥ (fun x => f x) Finset.univ = f (best f) := fold_max_eq_best f
  rw [hm]
  obtain ⟨h1, h2, h3⟩ := fold_min_spec 2147483647#32
    (fun x : P400 => if f x = f (best f) then BitVec.ofNat 32 x.val else 1073741824#32) Finset.univ
  have hb := h2 (best f) (Finset.mem_univ _)
  simp only [if_true, toInt_place] at hb
  have hlt := (best f).isLt
  rcases h3 with h3 | ⟨x, -, h3⟩
  · rw [h3] at hb
    have : (2147483647#32).toInt = 2147483647 := by decide
    omega
  · rw [h3] at hb ⊢
    by_cases hx : f x = f (best f)
    · simp only [hx, if_true, toInt_place] at hb ⊢
      rcases best_spec f x with h | h
      · exact absurd hx h.ne
      · have := Fin.le_def.mp h.2
        have : x.val = (best f).val := by omega
        rw [this]
    · simp only [hx, if_false] at hb
      have : (1073741824#32).toInt = 1073741824 := by decide
      omega

/-- One step of the reference's arg-max keeps the pair with the larger value, of equal values the one with the smaller place. -/
theorem argmax_step (a b : EReal) (v w : BitVec 32) :
    Cert.ReferenceIdeal.reducer_argmax_f32_i32 (F := Ideal) (a, v) (b, w)
      = if b < a then (a, v) else if a = b ∧ v.toInt < w.toInt then (b, v) else (b, w) := by
  rcases lt_trichotomy b a with h | h | h
  · have hor : ∀ x : BitVec 1, 1#1 ||| x = 1#1 := by decide
    simp [Cert.ReferenceIdeal.reducer_argmax_f32_i32, Ideal.cmpf_def, Ideal.cmp, h, IntOp.ori, IntOp.andi, IntOp.cmpi, Scalar.select, hor]
  · subst h
    by_cases hv : v.toInt < w.toInt <;>
    simp [Cert.ReferenceIdeal.reducer_argmax_f32_i32, Ideal.cmpf_def, Ideal.cmp, IntOp.ori, IntOp.andi, IntOp.cmpi, Scalar.select, BitVec.slt, hv]
  · simp [Cert.ReferenceIdeal.reducer_argmax_f32_i32, Ideal.cmpf_def, Ideal.cmp, h, h.ne, h.le, not_lt.mpr h.le, IntOp.ori, IntOp.andi, IntOp.cmpi, Scalar.select]

/-- The reference's arg-max over pairs of a row's values and places, all of them there in some order, finds the best place. -/
theorem foldl_eq_best (f : P400 → EReal) (L : List (EReal × BitVec 32)) (hL : ∀ p ∈ L, ∃ k : P400, p = (f k, BitVec.ofNat 32 k.val))
    (hall : ∀ k : P400, (f k, BitVec.ofNat 32 k.val) ∈ L) :
    (L.foldl (Cert.ReferenceIdeal.reducer_argmax_f32_i32 (F := Ideal)) ((⊥ : EReal), 0#32)).2 = BitVec.ofNat 32 (best f).val := by
  have key : ∀ (L : List (EReal × BitVec 32)) (_ : ∀ p ∈ L, ∃ k : P400, p = (f k, BitVec.ofNat 32 k.val)) (s : EReal × BitVec 32)
      (_ : (∃ k : P400, s = (f k, BitVec.ofNat 32 k.val)) ∨ s = (⊥, 0#32)),
      ((∃ k : P400, L.foldl (Cert.ReferenceIdeal.reducer_argmax_f32_i32 (F := Ideal)) s = (f k, BitVec.ofNat 32 k.val))
        ∨ L.foldl (Cert.ReferenceIdeal.reducer_argmax_f32_i32 (F := Ideal)) s = (⊥, 0#32))
      ∧ ∀ p, (p = s ∨ p ∈ L) → p.1 < (L.foldl (Cert.ReferenceIdeal.reducer_argmax_f32_i32 (F := Ideal)) s).1
          ∨ (p.1 = (L.foldl (Cert.ReferenceIdeal.reducer_argmax_f32_i32 (F := Ideal)) s).1
            ∧ (L.foldl (Cert.ReferenceIdeal.reducer_argmax_f32_i32 (F := Ideal)) s).2.toInt ≤ p.2.toInt) := by
    intro L
    induction L with
    | nil =>
      intro _ s hs
      refine ⟨hs, fun p hp => ?_⟩
      rcases hp with rfl | hp
      · exact Or.inr ⟨rfl, le_rfl⟩
      · simp at hp
    | cons q L ih =>
      intro hL s hs
      obtain ⟨k, hk⟩ := hL q (by simp)
      have hstep : ∃ s', Cert.ReferenceIdeal.reducer_argmax_f32_i32 (F := Ideal) s q = s' ∧ ((s' = s) ∨ (s' = q))
          ∧ (∀ p, p = s ∨ p = q → p.1 < s'.1 ∨ (p.1 = s'.1 ∧ s'.2.toInt ≤ p.2.toInt)) := by
        refine ⟨_, rfl, ?_⟩
        obtain ⟨a, v⟩ := s
        obtain ⟨b, w⟩ := q
        rw [argmax_step]
        by_cases h : b < a
        · rw [if_pos h]
          refine ⟨Or.inl rfl, ?_⟩
          rintro p (rfl | rfl)
          · exact Or.inr ⟨rfl, le_rfl⟩
          · exact Or.inl h
        · rw [if_neg h]
          by_cases h2 : a = b ∧ v.toInt < w.toInt
          · rw [if_pos h2]
            obtain ⟨rfl, h2⟩ := h2
            refine ⟨Or.inl rfl, ?_⟩
            rintro p (rfl | rfl)
            · exact Or.inr ⟨rfl, le_rfl⟩
            · exact Or.inr ⟨rfl, h2.le⟩
          · rw [if_neg h2]
            refine ⟨Or.inr rfl, ?_⟩
            rintro p (rfl | rfl)
            · rcases lt_or_eq_of_le (not_lt.mp h) with h3 | h3
              · exact Or.inl h3
              · exact Or.inr ⟨h3, not_lt.mp fun h4 => h2 ⟨h3, h4⟩⟩
            · exact Or.inr ⟨rfl, le_rfl⟩
      obtain ⟨s', e, hor, hle⟩ := hstep
      rw [List.foldl_cons, e]
      have hs' : (∃ k : P400, s' = (f k, BitVec.ofNat 32 k.val)) ∨ s' = (⊥, 0#32) := by
        rcases hor with rfl | rfl
        · exact hs
        · exact Or.inl ⟨k, hk⟩
      obtain ⟨i1, i2⟩ := ih (fun p hp => hL p (by simp [hp])) s' hs'
      refine ⟨i1, fun p hp => ?_⟩
      have hq : (p = s ∨ p = q) ∨ p ∈ L := by
        rcases hp with h | h
        · exact Or.inl (Or.inl h)
        · rcases List.mem_cons.mp h with h | h
          · exact Or.inl (Or.inr h)
          · exact Or.inr h
      rcases hq with h | h
      · have h5 := i2 s' (Or.inl rfl)
        rcases hle p h with h6 | ⟨h6, h7⟩ <;> rcases h5 with h8 | ⟨h8, h9⟩
        · exact Or.inl (h6.trans h8)
        · exact Or.inl (h8 ▸ h6)
        · exact Or.inl (h6 ▸ h8)
        · exact Or.inr ⟨h6.trans h8, h9.trans h7⟩
      · exact i2 p (Or.inr h)
  obtain ⟨h1, h2⟩ := key L hL (⊥, 0#32) (Or.inr rfl)
  generalize hr : L.foldl (Cert.ReferenceIdeal.reducer_argmax_f32_i32 (F := Ideal)) ((⊥ : EReal), 0#32) = r at h1 h2
  rcases h1 with ⟨k, rfl⟩ | rfl
  · have h3 := h2 _ (Or.inr (hall (best f)))
    simp only [toInt_place] at h3
    rcases h3 with h3 | ⟨h3, h4⟩
    · exact absurd h3 (not_lt.mpr (le_best f k))
    · rcases best_spec f k with h5 | ⟨h5, h6⟩
      · exact absurd h3.symm h5.ne
      · have := Fin.le_def.mp h6
        show BitVec.ofNat 32 k.val = _
        rw [show k.val = (best f).val by omega]
  · have h3 := h2 _ (Or.inr (hall (best f)))
    simp only [not_lt_bot, false_or, toInt_place] at h3
    have h0 : (0#32).toInt = 0 := by decide
    have hb : f (best f) = ⊥ := h3.1
    show 0#32 = _
    have hz := best_spec f 0
    have : (best f).val = 0 := by
      rcases hz with h | h
      · rw [hb] at h; exact absurd h (not_lt_bot)
      · have := Fin.le_def.mp h.2
        simpa using this
    rw [this]

/-- The word of minus infinity reads as the bottom of the extended reals. -/
theorem ofBits_neg_inf : Ideal.ofBits .f32 4286578688#32 = ⊥ := by
  simp [Ideal.ofBits, Ideal.ieee]

end Cert.Matching

end
-- ==== Proof.Spec.lean ====
/- The mathematics that kernel and reference share: the similarity of two token sets, its two softmaxes, the best match
   of each token, and what the results are in these terms. -/
module

public import proofs.«01_k».proof.Proof.Best

@[expose] public section

set_option maxRecDepth 16384

noncomputable section

namespace Cert.Matching

open Idealize.ShloMosaic Idealize.ShloMosaic.TcCoe Idealize.SL.Sem

/-- A word of a small number, as a signed integer. -/
theorem toInt_small (n : ℕ) (h : n < 2000) : (BitVec.ofNat 32 n).toInt = n := by
  rw [BitVec.toInt_eq_toNat_of_lt] <;> simp only [BitVec.toNat_ofNat] <;> omega

/-- Entry `x` of the softmax of a row of 400. -/
def sm (g : Fin 400 → EReal) (x : Fin 400) : EReal :=
  Ideal.div (Ideal.exp (g x - Finset.fold max ⊥ (fun k => g k) Finset.univ))
    (∑ k, Ideal.exp (g k - Finset.fold max ⊥ (fun k => g k) Finset.univ))

/-- The matching probability of a similarity matrix: the product of its softmaxes along both axes. -/
def prob (C : Fin 400 → Fin 400 → EReal) (i x : Fin 400) : EReal :=
  sm (fun r => C r x) i * sm (fun c => C i c) x

/-- The similarity of token `i` of one set and token `j` of the other: their inner product by a sixteenth. -/
def conf (a b : Fin 400 → Fin 256 → EReal) (i j : Fin 400) : EReal :=
  (∑ x, a i x * b j x) * ((1 / 16 : ℝ) : EReal)

/-- The best match in the second set of token `i` of the first. -/
def match0 (a b : Fin 400 → Fin 256 → EReal) (i : Fin 400) : Fin 400 := best fun x => prob (conf a b) i x

/-- The best match in the first set of token `i` of the second. -/
def match1 (a b : Fin 400 → Fin 256 → EReal) (i : Fin 400) : Fin 400 := best fun x => prob (conf a b) x i

/-- The similarity with the two sets exchanged is the transposed similarity. -/
theorem conf_swap (a b : Fin 400 → Fin 256 → EReal) (i j : Fin 400) : conf b a i j = conf a b j i := by
  unfold conf
  congr 1
  exact Finset.sum_congr rfl fun x _ => mul_comm _ _

/-- The probability of the transposed similarity is the transposed probability. -/
theorem prob_swap (a b : Fin 400 → Fin 256 → EReal) (i j : Fin 400) : prob (conf b a) i j = prob (conf a b) j i := by
  unfold prob
  rw [mul_comm]
  simp only [conf_swap a b]

/-- So the best match in the first set can be found from the exchanged similarity. -/
theorem match1_eq (a b : Fin 400 → Fin 256 → EReal) (i : Fin 400) : match1 a b i = best fun x => prob (conf b a) i x := by
  unfold match1
  simp only [prob_swap a b]

/-- A place as an extended real: the word of the place, read as an integer. -/
def place (k : Fin 400) : EReal := FloatOps.sitofp (F := Ideal) .f32 (BitVec.ofNat 32 k.val)

/-- The mean of channel `c` and the next one of a row of 256, the row being continued by `t`. -/
def pair (f : Fin 256 → EReal) (t : EReal) (c : Fin 256) : EReal :=
  ((1 / 2 : ℝ) : EReal) * f c + ((1 / 2 : ℝ) : EReal) * (if h : c.val + 1 < 256 then f ⟨c.val + 1, h⟩ else t)

/-- The word of one sixteenth. -/
theorem ofBits_sixteenth : Ideal.ofBits .f32 1031798784#32 = ((1 / 16 : ℝ) : EReal) := by
  simp [Ideal.ofBits, Ideal.ieee]; rw [← EReal.coe_mul]; norm_num

/-- The word of sixteen. -/
theorem ofBits_sixteen : Ideal.ofBits .f32 1098907648#32 = ((16 : ℝ) : EReal) := by
  simp [Ideal.ofBits, Ideal.ieee]; rw [← EReal.coe_mul]; norm_num

/-- The word of one half. -/
theorem ofBits_half : Ideal.ofBits .f32 1056964608#32 = ((1 / 2 : ℝ) : EReal) := by
  simp [Ideal.ofBits, Ideal.ieee]; rw [← EReal.coe_mul]; norm_num

/-- The word of one. -/
theorem ofBits_one : Ideal.ofBits .f32 1065353216#32 = 1 := by
  simp [Ideal.ofBits, Ideal.ieee]; rw [← EReal.coe_mul]; norm_num

/-- The word of four. -/
theorem ofBits_four : Ideal.ofBits .f32 1082130432#32 = ((4 : ℝ) : EReal) := by
  simp [Ideal.ofBits, Ideal.ieee]; rw [← EReal.coe_mul]; norm_num

/-- The word of zero. -/
theorem ofBits_zero : Ideal.ofBits .f32 0#32 = 0 := by
  simp [Ideal.ofBits, Ideal.ieee]

/-- Division by sixteen is multiplication by a sixteenth. -/
theorem div_sixteen (x : EReal) : Ideal.div x ((16 : ℝ) : EReal) = x * ((1 / 16 : ℝ) : EReal) := by
  unfold Ideal.div
  rw [← EReal.coe_inv]
  simp

end Cert.Matching

end
-- ==== Proof.KMatch.lean ====
/- The kernel's similarity matrices and the best matches it finds, in the shared terms. -/
module

public import proofs.«01_k».proof.Proof.Outs
public import proofs.«01_k».proof.Proof.Spec

@[expose] public section

set_option maxRecDepth 16384

noncomputable section

namespace Cert.KernelIdeal.Value

open Idealize.ShloMosaic Idealize.ShloMosaic.TcCoe Idealize.SL.Sem

open Cert.Matching Cert.KernelIdeal.Gen

/-- A block of 400 tokens as a function of token and channel. -/
abbrev tok (x : FVec Ideal S400x256 .f32) (i : Fin 400) (c : Fin 256) : EReal := x (ix2 i c)

/-- The kernel's similarity matrix. -/
theorem pay5_apply (x0 x1 : FVec Ideal S400x256 .f32) (i j : Fin 400) :
    k0_pay5 (F := Ideal) x0 x1 (ix2 i j) = conf (tok x0) (tok x1) i j := by
  pointwise [k0_pay5, k0_pay4, k0_pay3, k0_pay2]
  rw [ofBits_sixteenth]
  rfl

/-- The kernel's similarity matrix with the sets exchanged. -/
theorem pay6_apply (x0 x1 : FVec Ideal S400x256 .f32) (i j : Fin 400) :
    k0_pay6 (F := Ideal) x0 x1 (ix2 i j) = conf (tok x1) (tok x0) i j := by
  pointwise [k0_pay6, k0_pay3, k0_pay2]
  rw [ofBits_sixteenth]
  rfl

/-- The place the kernel finds in row `i` of a similarity matrix. -/
theorem idxV_best (C : FVec Ideal S400x400 .f32) (i : Fin 400) :
    idxV (F := Ideal) C (ix2 i 0) = BitVec.ofNat 32 (best fun x => prob (fun r c => C (ix2 r c)) i x).val := by
  pointwise [idxV, k0_pay35]
  rw [ofBits_neg_inf]
  exact fold_min_eq_best _

/-- The same of the exchanged similarity matrix. -/
theorem idyV_best (C : FVec Ideal S400x400 .f32) (i : Fin 400) :
    idyV (F := Ideal) C (ix2 i 0) = BitVec.ofNat 32 (best fun x => prob (fun r c => C (ix2 r c)) i x).val := by
  pointwise [idyV, k0_pay37, k0_pay36, cols400]
  rw [ofBits_neg_inf]
  exact fold_min_eq_best _

/-- The kernel finds the best match of each token of the first set. -/
theorem idxV_eq (x0 x1 : FVec Ideal S400x256 .f32) (i : Fin 400) :
    idxV (F := Ideal) (k0_pay5 (F := Ideal) x0 x1) (ix2 i 0) = BitVec.ofNat 32 (match0 (tok x0) (tok x1) i).val := by
  rw [idxV_best]
  simp only [pay5_apply]
  rfl

/-- And of each token of the second. -/
theorem idyV_eq (x0 x1 : FVec Ideal S400x256 .f32) (i : Fin 400) :
    idyV (F := Ideal) (k0_pay6 (F := Ideal) x0 x1) (ix2 i 0) = BitVec.ofNat 32 (match1 (tok x0) (tok x1) i).val := by
  rw [idyV_best, match1_eq]
  simp only [pay6_apply]

end Cert.KernelIdeal.Value

end
-- ==== Proof.PoolSpec.lean ====
/- The third output in shared terms: tokens averaged with their matches, pooled two by two, then neighbouring channels paired. -/
module

public import proofs.«01_k».proof.Proof.Spec

@[expose] public section

set_option maxRecDepth 16384

noncomputable section

namespace Cert.Matching

open Idealize.ShloMosaic Idealize.ShloMosaic.TcCoe Idealize.SL.Sem

/-- A token of the first set averaged with its best match in the second. -/
def mix (a b : Fin 400 → Fin 256 → EReal) (q : Fin 400) (c : Fin 256) : EReal :=
  (a q c + b (match0 a b q) c) * ((1 / 2 : ℝ) : EReal)

/-- The token in row `x` and column `y` of the two by two cell `p`. -/
def cell (p : Fin 100) (x y : Fin 2) : Fin 400 := ⟨(p.val / 10 * 2 + x.val) * 20 + (p.val % 10 * 2 + y.val), by omega⟩

/-- A cell's pooled token: the mean of its four. -/
def pool (f : Fin 400 → EReal) (p : Fin 100) : EReal :=
  (∑ x : Fin 2, ∑ y : Fin 2, f (cell p x y)) * ((1 / 4 : ℝ) : EReal)

/-- Output channel `c`: the mean of channels `2 c` and `2 c + 1` of two rows of 256 set side by side. -/
def paired (g h : Fin 256 → EReal) (c : Fin 256) : EReal :=
  (∑ x : Fin 256, if x.val / 2 = c.val then g x * ((1 / 2 : ℝ) : EReal) else 0)
    + ∑ x : Fin 256, if x.val / 2 + 128 = c.val then h x * ((1 / 2 : ℝ) : EReal) else 0

/-- Summing the tokens whose row and column halve to the cell's is summing over the cell. -/
theorem sum_cell_eq (p : Fin 100) (f : Fin 400 → EReal) :
    (∑ q : Fin 400, if q.val / 40 = p.val / 10 ∧ q.val % 20 / 2 = p.val % 10 then f q else 0)
      = ∑ x : Fin 2, ∑ y : Fin 2, f (cell p x y) := by
  rw [← Finset.sum_filter]
  refine (Finset.sum_filter_eq_sum_of_fiber _ (fun k : Fin 2 × Fin 2 => cell p k.1 k.2) ?_ ?_ f).trans ?_
  · rintro ⟨x, y⟩ ⟨x', y'⟩ e
    have := congrArg Fin.val e
    simp only [cell] at this
    refine Prod.ext (Fin.ext ?_) (Fin.ext ?_) <;> simp only <;> omega
  · intro q
    have hp := p.isLt
    have hq := q.isLt
    constructor
    · rintro ⟨h1, h2⟩
      refine ⟨(⟨q.val / 20 % 2, by omega⟩, ⟨q.val % 2, by omega⟩), Fin.ext ?_⟩
      simp only [cell]
      omega
    · rintro ⟨⟨x, y⟩, rfl⟩
      simp only [cell]
      omega
  · simp only [Fintype.sum_prod_type]

/-- A quarter of each entry of a cell, summed, is a quarter of the sum. -/
theorem quarter_cell (f : Fin 400 → EReal) (p : Fin 100) :
    (∑ x : Fin 2, ∑ y : Fin 2, ((1 / 4 : ℝ) : EReal) * f (cell p x y)) = pool f p := by
  have h0 : (0 : EReal) ≤ ((1 / 4 : ℝ) : EReal) := by exact_mod_cast (by norm_num : (0 : ℝ) ≤ 1 / 4)
  have ht : ((1 / 4 : ℝ) : EReal) ≠ ⊤ := EReal.coe_ne_top _
  unfold pool
  rw [mul_comm]
  simp only [Fin.sum_univ_two, EReal.left_distrib_of_nonneg_of_ne_top h0 ht]

/-- Words of small numbers are equal exactly when the numbers are. -/
theorem cmpi_eq_small (a b : ℕ) (ha : a < 2000) (hb : b < 2000) :
    IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · rw [decide_eq_false h]
    apply beq_false_of_ne
    intro e
    have := congrArg BitVec.toNat e
    simp only [BitVec.toNat_ofNat] at this
    omega

/-- One where two small numbers agree, zero elsewhere. -/
theorem onehot (a b : ℕ) (ha : a < 2000) (hb : b < 2000) :
    FloatOps.sitofp (F := Ideal) .f32 (BitVec.setWidth 32 (IntOp.cmpi .eq (BitVec.ofNat 32 a) (BitVec.ofNat 32 b)))
      = if a = b then (1 : EReal) else 0 := by
  rw [cmpi_eq_small a b ha hb]
  by_cases h : a = b
  · rw [if_pos h, decide_eq_true h]
    show (((BitVec.setWidth 32 (BitVec.ofBool true)).toInt : ℝ) : EReal) = 1
    rw [show (BitVec.setWidth 32 (BitVec.ofBool true)).toInt = (1 : ℤ) by decide]
    norm_num
  · rw [if_neg h, decide_eq_false h]
    show (((BitVec.setWidth 32 (BitVec.ofBool false)).toInt : ℝ) : EReal) = 0
    rw [show (BitVec.setWidth 32 (BitVec.ofBool false)).toInt = (0 : ℤ) by decide]
    norm_num

end Cert.Matching

end
-- ==== Proof.Resize.lean ====
/- The similarity resized to 1600 by 1600: each new row and column lies between two old ones, and is their weighted mean. -/
module

public import proofs.«01_k».proof.Proof.PoolSpec

@[expose] public section

set_option maxRecDepth 16384

noncomputable section

namespace Cert.Matching

open Idealize.ShloMosaic Idealize.ShloMosaic.TcCoe Idealize.SL.Sem

/-- The old place at or before new place `n`: `n · 399 / 1599 = n · 133 / 533`, rounded down. -/
def lo (n : Fin 1600) : Fin 400 := ⟨n.val * 133 / 533, by omega⟩

/-- The old place after that, the last one for the last. -/
def hi (n : Fin 1600) : Fin 400 := ⟨min (n.val * 133 / 533 + 1) 399, by omega⟩

/-- How far new place `n` lies past the old place before it. -/
def wt (n : ℕ) : ℝ := (n : ℝ) * (133 / 533) - ((n * 133 / 533 : ℕ) : ℝ)

/-- The old place before new place `n`, as the floor of a real number. -/
theorem floor_place (n : ℕ) : ⌊(n : ℝ) * (133 / 533)⌋ = ((n * 133 / 533 : ℕ) : ℤ) := by
  rw [Int.floor_eq_iff]
  have h1 : 533 * (n * 133 / 533) ≤ n * 133 := by omega
  have h2 : n * 133 < 533 * (n * 133 / 533 + 1) := by omega
  have h1' : (533 : ℝ) * ((n * 133 / 533 : ℕ) : ℝ) ≤ (n : ℝ) * 133 := by exact_mod_cast h1
  have h2' : (n : ℝ) * 133 < (533 : ℝ) * (((n * 133 / 533 : ℕ) : ℝ) + 1) := by exact_mod_cast h2
  rw [Int.cast_natCast]
  constructor <;> linarith

/-- A weight is not negative. -/
theorem wt_nonneg (n : ℕ) : 0 ≤ wt n := by
  have h := Int.floor_le ((n : ℝ) * (133 / 533))
  rw [floor_place, Int.cast_natCast] at h
  unfold wt
  linarith

/-- A weight is at most one. -/
theorem wt_le_one (n : ℕ) : wt n ≤ 1 := by
  have h := (Int.lt_floor_add_one ((n : ℝ) * (133 / 533))).le
  rw [floor_place, Int.cast_natCast] at h
  unfold wt
  linarith

/-- The last new place is the last old one. -/
theorem wt_last : wt 1599 = 0 := by
  unfold wt
  norm_num

/-- The weighted mean at new place `n` of the two old places around it. -/
def lerp (f : Fin 400 → EReal) (n : Fin 1600) : EReal :=
  f (lo n) * ((1 - wt n.val : ℝ) : EReal) + f (hi n) * ((wt n.val : ℝ) : EReal)

/-- The resized similarity. -/
def resized (C : Fin 400 → Fin 400 → EReal) (p q : Fin 1600) : EReal := lerp (fun r => lerp (C r) q) p

/-- The resized similarity as the sum of its four corners. -/
theorem resized_eq (C : Fin 400 → Fin 400 → EReal) (p q : Fin 1600) :
    C (lo p) (lo q) * ((1 - wt p.val : ℝ) : EReal) * ((1 - wt q.val : ℝ) : EReal)
        + C (lo p) (hi q) * ((1 - wt p.val : ℝ) : EReal) * ((wt q.val : ℝ) : EReal)
        + C (hi p) (lo q) * ((wt p.val : ℝ) : EReal) * ((1 - wt q.val : ℝ) : EReal)
        + C (hi p) (hi q) * ((wt p.val : ℝ) : EReal) * ((wt q.val : ℝ) : EReal)
      = resized C p q := by
  have h0 : (0 : EReal) ≤ ((wt p.val : ℝ) : EReal) := by exact_mod_cast wt_nonneg p.val
  have h1 : (0 : EReal) ≤ ((1 - wt p.val : ℝ) : EReal) := by
    exact_mod_cast (by linarith [wt_le_one p.val] : (0 : ℝ) ≤ 1 - wt p.val)
  unfold resized lerp
  rw [EReal.right_distrib_of_nonneg_of_ne_top h1 (EReal.coe_ne_top _), EReal.right_distrib_of_nonneg_of_ne_top h0 (EReal.coe_ne_top _)]
  simp only [mul_right_comm (C _ _) ((1 - wt p.val : ℝ) : EReal), mul_right_comm (C _ _) ((wt p.val : ℝ) : EReal), add_assoc]

/-- A small word as an extended real. -/
theorem sitofp_small (n : ℕ) (h : n < 2000) : FloatOps.sitofp (F := Ideal) .f32 (BitVec.ofNat 32 n) = ((n : ℝ) : EReal) := by
  show (((BitVec.ofNat 32 n).toInt : ℝ) : EReal) = _
  rw [toInt_small n h, Int.cast_natCast]

/-- A small natural number, read as a word. -/
theorem fptosi_small (n : ℕ) (h : n < 2000) : FloatOps.fptosi (F := Ideal) (φ := .f32) 32 ((n : ℝ) : EReal) = BitVec.ofNat 32 n := by
  show BitVec.ofInt 32 (max _ (min _ (if 0 ≤ (n : ℝ) then ⌊(n : ℝ)⌋ else ⌈(n : ℝ)⌉))) = _
  rw [if_pos (Nat.cast_nonneg n), Int.floor_natCast, min_eq_right (by norm_num <;> omega), max_eq_right (by norm_num <;> omega)]
  exact BitVec.ofInt_natCast _ _

/-- The floor of a new place's old coordinate. -/
theorem liftRound_place (n : ℕ) : Ideal.liftRound Int.floor (((n : ℝ) * (133 / 533) : ℝ) : EReal) = (((n * 133 / 533 : ℕ) : ℝ) : EReal) := by
  rw [Ideal.liftRound_coe, floor_place, Int.cast_natCast]

/-- Adding words of numbers. -/
theorem addi_ofNat (a b : ℕ) : IntOp.addi (BitVec.ofNat 32 a) (BitVec.ofNat 32 b) = BitVec.ofNat 32 (a + b) := by
  show BitVec.ofNat 32 a + BitVec.ofNat 32 b = _
  rw [BitVec.ofNat_add]

/-- Subtracting a smaller number's word. -/
theorem subi_ofNat (a b : ℕ) (h : b ≤ a) (ha : a < 2000) : IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

end Cert.Matching

end
-- ==== Proof.KHat.lean ====
/- The kernel's resizing: a product with a band of weights is the weighted mean of the two old places. -/
module

public import proofs.«01_k».proof.Proof.KMatch
public import proofs.«01_k».proof.Proof.Resize

@[expose] public section

set_option maxRecDepth 16384

noncomputable section

namespace Cert.KernelIdeal.Value

open Idealize.ShloMosaic Idealize.ShloMosaic.TcCoe Idealize.SL.Sem

open Cert.Matching Cert.KernelIdeal.Gen

/-- The step from one new place to the next, in old places. -/
theorem delta_eq : Named.named (F := Ideal) κ "delta" (φ := .f32) 1048544523#32 = ((133 / 533 : ℝ) : EReal) :=
  IdealRules.named_const.ideal_named_scalar _ _ _ _ rfl

/-- The old coordinate of the new place with word `w`. -/
abbrev coordOf (w : BitVec 32) : EReal := FloatOps.sitofp (F := Ideal) .f32 w * Named.named (F := Ideal) κ "delta" (φ := .f32) 1048544523#32

/-- The weight of row `x` of the band starting at `o` for the new place with word `w`, as the kernel computes it. -/
def hat (w o : BitVec 32) (x : Fin 56) : EReal :=
  FloatOps.sitofp (F := Ideal) .f32 (BitVec.setWidth 32 (IntOp.cmpi .eq (BitVec.ofNat 32 x.val)
      (IntOp.subi (FloatOps.fptosi (F := Ideal) (φ := .f32) 32 (Ideal.liftRound Int.floor (coordOf w))) o)))
    * (1 - (coordOf w - Ideal.liftRound Int.floor (coordOf w)))
  + FloatOps.sitofp (F := Ideal) .f32 (BitVec.setWidth 32 (IntOp.cmpi .eq (BitVec.ofNat 32 x.val)
      (IntOp.addi (IntOp.subi (FloatOps.fptosi (F := Ideal) (φ := .f32) 32 (Ideal.liftRound Int.floor (coordOf w))) o) 1#32)))
    * (coordOf w - Ideal.liftRound Int.floor (coordOf w))

/-- That weight: what is left of one at the old place before, the weight at the old place after, zero elsewhere. -/
theorem hat_eq (n : ℕ) (hn : n < 1600) (off : ℕ) (ho : off ≤ n * 133 / 533) (x : Fin 56) :
    hat (BitVec.ofNat 32 n) (BitVec.ofNat 32 off) x
      = (if off + x.val = n * 133 / 533 then (1 : EReal) else 0) * ((1 - wt n : ℝ) : EReal)
        + (if off + x.val = n * 133 / 533 + 1 then (1 : EReal) else 0) * ((wt n : ℝ) : EReal) := by
  have hx := x.isLt
  have hc : coordOf (BitVec.ofNat 32 n) = (((n : ℝ) * (133 / 533) : ℝ) : EReal) := by
    rw [coordOf, sitofp_small n (by omega), delta_eq, EReal.coe_mul]
  unfold hat
  rw [hc, liftRound_place, fptosi_small _ (by omega), subi_ofNat _ _ ho (by omega),
    show (1#32) = BitVec.ofNat 32 1 from rfl, addi_ofNat, onehot _ _ (by omega) (by omega), onehot _ _ (by omega) (by omega),
    ← EReal.coe_sub, ← EReal.coe_one, ← EReal.coe_sub]
  have e1 : (x.val = n * 133 / 533 - off) ↔ (off + x.val = n * 133 / 533) := by omega
  have e2 : (x.val = n * 133 / 533 - off + 1) ↔ (off + x.val = n * 133 / 533 + 1) := by omega
  simp only [e1, e2]
  rfl

/-- A sum against a band of weights that holds both old places is their weighted mean. -/
theorem band_sum (g : Fin 400 → EReal) (n : Fin 1600) (off : ℕ) (hoff : off + 56 ≤ 400) (h1 : off ≤ n.val * 133 / 533)
    (h2 : n.val * 133 / 533 + 1 < off + 56 ∨ n.val = 1599 ∧ off = 344) :
    ∑ x : Fin 56, g ⟨off + x.val, by omega⟩ * hat (BitVec.ofNat 32 n.val) (BitVec.ofNat 32 off) x = lerp g n := by
  have hn := n.isLt
  have hterm : ∀ x : Fin 56, g ⟨off + x.val, by omega⟩ * hat (BitVec.ofNat 32 n.val) (BitVec.ofNat 32 off) x
      = (if off + x.val = n.val * 133 / 533 then g ⟨off + x.val, by omega⟩ * ((1 - wt n.val : ℝ) : EReal) else 0)
        + (if off + x.val = n.val * 133 / 533 + 1 then g ⟨off + x.val, by omega⟩ * ((wt n.val : ℝ) : EReal) else 0) := by
    intro x
    rw [hat_eq n.val hn off h1 x]
    by_cases e1 : off + x.val = n.val * 133 / 533
    · rw [if_pos e1, if_neg (by omega), if_pos e1, if_neg (by omega), one_mul, zero_mul, add_zero, add_zero]
    · by_cases e2 : off + x.val = n.val * 133 / 533 + 1
      · rw [if_neg e1, if_pos e2, if_neg e1, if_pos e2, one_mul, zero_mul, zero_add, zero_add]
      · rw [if_neg e1, if_neg e2, if_neg e1, if_neg e2, zero_mul, zero_mul, add_zero, mul_zero]
  rw [Finset.sum_congr rfl fun x _ => hterm x, Finset.sum_add_distrib]
  unfold lerp
  refine congrArg₂ (· + ·) ?_ ?_
  · rw [Finset.sum_eq_single (⟨n.val * 133 / 533 - off, by omega⟩ : Fin 56)]
    · rw [if_pos (by simp only; omega)]
      congr 2
      exact Fin.ext (by simp only [lo]; omega)
    · intro x _ hx
      rw [if_neg]
      intro e
      exact hx (Fin.ext (by simp only; omega))
    · simp
  · by_cases hl : n.val = 1599
    · rw [hl, wt_last, EReal.coe_zero, mul_zero]
      refine Finset.sum_eq_zero fun x _ => ?_
      rw [mul_zero, ite_self]
    · rw [Finset.sum_eq_single (⟨n.val * 133 / 533 + 1 - off, by omega⟩ : Fin 56)]
      · rw [if_pos (by simp only; omega)]
        congr 2
        exact Fin.ext (by simp only [hi]; omega)
      · intro x _ hx
        rw [if_neg]
        intro e
        exact hx (Fin.ext (by simp only; omega))
      · simp

/-- The band of each block of 160 new places holds the old places around every one of them. -/
theorem band_holds (n : Fin 1600) (t : ℕ) (ht : n.val / 160 = t) :
    bandRow t + 56 ≤ 400 ∧ bandRow t ≤ n.val * 133 / 533 ∧ (n.val * 133 / 533 + 1 < bandRow t + 56 ∨ n.val = 1599 ∧ bandRow t = 344) := by
  subst ht
  revert n
  decide +kernel

end Cert.KernelIdeal.Value

end
-- ==== Proof.KSlabs.lean ====
/- The ten blocks of resized columns the kernel's first point leaves. -/
module

public import proofs.«01_k».proof.Proof.KHat

@[expose] public section

set_option maxRecDepth 16384

noncomputable section

namespace Cert.KernelIdeal.Value

open Idealize.ShloMosaic Idealize.ShloMosaic.TcCoe Idealize.SL.Sem

open Cert.Matching Cert.KernelIdeal.Gen

/-- The product with the band of one block of 160 new columns is the weighted mean of the two old columns. -/
theorem slab_sum (g : Fin 400 → EReal) (t base off : ℕ) (ht : t < 10) (hbase : base = 160 * t) (ho : off = bandRow t) (hb : off + 56 ≤ 400) (c : Fin 160) :
    ∑ x : Fin 56, g ⟨off + x.val, by omega⟩ * hat (IntOp.addi (BitVec.ofNat 32 c.val) (BitVec.ofNat 32 base)) (BitVec.ofNat 32 off) x
      = lerp g ⟨160 * t + c.val, by omega⟩ := by
  subst hbase
  rw [addi_ofNat, Nat.add_comm c.val]
  obtain ⟨h0, h1, h2⟩ := band_holds ⟨160 * t + c.val, by omega⟩ t (by simp only; omega)
  subst ho
  exact band_sum g ⟨160 * t + c.val, by omega⟩ (bandRow t) hb h1 h2

/-- Block 0 of the resized columns. -/
theorem slab0 (v : FVec Ideal S400x400 .f32) (r : Fin 400) (c : Fin 160) :
    k0_pay8 (F := Ideal) v (k0_pay7 (F := Ideal)) (ix2 r c) = lerp (fun j => v (ix2 r j)) ⟨160 * 0 + c.val, by omega⟩ := by
  pointwise [k0_pay8, k0_pay7]
  refine Eq.trans ?_ (congrArg (lerp fun j => v (ix2 r j)) (Fin.ext (by simp) : (⟨160 * 0 + c.val, by omega⟩ : Fin 1600) = _))
  refine (Finset.sum_congr rfl fun x _ => ?_).trans (slab_sum (fun j => v (ix2 r j)) 0 0 0 (by decide) rfl (by decide +kernel) (by decide) c)
  rw [show (⟨0 + x.val, by omega⟩ : Fin 400) = ⟨x.val, by omega⟩ from Fin.ext (Nat.zero_add _)]
  rfl

/-- Block 1 of the resized columns. -/
theorem slab1 (v : FVec Ideal S400x400 .f32) (r : Fin 400) (c : Fin 160) :
    k0_pay9 (F := Ideal) v (ix2 r c) = lerp (fun j => v (ix2 r j)) ⟨160 * 1 + c.val, by omega⟩ := by
  pointwise [k0_pay9]
  refine (Finset.sum_congr rfl fun x _ => ?_).trans (slab_sum (fun j => v (ix2 r j)) 1 160 32 (by decide) rfl (by decide +kernel) (by decide) c)
  rfl

/-- Block 2 of the resized columns. -/
theorem slab2 (v : FVec Ideal S400x400 .f32) (r : Fin 400) (c : Fin 160) :
    k0_pay14 (F := Ideal) v rows56 (k0_pay12 (F := Ideal)) (k0_pay13 (F := Ideal)) (ix2 r c) = lerp (fun j => v (ix2 r j)) ⟨160 * 2 + c.val, by omega⟩ := by
  pointwise [k0_pay14, k0_pay12, k0_pay13, k0_pay11, k0_pay10]
  refine (Finset.sum_congr rfl fun x _ => ?_).trans (slab_sum (fun j => v (ix2 r j)) 2 320 72 (by decide) rfl (by decide +kernel) (by decide) c)
  rfl

/-- Block 3 of the resized columns. -/
theorem slab3 (v : FVec Ideal S400x400 .f32) (r : Fin 400) (c : Fin 160) :
    k0_pay16 (F := Ideal) (k0_pay15 (F := Ideal) v) (ix2 r c) = lerp (fun j => v (ix2 r j)) ⟨160 * 3 + c.val, by omega⟩ := by
  pointwise [k0_pay16, k0_pay15]
  refine (Finset.sum_congr rfl fun x _ => ?_).trans (slab_sum (fun j => v (ix2 r j)) 3 480 112 (by decide) rfl (by decide +kernel) (by decide) c)
  rfl

/-- Block 4 of the resized columns. -/
theorem slab4 (v : FVec Ideal S400x400 .f32) (r : Fin 400) (c : Fin 160) :
    k0_pay17 (F := Ideal) v (ix2 r c) = lerp (fun j => v (ix2 r j)) ⟨160 * 4 + c.val, by omega⟩ := by
  pointwise [k0_pay17]
  refine (Finset.sum_congr rfl fun x _ => ?_).trans (slab_sum (fun j => v (ix2 r j)) 4 640 152 (by decide) rfl (by decide +kernel) (by decide) c)
  rfl

/-- Block 5 of the resized columns. -/
theorem slab5 (v : FVec Ideal S400x400 .f32) (r : Fin 400) (c : Fin 160) :
    k0_pay22 (F := Ideal) v rows56 (k0_pay20 (F := Ideal)) (k0_pay21 (F := Ideal)) (ix2 r c) = lerp (fun j => v (ix2 r j)) ⟨160 * 5 + c.val, by omega⟩ := by
  pointwise [k0_pay22, k0_pay20, k0_pay21, k0_pay19, k0_pay18]
  refine (Finset.sum_congr rfl fun x _ => ?_).trans (slab_sum (fun j => v (ix2 r j)) 5 800 192 (by decide) rfl (by decide +kernel) (by decide) c)
  rfl

/-- Block 6 of the resized columns. -/
theorem slab6 (v : FVec Ideal S400x400 .f32) (r : Fin 400) (c : Fin 160) :
    k0_pay24 (F := Ideal) (k0_pay23 (F := Ideal) v) (ix2 r c) = lerp (fun j => v (ix2 r j)) ⟨160 * 6 + c.val, by omega⟩ := by
  pointwise [k0_pay24, k0_pay23]
  refine (Finset.sum_congr rfl fun x _ => ?_).trans (slab_sum (fun j => v (ix2 r j)) 6 960 232 (by decide) rfl (by decide +kernel) (by decide) c)
  rfl

/-- Block 7 of the resized columns. -/
theorem slab7 (v : FVec Ideal S400x400 .f32) (r : Fin 400) (c : Fin 160) :
    k0_pay25 (F := Ideal) v (ix2 r c) = lerp (fun j => v (ix2 r j)) ⟨160 * 7 + c.val, by omega⟩ := by
  pointwise [k0_pay25]
  refine (Finset.sum_congr rfl fun x _ => ?_).trans (slab_sum (fun j => v (ix2 r j)) 7 1120 272 (by decide) rfl (by decide +kernel) (by decide) c)
  rfl

/-- Block 8 of the resized columns. -/
theorem slab8 (v : FVec Ideal S400x400 .f32) (r : Fin 400) (c : Fin 160) :
    k0_pay31 (F := Ideal) v rows56 (k0_pay28 (F := Ideal)) (k0_pay29 (F := Ideal)) (k0_pay30 (F := Ideal)) (ix2 r c) = lerp (fun j => v (ix2 r j)) ⟨160 * 8 + c.val, by omega⟩ := by
  pointwise [k0_pay31, k0_pay28, k0_pay29, k0_pay30, k0_pay27, k0_pay26]
  refine (Finset.sum_congr rfl fun x _ => ?_).trans (slab_sum (fun j => v (ix2 r j)) 8 1280 312 (by decide) rfl (by decide +kernel) (by decide) c)
  rfl

/-- Block 9 of the resized columns. -/
theorem slab9 (v : FVec Ideal S400x400 .f32) (r : Fin 400) (c : Fin 160) :
    k0_pay32 (F := Ideal) v (ix2 r c) = lerp (fun j => v (ix2 r j)) ⟨160 * 9 + c.val, by omega⟩ := by
  pointwise [k0_pay32]
  refine (Finset.sum_congr rfl fun x _ => ?_).trans (slab_sum (fun j => v (ix2 r j)) 9 1440 344 (by decide) rfl (by decide +kernel) (by decide) c)
  rfl

end Cert.KernelIdeal.Value

end
-- ==== Proof.KBlock.lean ====
/- The kernel's first output: a block of rows of the resized similarity. -/
module

public import proofs.«01_k».proof.Proof.KSlabs

@[expose] public section

set_option maxRecDepth 16384

noncomputable section

namespace Cert.KernelIdeal.Value

open Idealize.ShloMosaic Idealize.ShloMosaic.TcCoe Idealize.SL.Sem

open Cert.Matching Cert.KernelIdeal.Gen

/-- The similarity the kernel's slabs read. -/
theorem pay4_apply (x0 x1 : FVec Ideal S400x256 .f32) (i j : Fin 400) :
    k0_pay4 (F := Ideal) x0 x1 (ix2 i j) = conf (tok x0) (tok x1) i j := by
  pointwise [k0_pay4, k0_pay3, k0_pay2]
  rw [ofBits_sixteenth]
  rfl

/-- A slab read at its place in the scratch. -/
theorem slab_at (P : FVec Ideal S400x160 .f32) (v : FVec Ideal S400x400 .f32) (t : ℕ) (ht : t < 10)
    (hP : ∀ (r : Fin 400) (c : Fin 160), P (ix2 r c) = lerp (fun j => v (ix2 r j)) ⟨160 * t + c.val, by omega⟩)
    (x : S400x160.Idx) (r : Fin 400) (q : Fin 1600) (h0 : r.val = (x 0).val) (h1 : q.val = 160 * t + (x 1).val) :
    P x = lerp (fun j => v (ix2 r j)) q := by
  obtain rfl : r = x 0 := Fin.ext h0
  have hx : (x 1).val < 160 := (x 1).isLt
  have e : q = ⟨160 * t + (x 1).val, by omega⟩ := Fin.ext h1
  rw [e]
  refine Eq.trans (congrArg P ?_) (hP (x 0) (x 1))
  funext a
  match a with
  | ⟨0, _⟩ => rfl
  | ⟨1, _⟩ => rfl

/-- What the first point leaves in the scratch: the similarity with its columns resized. -/
theorem tmpV_at (x0 x1 : FVec Ideal S400x256 .f32) (y : S400x1600.Idx) :
    tmpV (F := Ideal) x0 x1 y = lerp (fun j => k0_pay4 (F := Ideal) x0 x1 (ix2 (y 0) j)) (y 1) := by
  unfold tmpV slabs
  canon_tiles x h
  · exact slab_at _ _ 9 (by decide) (slab9 _) x _ _ h0 h1
  · exact slab_at _ _ 8 (by decide) (slab8 _) x _ _ h0 h1
  · exact slab_at _ _ 7 (by decide) (slab7 _) x _ _ h0 h1
  · exact slab_at _ _ 6 (by decide) (slab6 _) x _ _ h0 h1
  · exact slab_at _ _ 5 (by decide) (slab5 _) x _ _ h0 h1
  · exact slab_at _ _ 4 (by decide) (slab4 _) x _ _ h0 h1
  · exact slab_at _ _ 3 (by decide) (slab3 _) x _ _ h0 h1
  · exact slab_at _ _ 2 (by decide) (slab2 _) x _ _ h0 h1
  · exact slab_at _ _ 1 (by decide) (slab1 _) x _ _ h0 h1
  · exact slab_at _ _ 0 (by decide) (slab0 _) x _ _ h0 (by omega)

/-- The scratch at a row and a column. -/
theorem tmpV_apply (x0 x1 : FVec Ideal S400x256 .f32) (r : Fin 400) (q : Fin 1600) :
    tmpV (F := Ideal) x0 x1 (ix2 r q) = lerp (conf (tok x0) (tok x1) r) q := by
  refine (tmpV_at x0 x1 (ix2 r q)).trans ?_
  show lerp (fun j => k0_pay4 (F := Ideal) x0 x1 (ix2 r j)) q = _
  simp only [pay4_apply]

/-- The word of the band's first row is its closed form. -/
theorem row_word : ∀ g : grid0.Coords, Scalar.minsi (Scalar.muli (Scalar.select (Scalar.andi (rowSign g) (Scalar.cmpi CmpIPredicate.ne (rowRem g) 0#32))
      (Scalar.subi (row8 g) 1#32) (row8 g)) 8#32) 344#32 = BitVec.ofNat 32 (bandRow (g 0).val) := by
  decide +kernel

/-- The word of the block's first new row. -/
theorem base_word : ∀ g : Fin 10, Scalar.muli (160#32) (BitVec.ofNat 32 g.val) = BitVec.ofNat 32 (160 * g.val) := by
  decide +kernel

/-- A block of rows: each the weighted mean of the two rows of the scratch around it. -/
theorem blockV_apply (g : grid0.Coords) (T : FVec Ideal S400x1600 .f32) (i : Fin 160) (q : Fin 1600) :
    blockV (F := Ideal) g T (ix4 0 0 i q)
      = lerp (fun r => T (ix2 r q)) ⟨160 * (g 0).val + i.val, by have : (g 0).val < 10 := (g 0).isLt; omega⟩ := by
  have hg : (g 0).val < 10 := (g 0).isLt
  pointwise [blockV, k0_pay1]
  rw [row_word g, base_word ⟨(g 0).val, hg⟩, addi_ofNat, Nat.add_comm i.val]
  obtain ⟨h0, h1, h2⟩ := band_holds ⟨160 * (g 0).val + i.val, by omega⟩ (g 0).val (by simp only; omega)
  refine (Finset.sum_congr rfl fun x _ => ?_).trans (band_sum (fun r => T (ix2 r q)) ⟨160 * (g 0).val + i.val, by omega⟩ (bandRow (g 0).val) h0 h1 h2)
  refine (mul_comm _ _).trans ?_
  have e : T (ix2 ⟨k0_off1 g 0 + x.val, by have := k0_off1_inb g 0; simp at this; omega⟩ ⟨k0_off1 g 1 + q.val, by have := k0_off1_inb g 1; simp at this; omega⟩)
      = T (ix2 ⟨bandRow (g 0).val + x.val, by omega⟩ q) := by
    refine congrArg T ((ix2_inj ..).2 ⟨Fin.ext ?_, Fin.ext ?_⟩)
    · show k0_off1 g 0 + x.val = _
      rw [k0_off1_closed g]
      rfl
    · show k0_off1 g 1 + q.val = _
      rw [k0_off1_closed g]
      exact Nat.zero_add _
  exact congrArg₂ (· * ·) e rfl

/-- A block of rows of the resized similarity. -/
theorem block_apply (g : grid0.Coords) (x0 x1 : FVec Ideal S400x256 .f32) (i : Fin 160) (q : Fin 1600) :
    blockV (F := Ideal) g (tmpV (F := Ideal) x0 x1) (ix4 0 0 i q)
      = resized (conf (tok x0) (tok x1)) ⟨160 * (g 0).val + i.val, by have : (g 0).val < 10 := (g 0).isLt; omega⟩ q := by
  rw [blockV_apply]
  simp only [tmpV_apply]
  rfl

end Cert.KernelIdeal.Value

end
-- ==== Proof.KTokens.lean ====
/- The kernel's two token outputs in the shared terms. -/
module

public import proofs.«01_k».proof.Proof.KMatch

@[expose] public section

set_option maxRecDepth 16384

noncomputable section

namespace Cert.KernelIdeal.Value

open Idealize.ShloMosaic Idealize.ShloMosaic.TcCoe Idealize.SL.Sem

open Cert.Matching Cert.KernelIdeal.Gen

/-- The kernel's mean of a channel and its right neighbour: the rotated row, its last channel replaced. -/
theorem pair_of_select (f : Fin 256 → EReal) (t : EReal) (c : Fin 256) :
    Ideal.ofBits .f32 1056964608#32 * f c + Ideal.ofBits .f32 1056964608#32
        * Scalar.select (IntOp.cmpi .eq (BitVec.ofNat 32 c.val) 255#32) t
            (if h : c.val < 255 then f ⟨1 + c.val, by omega⟩ else f ⟨c.val - 255, by omega⟩)
      = pair f t c := by
  have hc := c.isLt
  rw [ofBits_half]
  unfold pair
  by_cases h : c.val + 1 < 256
  · have e : IntOp.cmpi .eq (BitVec.ofNat 32 c.val) 255#32 = 0#1 := by
      have : BitVec.ofNat 32 c.val ≠ 255#32 := by
        intro e
        have := congrArg BitVec.toNat e
        simp only [BitVec.toNat_ofNat] at this
        omega
      show BitVec.ofBool (BitVec.ofNat 32 c.val == 255#32) = _
      rw [beq_false_of_ne this]
      rfl
    rw [e, dif_pos (show c.val < 255 by omega), dif_pos h]
    simp only [Scalar.select]
    congr 3
    simp [Nat.add_comm]
  · obtain rfl : c = 255 := Fin.ext (by show c.val = 255; omega)
    rw [dif_neg h]
    rfl

/-- The kernel's first token output. -/
theorem f0V_apply (x0 x1 : FVec Ideal S400x256 .f32) (i : Fin 400) (c : Fin 256) :
    f0V (F := Ideal) x0 (k0_pay5 (F := Ideal) x0 x1) (ix3 0 i c) = pair (tok x0 i) (place (match0 (tok x0) (tok x1) i)) c := by
  pointwise [f0V, k0_pay56, k0_pay55, k0_pay54, k0_pay53, k0_pay52, k0_pay33]
  rw [idxV_eq, ← pair_of_select]
  rfl

/-- The kernel's second token output. -/
theorem f1V_apply (x0 x1 : FVec Ideal S400x256 .f32) (i : Fin 400) (c : Fin 256) :
    f1V (F := Ideal) x1 (k0_pay6 (F := Ideal) x0 x1) (ix3 0 i c) = pair (tok x1 i) (place (match1 (tok x0) (tok x1) i)) c := by
  pointwise [f1V, k0_pay57, k0_pay53, k0_pay52, k0_pay34]
  rw [idyV_eq, ← pair_of_select]
  rfl

end Cert.KernelIdeal.Value

end
-- ==== Proof.KPool.lean ====
/- The kernel's third output in shared terms. -/
module

public import proofs.«01_k».proof.Proof.KMatch
public import proofs.«01_k».proof.Proof.PoolSpec

@[expose] public section

set_option maxRecDepth 16384

noncomputable section

namespace Cert.KernelIdeal.Value

open Idealize.ShloMosaic Idealize.ShloMosaic.TcCoe Idealize.SL.Sem

open Cert.Matching Cert.KernelIdeal.Gen

/-- The mask picks, for each cell, the tokens whose row and column halve to the cell's. -/
theorem poolMask_apply (p : Fin 128) (hp : p.val < 100) (q : Fin 400) :
    poolMask (ix2 p q) = BitVec.ofBool (decide (q.val / 40 = p.val / 10 ∧ q.val % 20 / 2 = p.val % 10)) := by
  have hq := q.isLt
  pointwise [poolMask, k0_pay45, k0_pay42, k0_pay43, k0_pay44, k0_pay39, k0_pay40, k0_pay41]
  refine (congrArg₂ IntOp.andi (congrArg₂ IntOp.andi
    (congrArg₂ (IntOp.cmpi .eq) (?_ : _ = BitVec.ofNat 32 (q.val / 40)) (?_ : _ = BitVec.ofNat 32 (p.val / 10)))
    (congrArg₂ (IntOp.cmpi .eq) (?_ : _ = BitVec.ofNat 32 (q.val % 20 / 2)) (?_ : _ = BitVec.ofNat 32 (p.val % 10))))
    (?_ : _ = 1#1)).trans ?_
  · clear hq; revert q; decide +kernel
  · clear hp; revert p; decide +kernel
  · clear hq; revert q; decide +kernel
  · clear hp; revert p; decide +kernel
  · revert p; decide +kernel
  · rw [cmpi_eq_small _ _ (by omega) (by omega), cmpi_eq_small _ _ (by omega) (by omega)]
    by_cases h1 : q.val / 40 = p.val / 10 <;> by_cases h2 : q.val % 20 / 2 = p.val % 10 <;> simp [h1, h2, IntOp.andi]

/-- A sum against a one at place `k` is the entry there. -/
theorem sum_onehot (k : Fin 400) (f : Fin 400 → EReal) :
    ∑ x : Fin 400, FloatOps.sitofp (F := Ideal) .f32 (BitVec.setWidth 32 (IntOp.cmpi .eq (BitVec.ofNat 32 x.val) (BitVec.ofNat 32 k.val))) * f x
      = f k := by
  rw [Finset.sum_eq_single k]
  · rw [onehot _ _ (by omega) (by omega), if_pos rfl, one_mul]
  · intro x _ hx
    rw [onehot _ _ (by omega) (by omega), if_neg (fun h => hx (Fin.ext h)), zero_mul]
  · simp

/-- The kernel's pooled tokens. -/
theorem pooledV_apply (x0 x1 : FVec Ideal S400x256 .f32) (p : Fin 128) (hp : p.val < 100) (c : Fin 256) :
    pooledV (F := Ideal) x0 x1 (k0_pay5 (F := Ideal) x0 x1) (ix2 p c) = pool (fun q => mix (tok x0) (tok x1) q c) ⟨p.val, hp⟩ := by
  rw [← quarter_cell, ← sum_cell_eq ⟨p.val, hp⟩ (fun q => ((1 / 4 : ℝ) : EReal) * mix (tok x0) (tok x1) q c)]
  pointwise [pooledV, k0_pay47, k0_pay33, k0_pay38, k0_pay34, k0_pay46, cols400]
  refine Finset.sum_congr rfl fun q _ => ?_
  rw [poolMask_apply p hp, idxV_eq, sum_onehot (match0 (tok x0) (tok x1) q) (fun x => x1 (ix2 x c)), ofBits_half]
  have h4 : ((1 / 2 : ℝ) : EReal) * ((1 / 2 : ℝ) : EReal) = ((1 / 4 : ℝ) : EReal) := by
    rw [← EReal.coe_mul]; norm_num
  rw [h4]
  by_cases h : q.val / 40 = p.val / 10 ∧ q.val % 20 / 2 = p.val % 10
  · rw [if_pos h, decide_eq_true h]; rfl
  · rw [if_neg h, decide_eq_false h]; rfl

/-- The half of a channel number, as the kernel computes it. -/
theorem half_word : ∀ x : Fin 256, Scalar.select
              (IntOp.andi
                (IntOp.cmpi CmpIPredicate.ne
                  (IntOp.subi (BitVec.setWidth 32 (IntOp.cmpi CmpIPredicate.sgt (BitVec.ofNat 32 x.val) 0#32))
                    (BitVec.setWidth 32 (IntOp.cmpi CmpIPredicate.slt (BitVec.ofNat 32 x.val) 0#32)))
                  (Scalar.subi (Scalar.extui (Scalar.cmpi CmpIPredicate.sgt 2#32 0#32))
                    (Scalar.extui (Scalar.cmpi CmpIPredicate.slt 2#32 0#32))))
                (IntOp.cmpi CmpIPredicate.ne (IntOp.remsi ArithUnit.vector (BitVec.ofNat 32 x.val) 2#32) 0#32))
              (IntOp.subi (IntOp.divsi ArithUnit.vector (BitVec.ofNat 32 x.val) 2#32) 1#32)
              (IntOp.divsi ArithUnit.vector (BitVec.ofNat 32 x.val) 2#32) = BitVec.ofNat 32 (x.val / 2) := by
  decide +kernel

/-- The kernel's third output: the rows of the given tokens and the pooled ones, neighbouring channels averaged. -/
theorem t32V_apply (x0 x1 : FVec Ideal S400x256 .f32) (x2 : FVec Ideal S128x256 .f32) (p : Fin 128) (hp : p.val < 100) (c : Fin 256) :
    t32V (F := Ideal) x0 x1 x2 (k0_pay5 (F := Ideal) x0 x1) (ix2 p c)
      = paired (fun x => x2 (ix2 p x)) (fun x => pool (fun q => mix (tok x0) (tok x1) q x) ⟨p.val, hp⟩) c := by
  have hc := c.isLt
  pointwise [t32V, k0_pay51, k0_pay48, k0_pay49, k0_pay50]
  unfold paired
  refine congrArg₂ (· + ·) (Finset.sum_congr rfl fun x _ => ?_) (Finset.sum_congr rfl fun x _ => ?_)
  · rw [half_word x, cmpi_eq_small _ _ (by omega) (by omega), ofBits_half]
    by_cases h : x.val / 2 = c.val
    · rw [if_pos h, decide_eq_true h]; rfl
    · rw [if_neg h, decide_eq_false h]; rfl
  · rw [half_word x, show IntOp.addi (BitVec.ofNat 32 (x.val / 2)) 128#32 = BitVec.ofNat 32 (x.val / 2 + 128) from by
        rw [BitVec.ofNat_add]; rfl,
      cmpi_eq_small _ _ (by omega) (by omega), ofBits_half, pooledV_apply x0 x1 p hp]
    by_cases h : x.val / 2 + 128 = c.val
    · rw [if_pos h, decide_eq_true h]; rfl
    · rw [if_neg h, decide_eq_false h]; rfl

end Cert.KernelIdeal.Value

end
-- ==== Proof.KFinal.lean ====
/- What the kernel's result arrays hold after the run. -/
module

public import proofs.«01_k».proof.Proof.Launched
public import proofs.«01_k».proof.Proof.KBlock
public import proofs.«01_k».proof.Proof.KTokens
public import proofs.«01_k».proof.Proof.KPool
public import Idealize.ShloMosaic.Lib.Pipeline.ValueKit

@[expose] public section

set_option maxRecDepth 16384

noncomputable section

namespace Cert.KernelIdeal.Value

open Idealize.ShloMosaic Idealize.ShloMosaic.TcCoe Idealize.SL.Sem

open Cert.Matching Cert.KernelIdeal.Gen
open Idealize.ShloMosaic.Pipeline (Dat)

variable (m : (ℓ : Loc nD τ sig) → Buf (Elt Ideal) ℓ)

/-- The first token set, from the argument array. -/
def A0 (c : Dev nD) (i : Fin 400) (x : Fin 256) : EReal := m ((c.tc : Thread nD τ).loc main_arg0) (ix3 0 i x)
/-- The second token set. -/
def A1 (c : Dev nD) (i : Fin 400) (x : Fin 256) : EReal := m ((c.tc : Thread nD τ).loc main_arg1) (ix3 0 i x)
/-- The given coarse tokens. -/
def A7 (c : Dev nD) (p : Fin 100) (x : Fin 256) : EReal := m ((c.tc : Thread nD τ).loc main_arg7) (ix3 0 p x)

/-- Where each window's block lies at each point. -/
theorem idx : ∀ t : Fin cfg0.N, win0_0.index t = ![0, 0] ∧ win0_1.index t = ![0, 0] ∧ win0_2.index t = ![0, 0]
    ∧ win0_3.index t = ![0, 0, t.val, 0] ∧ win0_4.index t = ![0, 0, 0] ∧ win0_5.index t = ![0, 0, 0] ∧ win0_6.index t = ![0, 0] :=
  (by decide +kernel : ∀ t : Fin grid0.N, _)

/-- The grid coordinate of each point. -/
theorem coord_val : ∀ t : Fin cfg0.N, (grid0.coords t 0).val = t.val :=
  (by decide +kernel : ∀ t : Fin grid0.N, _)

/-- A block that is its whole array lies at its origin. -/
theorem whole0 (a : Fin 2) : win0_0.index pt0 a = 0 := by
  rw [(idx pt0).1]
  fin_cases a <;> rfl
theorem whole1 (a : Fin 2) : win0_1.index pt0 a = 0 := by
  rw [(idx pt0).2.1]
  fin_cases a <;> rfl
theorem whole2 (a : Fin 2) : win0_2.index pt0 a = 0 := by
  rw [(idx pt0).2.2.1]
  fin_cases a <;> rfl

/-- A unit axis dropped, element by element. -/
theorem drop_apply (A : S1x400x256.Idx → EReal) (i : Fin 400) (x : Fin 256) :
    @Eq EReal (shapeCast S400x256 A shapeCasts_S1x400x256_S400x256 (ix2 i x)) (A (ix3 0 i x)) := by
  pointwise

/-- The coarse tokens dropped and padded, on the given rows. -/
theorem pad_apply (A : S1x100x256.Idx → EReal) (v : S_.Idx → EReal) (p : Fin 128) (hp : p.val < 100) (x : Fin 256) :
    @Eq EReal (pad S128x256 ![0, 0] ![28, 0] ![0, 0]
      (shapeCast S100x256 A shapeCasts_S1x100x256_S100x256) v pads_S100x256_S128x256_0280_000 h_S_ (ix2 p x))
      (A (ix3 0 ⟨p.val, hp⟩ x)) := by
  pointwise [hp]

/-- The first operand: the first argument, its unit axis dropped. -/
theorem V_v0 (c : Dev nD) : V m c main_v0 = shapeCast S400x256 (m ((c.tc : Thread nD τ).loc main_arg0)) shapeCasts_S1x400x256_S400x256 := by
  simp only [V, V0, hostOps0, hostOps0_1, List.flatten_cons, List.flatten_nil, List.append_nil, List.cons_append, List.nil_append]
  after_results
  try rfl

/-- The second operand: the second argument, its unit axis dropped. -/
theorem V_v1 (c : Dev nD) : V m c main_v1 = shapeCast S400x256 (m ((c.tc : Thread nD τ).loc main_arg1)) shapeCasts_S1x400x256_S400x256 := by
  simp only [V, V0, hostOps0, hostOps0_1, List.flatten_cons, List.flatten_nil, List.append_nil, List.cons_append, List.nil_append]
  after_results
  try rfl

/-- The third operand: the given coarse tokens, their unit axis dropped, padded below to 128 rows. -/
theorem V_v3 (c : Dev nD) : V m c main_v3 = pad S128x256 ![0, 0] ![28, 0] ![0, 0]
    (shapeCast S100x256 (m ((c.tc : Thread nD τ).loc main_arg7)) shapeCasts_S1x100x256_S100x256)
    (sitofp (F := Ideal) .f32 (constantI S_ 32 0#32)) pads_S100x256_S128x256_0280_000 h_S_ := by
  simp only [V, V0, hostOps0, hostOps0_1, List.flatten_cons, List.flatten_nil, List.append_nil, List.cons_append, List.nil_append]
  after_results
  try rfl

/-- The first operand's block is its whole array. -/
theorem X0_eq (c : Dev nD) (i : Fin 400) (x : Fin 256) : @Eq EReal (X0 (F := Ideal) m c (ix2 i x)) (V m c main_v0 (ix2 i x)) := by
  refine congrArg (V m c main_v0) ?_
  have h : (((cfg0.win 0).blk pt0).view.emb (ix2 i x)) = ix2 i x := by
    funext a
    exact Fin.ext ((win0_0).rect_emb_val_of_index_zero pt0 a (whole0 a) _)
  exact h

/-- The second operand's block is its whole array. -/
theorem X1_eq (c : Dev nD) (i : Fin 400) (x : Fin 256) : @Eq EReal (X1 (F := Ideal) m c (ix2 i x)) (V m c main_v1 (ix2 i x)) := by
  refine congrArg (V m c main_v1) ?_
  have h : (((cfg0.win 1).blk pt0).view.emb (ix2 i x)) = ix2 i x := by
    funext a
    exact Fin.ext ((win0_1).rect_emb_val_of_index_zero pt0 a (whole1 a) _)
  exact h

/-- The third operand's block is its whole array. -/
theorem X2_eq (c : Dev nD) (p : Fin 128) (x : Fin 256) : @Eq EReal (X2 (F := Ideal) m c (ix2 p x)) (V m c main_v3 (ix2 p x)) := by
  refine congrArg (V m c main_v3) ?_
  have h : (((cfg0.win 2).blk pt0).view.emb (ix2 p x)) = ix2 p x := by
    funext a
    exact Fin.ext ((win0_2).rect_emb_val_of_index_zero pt0 a (whole2 a) _)
  exact h

/-- The first token set as every point finds it. -/
theorem X0_apply (c : Dev nD) (i : Fin 400) (x : Fin 256) : @Eq EReal (X0 (F := Ideal) m c (ix2 i x)) (A0 m c i x) := by
  rw [X0_eq, V_v0]
  exact drop_apply _ i x

/-- The second token set as every point finds it. -/
theorem X1_apply (c : Dev nD) (i : Fin 400) (x : Fin 256) : @Eq EReal (X1 (F := Ideal) m c (ix2 i x)) (A1 m c i x) := by
  rw [X1_eq, V_v1]
  exact drop_apply _ i x

/-- The coarse tokens as every point finds them, on the given rows. -/
theorem X2_apply (c : Dev nD) (p : Fin 128) (hp : p.val < 100) (x : Fin 256) : @Eq EReal (X2 (F := Ideal) m c (ix2 p x)) (A7 m c ⟨p.val, hp⟩ x) := by
  rw [X2_eq, V_v3]
  exact pad_apply _ _ p hp x

/-- The first token set as every point finds it, as a function. -/
theorem tok_X0 (c : Dev nD) : tok (X0 (F := Ideal) m c) = A0 m c := by
  funext i x
  exact X0_apply m c i x

/-- The second token set as every point finds it, as a function. -/
theorem tok_X1 (c : Dev nD) : tok (X1 (F := Ideal) m c) = A1 m c := by
  funext i x
  exact X1_apply m c i x

/-- The first result array: the resized similarity. -/
theorem final3 (c : Dev nD) : (dats (F := Ideal) m 0 c).arrAt 3 (cfgs 0).N
    = fun j : S1x1x1600x1600.Idx => resized (conf (A0 m c) (A1 m c)) (j 2) (j 3) := by
  refine (dats m 0 c).arrAt_eq_of_covers 3 _ (by decide +kernel) fun t hf y => ?_
  blk_simp
  rw [after0_3]
  obtain ⟨-, -, -, e3, -⟩ := idx t
  idx_vars y
  obtain rfl : y0 = 0 := Subsingleton.elim _ _
  obtain rfl : y1 = 0 := Subsingleton.elim _ _
  have h1 : t.val < 10 := t.isLt.trans_eq N_0
  refine (block_apply (grid0.coords t) (X0 m c) (X1 m c) y2 y3).trans ?_
  rw [tok_X0, tok_X1]
  congr 1
  · refine Fin.ext ?_
    refine Eq.trans ?_ (win0_3.rect_emb_val t (ix4 0 0 y2 y3) (2 : Fin 4)).symm
    rw [e3]
    show 160 * (grid0.coords t 0).val + y2.val = t.val * 160 + y2.val
    rw [coord_val, Nat.mul_comm]
  · refine Fin.ext ?_
    refine Eq.trans ?_ (win0_3.rect_emb_val t (ix4 0 0 y2 y3) (3 : Fin 4)).symm
    rw [e3]
    exact (Nat.zero_add y3.val).symm

/-- The second result array: the first token output. -/
theorem final4 (c : Dev nD) : (dats (F := Ideal) m 0 c).arrAt 4 (cfgs 0).N
    = fun j : S1x400x256.Idx => pair (A0 m c (j 1)) (place (match0 (A0 m c) (A1 m c) (j 1))) (j 2) := by
  refine (dats m 0 c).arrAt_eq_of_after_last 4 t0_9 (by decide +kernel) _ fun j => ?_
  blk_simp
  rw [after0_4]
  idx_vars j
  rw [← tok_X0, ← tok_X1]
  obtain rfl : j0 = 0 := Subsingleton.elim _ _
  exact f0V_apply (X0 m c) (X1 m c) j1 j2

/-- The third result array: the second token output. -/
theorem final5 (c : Dev nD) : (dats (F := Ideal) m 0 c).arrAt 5 (cfgs 0).N
    = fun j : S1x400x256.Idx => pair (A1 m c (j 1)) (place (match1 (A0 m c) (A1 m c) (j 1))) (j 2) := by
  refine (dats m 0 c).arrAt_eq_of_after_last 5 t0_9 (by decide +kernel) _ fun j => ?_
  blk_simp
  rw [after0_5]
  idx_vars j
  rw [← tok_X0, ← tok_X1]
  obtain rfl : j0 = 0 := Subsingleton.elim _ _
  exact f1V_apply (X0 m c) (X1 m c) j1 j2

/-- The padded coarse output: the first hundred rows. -/
theorem final6 (c : Dev nD) (p : Fin 128) (hp : p.val < 100) (x : Fin 256) :
    @Eq EReal ((dats (F := Ideal) m 0 c).arrAt 6 (cfgs 0).N (ix2 p x))
      (paired (A7 m c ⟨p.val, hp⟩) (fun x => Cert.Matching.pool (fun q => mix (A0 m c) (A1 m c) q x) ⟨p.val, hp⟩) x) := by
  have h : (dats (F := Ideal) m 0 c).arrAt 6 (cfgs 0).N = t32V (X0 m c) (X1 m c) (X2 m c) (CC m c) := by
    refine (dats m 0 c).arrAt_eq_of_after_last 6 t0_9 (by decide +kernel) _ fun j => ?_
    blk_simp
    rw [after0_6]
  rw [h, ← tok_X0, ← tok_X1]
  refine (t32V_apply (X0 m c) (X1 m c) (X2 m c) p hp x).trans ?_
  congr 1
  funext x
  exact X2_apply m c p hp x

end Cert.KernelIdeal.Value

end
-- ==== Proof.KRun.lean ====
/- The kernel's run, with its results named. -/
module

public import proofs.«01_k».proof.Proof.KFinal
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem

open Cert.Matching Cert.KernelIdeal.Gen

/-- The last result's term: the padded coarse output's first hundred rows, with a unit axis. -/
theorem cut_apply (B : S128x256.Idx → EReal) (p : Fin 100) (x : Fin 256) :
    @Eq EReal (broadcastInDim S100x1x256 ![0, 2] bcast_S100x256_S100x1x256_0_2
      (extractStridedSlice S100x256 ![0, 0] B slices_S128x256_S100x256_0_0) (ix3 p 0 x)) (B (ix2 ⟨p.val, by omega⟩ x)) := by
  pointwise

/-- What the last result holds: the host's two closing operations over the padded coarse output. -/
theorem tail_v6 (m : (ℓ : Loc nD τ sig) → Buf (Elt Ideal) ℓ) (c : Dev nD) :
    Pipeline.afterTail₀ cfgs (dats (F := Ideal) m) 0 (V0 m) [hostOps1] c main_v6
      = broadcastInDim S100x1x256 ![0, 2] bcast_S100x256_S100x1x256_0_2
        (extractStridedSlice S100x256 ![0, 0] ((dats (F := Ideal) m 0 c).arrAt 6 (cfgs 0).N) slices_S128x256_S100x256_0_0) := by
  unfold Pipeline.afterTail₀
  simp only [hostOps1, List.flatten_cons, List.flatten_nil, List.append_nil]
  after_results
  exact congrArg (fun B : S128x256.Idx → EReal => broadcastInDim S100x1x256 ![0, 2] bcast_S100x256_S100x1x256_0_2
    (extractStridedSlice S100x256 ![0, 0] B slices_S128x256_S100x256_0_0))
    (Pipeline.withArrays_arr spec0 (by decide) c (V0 m c) (fun w => (dats (F := Ideal) m 0 c).arrAt w (cfgs 0).N) 6)

/-- The kernel's run: the four results as functions of the arguments, each over the argument arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4_0) = (fun j : S1x1x1600x1600.Idx => resized (conf (A0 m c) (A1 m c)) (j 2) (j 3))
      ∧ r.2.mem ((c.tc : Thread nD τ).loc main_v4_1) = (fun j : S1x400x256.Idx => pair (A0 m c (j 1)) (place (match0 (A0 m c) (A1 m c) (j 1))) (j 2))
      ∧ r.2.mem ((c.tc : Thread nD τ).loc main_v4_2) = (fun j : S1x400x256.Idx => pair (A1 m c (j 1)) (place (match1 (A0 m c) (A1 m c) (j 1))) (j 2))
      ∧ r.2.mem ((c.tc : Thread nD τ).loc main_v6) = (fun j : S100x1x256.Idx => paired (A7 m c (j 0)) (fun x => Cert.Matching.pool (fun q => mix (A0 m c) (A1 m c) q x) (j 0)) (j 2))
) := by
  run_from Cert.KernelIdeal.Gen.run_main m ρ
  · exact final3 m c
  · exact final4 m c
  · exact final5 m c
  · rw [tail_v6]
    funext j
    idx_vars j
    obtain rfl : j1 = 0 := Subsingleton.elim _ _
    exact (cut_apply _ j0 j2).trans (final6 m c ⟨j0.val, by omega⟩ j0.isLt j2)

end Cert.KernelIdeal.Value

end
-- ==== Proof.RefMatch.lean ====
/- The reference's similarity, its matching probabilities and the best matches it finds, in the shared terms. -/
module

public import proofs.«01_k».proof.Proof.RefOps
public import proofs.«01_k».proof.Proof.Spec

@[expose] public section

set_option maxRecDepth 16384

noncomputable section

namespace Cert.ReferenceIdeal.Value

open Idealize.ShloMosaic Idealize.ShloMosaic.TcCoe Idealize.SL.Sem

open Cert.Matching Cert.ReferenceIdeal.Gen

variable (V0 : Valuation τ sig (Elt Ideal))

/-- Token `i` of the first set, as launched. -/
def a0 (i : Fin 400) (x : Fin 256) : EReal := V0 (Proc.devRef .tc main_arg0) (ix3 0 i x)

/-- Token `i` of the second set, as launched. -/
def a1 (i : Fin 400) (x : Fin 256) : EReal := V0 (Proc.devRef .tc main_arg1) (ix3 0 i x)

/-- The reference's similarity matrix. -/
theorem v2_apply (i j : Fin 400) : @Eq EReal (res_main_v2 (F := Ideal) V0 (ix3 0 i j)) (conf (a0 V0) (a1 V0) i j) := by
  pointwise [res_main_v2]
  rw [ofBits_sixteen, div_sixteen]
  rfl

/-- The exponentials of the softmax along the first axis: each column is lowered by its maximum. -/
theorem v99_apply (i j : Fin 400) : @Eq EReal (res_main_v99 (F := Ideal) V0 (ix3 0 i j))
    (Ideal.exp (conf (a0 V0) (a1 V0) i j - Finset.fold max ⊥ (fun k => conf (a0 V0) (a1 V0) k j) Finset.univ)) := by
  obtain ⟨M, hM⟩ : ∃ M : FVec Ideal S1x400x400 .f32, res_main_v2 (F := Ideal) V0 = M := ⟨_, rfl⟩
  have h := reducesTo_S1x400x400_S1x400_d1.fold_fiber_r3_a1 (ix2 0 j) (max : EReal → EReal → EReal) ⊥ M
  unfold res_main_v99
  rw [hM]
  pointwise
  subst hM
  simp only [v2_apply, ofBits_neg_inf, bot_sup_eq]
  refine (congrArg (fun z => Ideal.exp (conf (a0 V0) (a1 V0) i j - z)) h).trans ?_
  exact congrArg (fun g => Ideal.exp (conf (a0 V0) (a1 V0) i j - Finset.fold max ⊥ g Finset.univ)) (funext fun k => v2_apply V0 k j)

/-- The exponentials of the softmax along the second axis: each row is lowered by its maximum. -/
theorem v110_apply (i j : Fin 400) : @Eq EReal (res_main_v110 (F := Ideal) V0 (ix3 0 i j))
    (Ideal.exp (conf (a0 V0) (a1 V0) i j - Finset.fold max ⊥ (fun k => conf (a0 V0) (a1 V0) i k) Finset.univ)) := by
  obtain ⟨M, hM⟩ : ∃ M : FVec Ideal S1x400x400 .f32, res_main_v2 (F := Ideal) V0 = M := ⟨_, rfl⟩
  have h := reducesTo_S1x400x400_S1x400_d2.fold_fiber_r3_a2 (ix2 0 i) (max : EReal → EReal → EReal) ⊥ M
  unfold res_main_v110
  rw [hM]
  pointwise
  subst hM
  simp only [v2_apply, ofBits_neg_inf, bot_sup_eq]
  refine (congrArg (fun z => Ideal.exp (conf (a0 V0) (a1 V0) i j - z)) h).trans ?_
  exact congrArg (fun g => Ideal.exp (conf (a0 V0) (a1 V0) i j - Finset.fold max ⊥ g Finset.univ)) (funext fun k => v2_apply V0 i k)

/-- The reference's matching probabilities. -/
theorem v115_apply (i j : Fin 400) : @Eq EReal (res_main_v115 (F := Ideal) V0 (ix3 0 i j)) (prob (conf (a0 V0) (a1 V0)) i j) := by
  obtain ⟨M, hM⟩ : ∃ M : FVec Ideal S1x400x400 .f32, res_main_v99 (F := Ideal) V0 = M := ⟨_, rfl⟩
  obtain ⟨N, hN⟩ : ∃ N : FVec Ideal S1x400x400 .f32, res_main_v110 (F := Ideal) V0 = N := ⟨_, rfl⟩
  unfold res_main_v115
  rw [hM, hN]
  pointwise
  subst hM hN
  simp only [v99_apply, v110_apply]
  rfl

/-- The reference's arg-max along axis 2 finds the best match of each token of the first set. -/
theorem v116_apply (i : Fin 400) :
    @Eq (BitVec 32) (res_main_v116 (F := Ideal) V0 (ix2 0 i)) (BitVec.ofNat 32 (match0 (a0 V0) (a1 V0) i).val) := by
  unfold res_main_v116
  rw [Ideal.argReduce_eq_reduce2, Host.reduce2_eq_foldl_fiber]
  unfold match0
  have h := foldl_eq_best (fun x => prob (conf (a0 V0) (a1 V0)) i x)
    (Host.argReduceFiber (res_main_v115 (F := Ideal) V0 : FVec Ideal S1x400x400 .f32)
      (res_main_call2_v0 (F := Ideal) V0 : IVec S1x400x400 32) reducesTo_S1x400x400_S1x400_d2 (ix2 0 i)) ?_ ?_
  · refine Eq.trans ?_ h
    exact congrArg (fun s => (List.foldl (reducer_argmax_f32_i32 (F := Ideal)) s
      (Host.argReduceFiber (res_main_v115 (F := Ideal) V0 : FVec Ideal S1x400x400 .f32)
        (res_main_call2_v0 (F := Ideal) V0 : IVec S1x400x400 32) reducesTo_S1x400x400_S1x400_d2 (ix2 0 i))).2)
      (Prod.ext ofBits_neg_inf rfl)
  · intro p hp
    unfold Host.argReduceFiber at hp
    simp only [List.mem_map, List.mem_filter, List.mem_finRange, true_and, decide_eq_true_eq] at hp
    obtain ⟨n, hn, rfl⟩ := hp
    obtain ⟨k, hk⟩ := (reducesTo_S1x400x400_S1x400_d2.fiber_r3_a2 _ _).mp hn
    rw [← hk]
    refine ⟨k, Prod.ext (v115_apply V0 i k) ?_⟩
    pointwise [res_main_call2_v0]
  · intro k
    unfold Host.argReduceFiber
    simp only [List.mem_map, List.mem_filter, List.mem_finRange, true_and, decide_eq_true_eq]
    refine ⟨S1x400x400.rowMajor (ix3 0 i k), ?_, ?_⟩
    · erw [Equiv.symm_apply_apply]
      exact (reducesTo_S1x400x400_S1x400_d2.fiber_r3_a2 _ _).mpr ⟨k, rfl⟩
    · erw [Equiv.symm_apply_apply]
      refine Prod.ext (v115_apply V0 i k) ?_
      pointwise [res_main_call2_v0]

/-- The reference's arg-max along the first axis. -/
def res_main_v117 : IVec S1x400 32 := fun j =>
  (Host.argReduce (reducer_argmax_f32_i32 (F := Ideal)) (res_main_v115 (F := Ideal) V0) (res_main_call3_v0 (F := Ideal) V0)
    (res_main_call3_cst (F := Ideal) V0) (res_main_call3_c (F := Ideal) V0) reducesTo_S1x400x400_S1x400_d1 h_S_ j).2

/-- The reference's arg-max along axis 1 finds the best match of each token of the second set. -/
theorem v117_apply (i : Fin 400) :
    @Eq (BitVec 32) (res_main_v117 V0 (ix2 0 i)) (BitVec.ofNat 32 (match1 (a0 V0) (a1 V0) i).val) := by
  unfold res_main_v117
  rw [Ideal.argReduce_eq_reduce2, Host.reduce2_eq_foldl_fiber]
  unfold match1
  have h := foldl_eq_best (fun x => prob (conf (a0 V0) (a1 V0)) x i)
    (Host.argReduceFiber (res_main_v115 (F := Ideal) V0 : FVec Ideal S1x400x400 .f32)
      (res_main_call3_v0 (F := Ideal) V0 : IVec S1x400x400 32) reducesTo_S1x400x400_S1x400_d1 (ix2 0 i)) ?_ ?_
  · refine Eq.trans ?_ h
    exact congrArg (fun s => (List.foldl (reducer_argmax_f32_i32 (F := Ideal)) s
      (Host.argReduceFiber (res_main_v115 (F := Ideal) V0 : FVec Ideal S1x400x400 .f32)
        (res_main_call3_v0 (F := Ideal) V0 : IVec S1x400x400 32) reducesTo_S1x400x400_S1x400_d1 (ix2 0 i))).2)
      (Prod.ext ofBits_neg_inf rfl)
  · intro p hp
    unfold Host.argReduceFiber at hp
    simp only [List.mem_map, List.mem_filter, List.mem_finRange, true_and, decide_eq_true_eq] at hp
    obtain ⟨n, hn, rfl⟩ := hp
    obtain ⟨k, hk⟩ := (reducesTo_S1x400x400_S1x400_d1.fiber_r3_a1 _ _).mp hn
    rw [← hk]
    refine ⟨k, Prod.ext (v115_apply V0 k i) ?_⟩
    pointwise [res_main_call3_v0]
  · intro k
    unfold Host.argReduceFiber
    simp only [List.mem_map, List.mem_filter, List.mem_finRange, true_and, decide_eq_true_eq]
    refine ⟨S1x400x400.rowMajor (ix3 0 k i), ?_, ?_⟩
    · erw [Equiv.symm_apply_apply]
      exact (reducesTo_S1x400x400_S1x400_d1.fiber_r3_a1 _ _).mpr ⟨k, rfl⟩
    · erw [Equiv.symm_apply_apply]
      refine Prod.ext (v115_apply V0 k i) ?_
      pointwise [res_main_call3_v0]

end Cert.ReferenceIdeal.Value

end
-- ==== Proof.RefResize.lean ====
/- The reference's resizing: four gathered corners, weighted. -/
module

public import proofs.«01_k».proof.Proof.RefRun
public import proofs.«01_k».proof.Proof.RefMatch
public import proofs.«01_k».proof.Proof.Resize

@[expose] public section

set_option maxRecDepth 16384

noncomputable section

namespace Cert.ReferenceIdeal.Value

open Idealize.ShloMosaic Idealize.ShloMosaic.TcCoe Idealize.SL.Sem

open Cert.Matching Cert.ReferenceIdeal.Gen

variable (V0 : Valuation τ sig (Elt Ideal))

/-- The end of the old coordinates. -/
theorem ofBits_399 : Ideal.ofBits .f32 1137147904#32 = ((399 : ℝ) : EReal) := by
  simp [Ideal.ofBits, Ideal.ieee]
  rw [← EReal.coe_mul]
  norm_num

/-- The number of steps between the new places. -/
theorem ofBits_1599 : Ideal.ofBits .f32 1153949696#32 = ((1599 : ℝ) : EReal) := by
  simp [Ideal.ofBits, Ideal.ieee]
  rw [← EReal.coe_mul]
  norm_num

/-- The evenly spaced coordinates from 0 to 399: the one of new place `n` is `n · 399 / 1599`, the last one the end itself. -/
theorem spaced (n : ℕ) (hn : n < 1600) :
    (if h : n < 1599 then
      (id (constant (F := Ideal) S_ .f32 0#32) ix0 : EReal) *
          (1 - Ideal.div (FloatOps.sitofp (F := Ideal) .f32 (BitVec.ofNat 32 n)) (Ideal.ofBits .f32 1153949696#32)) +
        id (constant (F := Ideal) S_ .f32 1137147904#32) ix0 *
          Ideal.div (FloatOps.sitofp (F := Ideal) .f32 (BitVec.ofNat 32 n)) (Ideal.ofBits .f32 1153949696#32)
    else id (constant (F := Ideal) S_ .f32 1137147904#32) ix0) = (((n : ℝ) * (133 / 533) : ℝ) : EReal) := by
  have e0 : (id (constant (F := Ideal) S_ .f32 0#32) ix0 : EReal) = 0 := ofBits_zero
  have e1 : (id (constant (F := Ideal) S_ .f32 1137147904#32) ix0 : EReal) = ((399 : ℝ) : EReal) := ofBits_399
  rw [e0, e1]
  by_cases h : n < 1599
  · rw [dif_pos h, zero_mul, zero_add, sitofp_small n (by omega), ofBits_1599, Ideal.div_coe (by norm_num), ← EReal.coe_mul, ← EReal.coe_mul]
    congr 1
    ring
  · rw [dif_neg h]
    obtain rfl : n = 1599 := by omega
    norm_num

/-- The reference's old coordinates of the new rows. -/
theorem v4_apply (n : Fin 1600) : @Eq EReal (res_main_v4 (F := Ideal) V0 (ix1 n)) (((n.val : ℝ) * (133 / 533) : ℝ) : EReal) := by
  pointwise [res_main_v4, res_main_call0_v0, res_main_call0_v1, res_main_call0_v6]
  exact spaced n.val n.isLt

/-- The reference's old coordinates of the new columns. -/
theorem v5_apply (n : Fin 1600) : @Eq EReal (res_main_v5 (F := Ideal) V0 (ix1 n)) (((n.val : ℝ) * (133 / 533) : ℝ) : EReal) := by
  pointwise [res_main_v5, res_main_call1_v0, res_main_call1_v1, res_main_call1_v6]
  exact spaced n.val n.isLt

/-- The old row before each new one. -/
theorem v7_apply (n : Fin 1600) : @Eq (BitVec 32) (res_main_v7 (F := Ideal) V0 (ix1 n)) (BitVec.ofNat 32 (lo n).val) := by
  pointwise [res_main_v7]
  rw [v4_apply, liftRound_place, fptosi_small _ (by omega)]
  rfl

/-- The old column before each new one. -/
theorem v9_apply (n : Fin 1600) : @Eq (BitVec 32) (res_main_v9 (F := Ideal) V0 (ix1 n)) (BitVec.ofNat 32 (lo n).val) := by
  pointwise [res_main_v9]
  rw [v5_apply, liftRound_place, fptosi_small _ (by omega)]
  rfl

/-- The place after a place, the last one for the last, as a word. -/
theorem next_word : ∀ k : Fin 400, IntOp.minsi (IntOp.addi (BitVec.ofNat 32 k.val) 1#32) 399#32 = BitVec.ofNat 32 (min (k.val + 1) 399) := by
  decide +kernel

/-- The old row after each new one. -/
theorem v13_apply (n : Fin 1600) : @Eq (BitVec 32) (res_main_v13 (F := Ideal) V0 (ix1 n)) (BitVec.ofNat 32 (hi n).val) := by
  pointwise [res_main_v13]
  rw [v7_apply, next_word]
  rfl

/-- The old column after each new one. -/
theorem v17_apply (n : Fin 1600) : @Eq (BitVec 32) (res_main_v17 (F := Ideal) V0 (ix1 n)) (BitVec.ofNat 32 (hi n).val) := by
  pointwise [res_main_v17]
  rw [v9_apply, next_word]
  rfl

/-- The weight of each new row. -/
theorem v20_apply (n : Fin 1600) : @Eq EReal (res_main_v20 (F := Ideal) V0 (ix4 0 0 n 0)) ((wt n.val : ℝ) : EReal) := by
  pointwise [res_main_v20]
  rw [v4_apply, v7_apply, sitofp_small _ (by omega), ← EReal.coe_sub]
  rfl

/-- The weight of each new column. -/
theorem v23_apply (n : Fin 1600) : @Eq EReal (res_main_v23 (F := Ideal) V0 (ix4 0 0 0 n)) ((wt n.val : ℝ) : EReal) := by
  pointwise [res_main_v23]
  rw [v5_apply, v9_apply, sitofp_small _ (by omega), ← EReal.coe_sub]
  rfl

/-- Places as an index column, negative ones wrapped. -/
def wrapped (v : IVec S1600 32) : IVec S1600x1 32 :=
  broadcastInDim S1600x1 ![0] bcast_S1600_S1600x1_0 (select (cmpi .slt v (broadcastInDim S1600 ![] bcast_S_S1600 (constantI S_ 32 0#32))) (addi v (broadcastInDim S1600 ![] bcast_S_S1600 (constantI S_ 32 400#32))) v)

/-- Places inside the table are not wrapped. -/
theorem wrapped_apply (v : IVec S1600 32) (n : Fin 1600) (k : Fin 400) (h : v (ix1 n) = BitVec.ofNat 32 k.val) :
    wrapped v (ix2 n 0) = BitVec.ofNat 32 k.val := by
  pointwise [wrapped]
  rw [h]
  clear h
  revert k
  decide +kernel

/-- Reading rows at given places. -/
theorem rows_apply (X : FVec Ideal S1x1x400x400 .f32) (idx : IVec S1600x1 32) (n : Fin 1600) (j k : Fin 400)
    (h : idx (ix2 n 0) = BitVec.ofNat 32 k.val) :
    Host.gather gather_S1x1x400x400_S1600x1_S1x1x1600x400_013_2_n_n_2_1_111400 X idx (ix4 0 0 n j) = X (ix4 0 0 k j) := by
  have hk := k.isLt
  unfold Host.gather
  refine congrArg X ?_
  funext a
  apply Fin.ext
  match a with
  | ⟨0, _⟩ => rfl
  | ⟨1, _⟩ => rfl
  | ⟨2, _⟩ =>
    show min (idx _).toInt.toNat 399 + 0 + 0 = k.val
    rw [show GatherDims.siIdx gather_S1x1x400x400_S1600x1_S1x1x1600x400_013_2_n_n_2_1_111400 (ix4 0 0 n j) _ = ix2 n 0 from by
      funext b; match b with
      | ⟨0, _⟩ => rfl
      | ⟨1, _⟩ => rfl, h, toInt_small _ (by omega)]
    simp
    omega
  | ⟨3, _⟩ => exact Nat.zero_add _

/-- Reading columns at given places. -/
theorem cols_apply (X : FVec Ideal S1x1x1600x400 .f32) (idx : IVec S1600x1 32) (p n : Fin 1600) (k : Fin 400)
    (h : idx (ix2 n 0) = BitVec.ofNat 32 k.val) :
    Host.gather gather_S1x1x1600x400_S1600x1_S1x1x1600x1600_012_3_n_n_3_1_1116001 X idx (ix4 0 0 p n) = X (ix4 0 0 p k) := by
  have hk := k.isLt
  unfold Host.gather
  refine congrArg X ?_
  funext a
  apply Fin.ext
  match a with
  | ⟨0, _⟩ => rfl
  | ⟨1, _⟩ => rfl
  | ⟨2, _⟩ => exact Nat.zero_add _
  | ⟨3, _⟩ =>
    show min (idx _).toInt.toNat 399 + 0 + 0 = k.val
    rw [show GatherDims.siIdx gather_S1x1x1600x400_S1600x1_S1x1x1600x1600_012_3_n_n_3_1_1116001 (ix4 0 0 p n) _ = ix2 n 0 from by
      funext b; match b with
      | ⟨0, _⟩ => rfl
      | ⟨1, _⟩ => rfl, h, toInt_small _ (by omega)]
    simp
    omega

/-- The similarity with two leading axes. -/
theorem v3_apply (i j : Fin 400) : @Eq EReal (res_main_v3 (F := Ideal) V0 (ix4 0 0 i j)) (conf (a0 V0) (a1 V0) i j) := by
  pointwise [res_main_v3]
  rw [v2_apply]

/-- Its rows at the old rows before. -/
theorem v30_apply (n : Fin 1600) (j : Fin 400) : @Eq EReal (res_main_v30 (F := Ideal) V0 (ix4 0 0 n j)) (conf (a0 V0) (a1 V0) (lo n) j) :=
  (rows_apply (res_main_v3 V0) (wrapped (res_main_v7 V0)) n j (lo n) (wrapped_apply _ n _ (v7_apply V0 n))).trans (v3_apply V0 _ _)

/-- Its rows at the old rows after. -/
theorem v37_apply (n : Fin 1600) (j : Fin 400) : @Eq EReal (res_main_v37 (F := Ideal) V0 (ix4 0 0 n j)) (conf (a0 V0) (a1 V0) (hi n) j) :=
  (rows_apply (res_main_v3 V0) (wrapped (res_main_v13 V0)) n j (hi n) (wrapped_apply _ n _ (v13_apply V0 n))).trans (v3_apply V0 _ _)

/-- What a weight leaves of one. -/
theorem one_sub_wt (n : ℕ) : (1 : EReal) - ((wt n : ℝ) : EReal) = ((1 - wt n : ℝ) : EReal) := by
  rw [← EReal.coe_one, ← EReal.coe_sub]

/-- The first output of the reference: the resized similarity. -/
theorem outConf_apply (p q : Fin 1600) : @Eq EReal (outConf (F := Ideal) V0 (ix4 0 0 p q)) (resized (conf (a0 V0) (a1 V0)) p q) := by
  have e00 := (cols_apply (res_main_v30 V0) (wrapped (res_main_v9 V0)) p q (lo q) (wrapped_apply _ q _ (v9_apply V0 q))).trans (v30_apply V0 p (lo q))
  have e01 := (cols_apply (res_main_v30 V0) (wrapped (res_main_v17 V0)) p q (hi q) (wrapped_apply _ q _ (v17_apply V0 q))).trans (v30_apply V0 p (hi q))
  have e10 := (cols_apply (res_main_v37 V0) (wrapped (res_main_v9 V0)) p q (lo q) (wrapped_apply _ q _ (v9_apply V0 q))).trans (v37_apply V0 p (lo q))
  have e11 := (cols_apply (res_main_v37 V0) (wrapped (res_main_v17 V0)) p q (hi q) (wrapped_apply _ q _ (v17_apply V0 q))).trans (v37_apply V0 p (hi q))
  unfold wrapped at e00 e01 e10 e11
  refine Eq.trans ?_ (resized_eq (conf (a0 V0) (a1 V0)) p q)
  pointwise [outConf]
  simp only [v20_apply, v23_apply, one_sub_wt, e00, e01, e10, e11]

end Cert.ReferenceIdeal.Value

end
-- ==== Proof.Tokens.lean ====
/- The reference's adaptive average over two neighbouring channels, and the two token outputs it gives. -/
module

public import proofs.«01_k».proof.Proof.RefRun
public import proofs.«01_k».proof.Proof.RefMatch

@[expose] public section

set_option maxRecDepth 16384

noncomputable section

namespace Cert.ReferenceIdeal.Value

open Idealize.ShloMosaic Idealize.ShloMosaic.TcCoe Idealize.SL.Sem

open Cert.Matching Cert.ReferenceIdeal.Gen

variable (V0 : Valuation τ sig (Elt Ideal))

/-- The window of output channel `c` starts at channel `c`. -/
theorem v136_apply (k : Fin 257) (c : Fin 256) : @Eq (BitVec 32) (res_main_v136 (F := Ideal) V0 (ix2 k c)) (BitVec.ofNat 32 c.val) := by
  pointwise [res_main_v136, res_main_call5_v0, res_main_call5_v2, res_main_v135, res_main_v133]
  simp only [id_eq]
  pointwise
  revert c
  decide +kernel

/-- And ends before channel `c + 2`. -/
theorem v143_apply (k : Fin 257) (c : Fin 256) : @Eq (BitVec 32) (res_main_v143 (F := Ideal) V0 (ix2 k c)) (BitVec.ofNat 32 (c.val + 2)) := by
  pointwise [res_main_v143, res_main_call6_v0, res_main_call6_v2, res_main_v141, res_main_v133]
  simp only [id_eq]
  pointwise
  revert c
  decide +kernel

/-- The averaging matrix: one half at the window's two channels, zero elsewhere. -/
theorem v151_apply (k : Fin 257) (c : Fin 256) : @Eq EReal (res_main_v151 (F := Ideal) V0 (ix2 k c))
    (if k.val = c.val ∨ k.val = c.val + 1 then ((1 / 2 : ℝ) : EReal) else 0) := by
  pointwise [res_main_v151, res_main_v132]
  simp only [v136_apply, v143_apply, id_eq]
  pointwise
  have hk := k.isLt
  have hc := c.isLt
  have h2 : IntOp.subi (BitVec.ofNat 32 (c.val + 2)) (BitVec.ofNat 32 c.val) = 2#32 := by
    unfold IntOp.subi
    apply BitVec.eq_of_toNat_eq
    simp only [BitVec.toNat_sub, BitVec.toNat_ofNat]
    omega
  rw [h2]
  have h1 : IntOp.cmpi .sle (BitVec.ofNat 32 c.val) (BitVec.ofNat 32 k.val) = BitVec.ofBool (decide (c.val ≤ k.val)) := by
    simp only [IntOp.cmpi, BitVec.sle, toInt_small c.val (by omega), toInt_small k.val (by omega), Nat.cast_le]
  have h3 : IntOp.cmpi .slt (BitVec.ofNat 32 k.val) (BitVec.ofNat 32 (c.val + 2)) = BitVec.ofBool (decide (k.val < c.val + 2)) := by
    simp only [IntOp.cmpi, BitVec.slt, toInt_small (c.val + 2) (by omega), toInt_small k.val (by omega), Nat.cast_lt]
  rw [h1, h3]
  by_cases h : k.val = c.val ∨ k.val = c.val + 1
  · rw [if_pos h, show decide (c.val ≤ k.val) = true from decide_eq_true (by omega),
      show decide (k.val < c.val + 2) = true from decide_eq_true (by omega)]
    have hs : FloatOps.sitofp (F := Ideal) .f32 2#32 = ((2 : ℝ) : EReal) := by
      show (((2#32).toInt : ℝ) : EReal) = _
      rw [show (2#32).toInt = (2 : ℤ) by decide]
      norm_num
    rw [hs]
    show Ideal.div 1 ((2 : ℝ) : EReal) = _
    unfold Ideal.div
    rw [← EReal.coe_inv]
    simp
  · rw [if_neg h]
    have : decide (c.val ≤ k.val) = false ∨ decide (k.val < c.val + 2) = false := by
      simp only [decide_eq_false_iff_not]; omega
    rcases this with h | h <;> rw [h]
    · show Scalar.select (IntOp.andi 0#1 (BitVec.ofBool _)) _ _ = _
      simp [IntOp.andi, Scalar.select]
    · show Scalar.select (IntOp.andi (BitVec.ofBool _) 0#1) _ _ = _
      simp [IntOp.andi, Scalar.select]

/-- A sum against a column of the averaging matrix, the last channel apart, is the mean of the window's two. -/
theorem sum_window (f : Fin 256 → EReal) (t : EReal) (c : Fin 256) :
    ∑ x : Fin 256, f x * (if x.val = c.val ∨ x.val = c.val + 1 then ((1 / 2 : ℝ) : EReal) else 0)
      + t * (if 256 = c.val ∨ 256 = c.val + 1 then ((1 / 2 : ℝ) : EReal) else 0)
      = pair f t c := by
  have hc := c.isLt
  unfold pair
  by_cases h : c.val + 1 < 256
  · rw [dif_pos h, if_neg (by omega), mul_zero, add_zero]
    rw [← Finset.sum_subset (Finset.subset_univ ({c, ⟨c.val + 1, h⟩} : Finset (Fin 256)))]
    · rw [Finset.sum_pair (by intro e; have := congrArg Fin.val e; simp at this)]
      simp [mul_comm]
    · intro x _ hx
      rw [if_neg, mul_zero]
      intro hh
      apply hx
      rcases hh with hh | hh
      · simp [Fin.ext hh]
      · simp [Fin.ext_iff, hh]
  · rw [dif_neg h, if_pos (by omega)]
    rw [Finset.sum_eq_single c]
    · simp [mul_comm]
    · intro x _ hx
      rw [if_neg, mul_zero]
      intro hh
      rcases hh with hh | hh
      · exact hx (Fin.ext hh)
      · have := x.isLt; omega
    · simp

/-- The first token output: the mean of neighbouring channels, the last of them and the best match's place. -/
theorem outF0_apply (i : Fin 400) (c : Fin 256) : @Eq EReal (outF0 (F := Ideal) V0 (ix3 0 i c))
    (pair (a0 V0 i) (place (match0 (a0 V0) (a1 V0) i)) c) := by
  pointwise [outF0]
  simp only [v116_apply, v151_apply]
  rw [← sum_window, Fin.sum_univ_one]
  rfl

/-- The second token output, likewise. -/
theorem outF1_apply (i : Fin 400) (c : Fin 256) : @Eq EReal (outF1 (F := Ideal) V0 (ix3 0 i c))
    (pair (a1 V0 i) (place (match1 (a0 V0) (a1 V0) i)) c) := by
  have h := v117_apply V0 i
  unfold res_main_v117 at h
  pointwise [outF1]
  simp only [h, v151_apply]
  rw [← sum_window, Fin.sum_univ_one]
  rfl

end Cert.ReferenceIdeal.Value

end
-- ==== Proof.RefPool.lean ====
/- The reference's pooled tokens and the third output they give. -/
module

public import proofs.«01_k».proof.Proof.Tokens
public import proofs.«01_k».proof.Proof.PoolSpec

@[expose] public section

set_option maxRecDepth 16384

noncomputable section

namespace Cert.ReferenceIdeal.Value

open Idealize.ShloMosaic Idealize.ShloMosaic.TcCoe Idealize.SL.Sem

open Cert.Matching Cert.ReferenceIdeal.Gen

variable (V0 : Valuation τ sig (Elt Ideal))

/-- The window of output channel `c` starts at channel `2 c`. -/
theorem v156_apply (k : Fin 512) (c : Fin 256) : @Eq (BitVec 32) (res_main_v156 (F := Ideal) V0 (ix2 k c)) (BitVec.ofNat 32 (2 * c.val)) := by
  pointwise [res_main_v156, res_main_call8_v0, res_main_call8_v2, res_main_v155, res_main_v153]
  simp only [id_eq]
  pointwise
  revert c
  decide +kernel

/-- And ends before channel `2 c + 2`. -/
theorem v163_apply (k : Fin 512) (c : Fin 256) : @Eq (BitVec 32) (res_main_v163 (F := Ideal) V0 (ix2 k c)) (BitVec.ofNat 32 (2 * c.val + 2)) := by
  pointwise [res_main_v163, res_main_call9_v0, res_main_call9_v2, res_main_v161, res_main_v153]
  simp only [id_eq]
  pointwise
  revert c
  decide +kernel

/-- The halving matrix. -/
def halves : FVec Ideal S512x256 .f32 :=
  (select (andi (cmpi .sle (res_main_v156 V0) (res_main_v152 V0)) (cmpi .slt (res_main_v152 V0) (res_main_v163 V0))) (Host.divf (broadcastInDim S512x256 ![] bcast_S_S512x256 (constant S_ .f32 0x3F800000#32)) (sitofp .f32 (subi (res_main_v163 V0) (res_main_v156 V0)))) (broadcastInDim S512x256 ![] bcast_S_S512x256 (id (constant S_ .f32 0x00000000#32))))

/-- The halving matrix: one half at the two channels of the pair, zero elsewhere. -/
theorem halves_apply (k : Fin 512) (c : Fin 256) : halves V0 (ix2 k c) = if k.val / 2 = c.val then ((1 / 2 : ℝ) : EReal) else 0 := by
  pointwise [halves, res_main_v152]
  simp only [v156_apply, v163_apply, id_eq]
  pointwise
  have hk := k.isLt
  have hc := c.isLt
  have h2 : IntOp.subi (BitVec.ofNat 32 (2 * c.val + 2)) (BitVec.ofNat 32 (2 * c.val)) = 2#32 := by
    unfold IntOp.subi
    apply BitVec.eq_of_toNat_eq
    simp only [BitVec.toNat_sub, BitVec.toNat_ofNat]
    omega
  rw [h2]
  have h1 : IntOp.cmpi .sle (BitVec.ofNat 32 (2 * c.val)) (BitVec.ofNat 32 k.val) = BitVec.ofBool (decide (2 * c.val ≤ k.val)) := by
    simp only [IntOp.cmpi, BitVec.sle, toInt_small (2 * c.val) (by omega), toInt_small k.val (by omega), Nat.cast_le]
  have h3 : IntOp.cmpi .slt (BitVec.ofNat 32 k.val) (BitVec.ofNat 32 (2 * c.val + 2)) = BitVec.ofBool (decide (k.val < 2 * c.val + 2)) := by
    simp only [IntOp.cmpi, BitVec.slt, toInt_small (2 * c.val + 2) (by omega), toInt_small k.val (by omega), Nat.cast_lt]
  rw [h1, h3]
  by_cases h : k.val / 2 = c.val
  · rw [if_pos h, show decide (2 * c.val ≤ k.val) = true from decide_eq_true (by omega),
      show decide (k.val < 2 * c.val + 2) = true from decide_eq_true (by omega)]
    have hs : FloatOps.sitofp (F := Ideal) .f32 2#32 = ((2 : ℝ) : EReal) := by
      show (((2#32).toInt : ℝ) : EReal) = _
      rw [show (2#32).toInt = (2 : ℤ) by decide]
      norm_num
    rw [hs]
    show Ideal.div 1 ((2 : ℝ) : EReal) = _
    unfold Ideal.div
    rw [← EReal.coe_inv]
    simp
  · rw [if_neg h]
    have : decide (2 * c.val ≤ k.val) = false ∨ decide (k.val < 2 * c.val + 2) = false := by
      simp only [decide_eq_false_iff_not]; omega
    rcases this with h | h <;> rw [h]
    · show Scalar.select (IntOp.andi 0#1 (BitVec.ofBool _)) _ _ = _
      simp [IntOp.andi, Scalar.select]
    · show Scalar.select (IntOp.andi (BitVec.ofBool _) 0#1) _ _ = _
      simp [IntOp.andi, Scalar.select]

/-- The mask of the places that are inside the table. -/
def inside : IVec S400 1 :=
  (Host.reduce IntOp.andi (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32))))) (constantI S_ 1 1#1) reducesTo_S400x1_S400_d1 h_S_)

/-- The tokens of the second set at the best matches of the first. -/
def taken : FVec Ideal S1x400x256 .f32 :=
  Host.gather gather_S1x400x256_S400x1_S1x400x256_02_1_n_n_1_1_11256 (V0 (Proc.devRef .tc main_arg1)) (res_main_call4_v5 V0)

/-- The mean of each token and its match. -/
def mixed : FVec Ideal S1x400x256 .f32 :=
  (mulf (addf (V0 (Proc.devRef .tc main_arg0)) (select (broadcastInDim S1x400x256 ![1] bcast_S400_S1x400x256_1 (inside V0)) (taken V0) (broadcastInDim S1x400x256 ![] bcast_S_S1x400x256 (constant S_ .f32 0x7FC00000#32)))) (broadcastInDim S1x400x256 ![] bcast_S_S1x400x256 (constant S_ .f32 0x3F000000#32)))

/-- The place that is read: the best match, which needs no wrapping. -/
theorem call4_v5_apply (q : Fin 400) : @Eq (BitVec 32) (res_main_call4_v5 (F := Ideal) V0 (ix2 q 0)) (BitVec.ofNat 32 (match0 (a0 V0) (a1 V0) q).val) := by
  pointwise [res_main_call4_v5, res_main_v118]
  simp only [v116_apply]
  generalize match0 (a0 V0) (a1 V0) q = k
  revert k
  decide +kernel

/-- Every place is inside. -/
theorem inside_apply (q : Fin 400) : inside V0 (ix1 q) = 1#1 := by
  have h := reducesTo_S400x1_S400_d1.fold_fiber_r2_a1 (ix1 q) IntOp.andi (1#1) (andi (cmpi .sge (res_main_call4_v5 V0) (broadcastInDim S400x1 ![] bcast_S_S400x1 (constantI S_ 32 0#32))) (cmpi .sle (res_main_call4_v5 V0) (broadcastInDim S400x1 ![0, 1] bcast_S1x1_S400x1_0_1 (broadcastInDim S1x1 ![1] bcast_S1_S1x1_1 (constantI S1 32 399#32)))))
  pointwise [inside]
  refine Eq.trans ?_ (h.trans ?_)
  · rfl
  rw [Finset.univ_unique, Finset.fold_singleton]
  show IntOp.andi (IntOp.andi (IntOp.cmpi .sge (res_main_call4_v5 V0 (ix2 q 0)) 0#32) (IntOp.cmpi .sle (res_main_call4_v5 V0 (ix2 q 0)) 399#32)) 1#1 = 1#1
  rw [call4_v5_apply]
  generalize match0 (a0 V0) (a1 V0) q = k
  revert k
  decide +kernel

/-- The token that is read. -/
theorem taken_apply (q : Fin 400) (c : Fin 256) : taken V0 (ix3 0 q c) = a1 V0 (match0 (a0 V0) (a1 V0) q) c := by
  unfold taken Host.gather a1
  refine congrArg (V0 (Proc.devRef .tc main_arg1)) ?_
  funext a
  apply Fin.ext
  match a with
  | ⟨0, _⟩ => rfl
  | ⟨1, _⟩ =>
    show min (res_main_call4_v5 V0 _).toInt.toNat 399 + 0 + 0 = (match0 (a0 V0) (a1 V0) q).val
    rw [show GatherDims.siIdx gather_S1x400x256_S400x1_S1x400x256_02_1_n_n_1_1_11256 (ix3 0 q c) _ = ix2 q 0 from by
      funext b; match b with
      | ⟨0, _⟩ => rfl
      | ⟨1, _⟩ => rfl, call4_v5_apply, toInt_small _ (by omega)]
    have := (match0 (a0 V0) (a1 V0) q).isLt
    simp
    omega
  | ⟨2, _⟩ => exact Nat.zero_add _

/-- The mean of a token and its match. -/
theorem mixed_apply (q : Fin 400) (c : Fin 256) : mixed V0 (ix3 0 q c) = mix (a0 V0) (a1 V0) q c := by
  pointwise [mixed]
  simp only [inside_apply, taken_apply, ofBits_half]
  rfl

/-- The mean of each cell of two by two tokens, as the reference composes it. -/
def pooled (M : FVec Ideal S1x400x256 .f32) : FVec Ideal S1x100x256 .f32 :=
  (shapeCast _ (transpose S1x10x10x256 [0, 2, 3, 1] (Host.divf (Host.reduceAdd (shapeCast _ (transpose S1x256x20x20 [0, 3, 1, 2] (shapeCast _ M shapeCasts_S1x400x256_S1x20x20x256) transposes_S1x20x20x256_S1x256x20x20_0_3_1_2) shapeCasts_S1x256x20x20_S1x256x10x2x10x2) (constant S_ .f32 0x00000000#32) reducesTo_S1x256x10x2x10x2_S1x256x10x10_d3_5 h_S_) (broadcastInDim S1x256x10x10 ![] bcast_S_S1x256x10x10 (constant S_ .f32 0x40800000#32))) transposes_S1x256x10x10_S1x10x10x256_0_2_3_1) shapeCasts_S1x10x10x256_S1x100x256)

/-- A sum over the entries of one cell is the sum over its two rows and two columns. -/
theorem sum_cell (c : Fin 256) (y x : Fin 10) (v : S1x256x10x2x10x2.Idx → EReal) :
    ∑ i ∈ Finset.univ.filter (fun i => reducesTo_S1x256x10x2x10x2_S1x256x10x10_d3_5.drop i = ix4 0 c y x), v i
      = ∑ a : Fin 2, ∑ b : Fin 2, v (ix6 0 c y a x b) := by
  refine (Finset.sum_filter_eq_sum_of_fiber _ (fun k : Fin 2 × Fin 2 => (ix6 0 c y k.1 x k.2 : S1x256x10x2x10x2.Idx))
    (fun _ _ e => Prod.ext (congrFun e 3) (congrFun e 5)) (fun i => ?_) v).trans ?_
  · constructor
    · intro e
      refine ⟨(i 3, i 5), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨k, rfl⟩
      funext b
      apply Fin.ext
      match b with
      | ⟨0, _⟩ => rfl
      | ⟨1, _⟩ => rfl
      | ⟨2, _⟩ => rfl
      | ⟨3, _⟩ => rfl
  · simp only [Fintype.sum_prod_type]

/-- A pooled token: the four tokens of its cell, summed and divided by four. -/
theorem pooled_apply (M : FVec Ideal S1x400x256 .f32) (p : Fin 100) (c : Fin 256) :
    pooled M (ix3 0 p c) = pool (fun q => M (ix3 0 q c)) p := by
  pointwise [pooled]
  unfold Ideal.hostReduceAdd
  rw [sum_cell]
  pointwise
  rw [ofBits_four]
  unfold Ideal.div Cert.Matching.pool
  rw [if_neg (by exact_mod_cast (by norm_num : (4 : ℝ) ≠ 0)), ← EReal.coe_inv, show (4 : ℝ)⁻¹ = 1 / 4 from (one_div 4).symm]
  rfl

/-- The third output of the reference, its parts named. -/
theorem outT32_eq : outT32 (F := Ideal) V0 =
    shapeCast _ (broadcastInDim S1x100x1x256 ![0, 1, 3] bcast_S1x100x256_S1x100x1x256_0_1_3 (Host.dotGeneral dot_S1x100x512_S512x256_S1x100x256_2_0_01_1_n_n none (concatenate S1x100x512 2 [⟨S1x100x256, (V0 (Proc.devRef .tc main_arg7))⟩, ⟨S1x100x256, pooled (mixed V0)⟩] concatenates_S1x100x256_S1x100x256_S1x100x512_d2) (halves V0))) shapeCasts_S1x100x1x256_S100x1x256 := rfl

/-- The third output of the reference. -/
theorem outT32_apply (p : Fin 100) (c : Fin 256) : @Eq EReal (outT32 (F := Ideal) V0 (ix3 p 0 c))
    (paired (fun x => V0 (Proc.devRef .tc main_arg7) (ix3 0 p x)) (fun x => pool (fun q => mix (a0 V0) (a1 V0) q x) p) c) := by
  rw [outT32_eq]
  obtain ⟨W, hW⟩ : ∃ W : FVec Ideal S512x256 .f32, halves V0 = W := ⟨_, rfl⟩
  obtain ⟨M, hM⟩ : ∃ M : FVec Ideal S1x100x256 .f32, pooled (mixed V0) = M := ⟨_, rfl⟩
  rw [hW, hM]
  pointwise
  subst hW hM
  simp only [halves_apply, pooled_apply, mixed_apply]
  unfold paired
  refine congrArg₂ (· + ·) (Finset.sum_congr rfl fun x _ => ?_) (Finset.sum_congr rfl fun x _ => ?_)
  · by_cases h : x.val / 2 = c.val
    · rw [if_pos h, if_pos h]
    · rw [if_neg h, if_neg h, mul_zero]
  · by_cases h : x.val / 2 + 128 = c.val
    · rw [if_pos h, if_pos (by omega)]
    · rw [if_neg h, if_neg (by omega), mul_zero]

end Cert.ReferenceIdeal.Value

end
-- ==== Proof.RefFinal.lean ====
/- What the reference's result arrays hold after the run. -/
module

public import proofs.«01_k».proof.Proof.RefResize
public import proofs.«01_k».proof.Proof.RefPool
public import proofs.«01_k».proof.Proof.Tokens
public import Idealize.ShloMosaic.Lib.Pipeline.ValueKit

@[expose] public section

set_option maxRecDepth 16384

noncomputable section

namespace Cert.ReferenceIdeal.Value

open Idealize.ShloMosaic Idealize.ShloMosaic.TcCoe Idealize.SL.Sem

open Cert.Matching

variable (V0 : Valuation τ sig (Elt Ideal))

/-- Row `p` of the given coarse tokens, as launched. -/
def a7 (p : Fin 100) (x : Fin 256) : EReal := V0 (Proc.devRef .tc main_arg7) (ix3 0 p x)

/-- The first result as a whole. -/
theorem outConf_whole : outConf (F := Ideal) V0 = fun j : S1x1x1600x1600.Idx => resized (conf (a0 V0) (a1 V0)) (j 2) (j 3) := by
  funext j
  idx_vars j
  obtain rfl : j0 = 0 := Subsingleton.elim _ _
  obtain rfl : j1 = 0 := Subsingleton.elim _ _
  exact outConf_apply V0 j2 j3

/-- The second result as a whole. -/
theorem outF0_whole : outF0 (F := Ideal) V0 = fun j : S1x400x256.Idx => pair (a0 V0 (j 1)) (place (match0 (a0 V0) (a1 V0) (j 1))) (j 2) := by
  funext j
  idx_vars j
  obtain rfl : j0 = 0 := Subsingleton.elim _ _
  exact outF0_apply V0 j1 j2

/-- The third result as a whole. -/
theorem outF1_whole : outF1 (F := Ideal) V0 = fun j : S1x400x256.Idx => pair (a1 V0 (j 1)) (place (match1 (a0 V0) (a1 V0) (j 1))) (j 2) := by
  funext j
  idx_vars j
  obtain rfl : j0 = 0 := Subsingleton.elim _ _
  exact outF1_apply V0 j1 j2

/-- The fourth result as a whole. -/
theorem outT32_whole : outT32 (F := Ideal) V0
    = fun j : S100x1x256.Idx => paired (a7 V0 (j 0)) (fun x => Cert.Matching.pool (fun q => mix (a0 V0) (a1 V0) q x) (j 0)) (j 2) := by
  funext j
  idx_vars j
  obtain rfl : j1 = 0 := Subsingleton.elim _ _
  exact outT32_apply V0 j0 j2

end Cert.ReferenceIdeal.Value

end
-- ==== Proof.lean ====
/- The claims, assembled from the modules beside this file: the two kernel programs' frames are proved in
   `KernelFrame` and `Launched`, the reference's run in `RefRun`,
   and the two programs' results in `KRun` and `RefFinal`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Launched
public import proofs.«01_k».proof.Proof.Gen.ReferenceIdeal
public import proofs.«01_k».proof.Proof.RefRun
public import proofs.«01_k».proof.Proof.KRun
public import proofs.«01_k».proof.Proof.RefFinal
public import Idealize.ShloMosaic.Adequacy
public import Idealize.ShloMosaic.Init

@[expose] public section

noncomputable section

namespace Cert.Proof

open Idealize.ShloMosaic Idealize.SL.Sem Cert.Kernel

/-- The reference terminates, leaves its arguments as they were, and has no semaphore to leave anything on. -/
theorem frame_r : Cert.quiescent_ReferenceIdeal (hReferenceIdeal := Cert.ReferenceIdeal.Gen.facts) := fun m g _ =>
  letI := Cert.ReferenceIdeal.Gen.facts
  (θ_run (Cert.ReferenceIdeal.defs (F := Ideal)) _ _).mono
    (fun r h => ⟨fun c => (h c).2.2.2.2, sem_eq_zero_of_no_sems (by decide) r.2⟩)
    (Cert.ReferenceIdeal.Value.run m g)

/-- The constant that the idealized kernel names has the value that the claim states. -/
theorem preserves : Cert.preserves_Kernel_KernelIdeal :=
  IdealRules.named_const.statement Cert.KernelIdeal.κ "delta" .f32 0x3E7F850B#32 ((133 / 533 : ℝ) : EReal) rfl

/-- From memories that agree on the arguments both programs end with the same four results. -/
theorem algebraic : Cert.algebraic_KernelIdeal_ReferenceIdeal (hKernelIdeal := Cert.KernelIdeal.Gen.facts)
    (hReferenceIdeal := Cert.ReferenceIdeal.Gen.facts) := by
  letI := Cert.KernelIdeal.Gen.facts
  letI := Cert.ReferenceIdeal.Gen.facts
  intro m g m' g' _ hagree
  have h0 : ∀ c, Cert.ReferenceIdeal.Value.a0 (StableHlo.launchContents m' c) = Cert.KernelIdeal.Value.A0 m c :=
    fun c => funext fun i => funext fun x => congrFun (hagree c).1 (ix3 0 i x)
  have h1 : ∀ c, Cert.ReferenceIdeal.Value.a1 (StableHlo.launchContents m' c) = Cert.KernelIdeal.Value.A1 m c :=
    fun c => funext fun i => funext fun x => congrFun (hagree c).2.1 (ix3 0 i x)
  have h7 : ∀ c, Cert.ReferenceIdeal.Value.a7 (StableHlo.launchContents m' c) = Cert.KernelIdeal.Value.A7 m c :=
    fun c => funext fun p => funext fun x => congrFun (hagree c).2.2.2.2.2.2.2.1 (ix3 0 p x)
  refine ⟨_, _, _, _, (θ_run (Cert.KernelIdeal.defs (F := Ideal)) _ _).mono
      (fun r h c => ⟨(h.1 c).1, (h.1 c).2.1, (h.1 c).2.2.1, (h.1 c).2.2.2, h.2.1 c⟩)
      (θ_run_and (Cert.KernelIdeal.Value.run m g) (Cert.KernelIdeal.Gen.frame m g)),
    (θ_run (Cert.ReferenceIdeal.defs (F := Ideal)) _ _).mono
      (fun r h c => ⟨(h c).1.trans ?_, (h c).2.1.trans ?_, (h c).2.2.1.trans ?_, (h c).2.2.2.1.trans ?_, (h c).2.2.2.2⟩)
      (Cert.ReferenceIdeal.Value.run m' g')⟩
  · rw [Cert.ReferenceIdeal.Value.outConf_whole, h0, h1]
  · rw [Cert.ReferenceIdeal.Value.outF0_whole, h0, h1]
  · rw [Cert.ReferenceIdeal.Value.outF1_whole, h0, h1]
  · rw [Cert.ReferenceIdeal.Value.outT32_whole, h0, h1, h7]

/-- Every claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_r, preserves, algebraic⟩

end Cert.Proof

end
